-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16x512x2048 : Shape := ⟨3, ![16, 512, 2048]⟩
abbrev S16 : Shape := ⟨1, ![16]⟩
abbrev S_ : Shape := ⟨0, ![]⟩
abbrev S2048x768 : Shape := ⟨2, ![2048, 768]⟩
abbrev S768 : Shape := ⟨1, ![768]⟩
abbrev S29x768 : Shape := ⟨2, ![29, 768]⟩
abbrev S768x29 : Shape := ⟨2, ![768, 29]⟩
abbrev S29 : Shape := ⟨1, ![29]⟩

class Facts : Prop where
  bcast_S_S16x512x2048 : S_.BroadcastsInDim S16x512x2048 (![] : Fin 0 → Fin S16x512x2048.rank)
  reducesTo_S16x512x2048_S_d0_1_2 : S16x512x2048.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S768 : S_.BroadcastsInDim S768 (![] : Fin 0 → Fin S768.rank)
  reducesTo_S768_S_d0 : S768.ReducesTo [0] S_
  bcast_S_S29x768 : S_.BroadcastsInDim S29x768 (![] : Fin 0 → Fin S29x768.rank)
  reducesTo_S29x768_S_d0_1 : S29x768.ReducesTo [0, 1] S_
  bcast_S_S768x29 : S_.BroadcastsInDim S768x29 (![] : Fin 0 → Fin S768x29.rank)
  reducesTo_S768x29_S_d0_1 : S768x29.ReducesTo [0, 1] S_
  bcast_S_S29 : S_.BroadcastsInDim S29 (![] : Fin 0 → Fin S29.rank)
  reducesTo_S29_S_d0 : S29.ReducesTo [0] S_

variable [Facts]

def fn_part2 {F : FTy → Type} [FloatOps F] (main_arg2 : IVec S_ 32) (main_v33 : IVec S_ 1) : IVec S_ 1 :=
  let main_c_12 : IVec S_ 32 := constantI S_ 32 5#32
  let main_v34 : IVec S_ 1 := cmpi .eq main_arg2 main_c_12
  let main_v35 : IVec S_ 1 := andi main_v33 main_v34
  main_v35

def fn_part1 {F : FTy → Type} [FloatOps F] (main_arg2 : IVec S_ 32) (main_arg6 : FVec F S768 .f32) (main_arg7 : FVec F S768x29 .f32) (main_arg8 : FVec F S29 .f32) (main_v13 : IVec S_ 1) (main_v16 : IVec S29x768 1) : IVec S_ 1 :=
  let main_c_5 : IVec S_ 1 := constantI S_ 1 1#1
  let main_v17 : IVec S_ 1 := (fun x v => Host.reduce IntOp.andi x v reducesTo_S29x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x29 .f32 := Host.absf main_arg7
  let main_cst_8 : FVec F S_ .f32 := constant S_ .f32 0x7F800000#32
  let main_v25 : FVec F S768x29 .f32 := broadcastInDim S768x29 ![] bcast_S_S768x29 main_cst_8
  let main_v26 : IVec S768x29 1 := cmpf .olt main_v24 main_v25
  let main_c_9 : IVec S_ 1 := constantI S_ 1 1#1
  let main_v27 : IVec S_ 1 := (fun x v => Host.reduce IntOp.andi x v reducesTo_S768x29_S_d0_1 h_S_) main_v26 main_c_9
  let main_v28 : IVec S_ 1 := andi main_v23 main_v27
  let main_v29 : FVec F S29 .f32 := Host.absf main_arg8
  let main_cst_10 : FVec F S_ .f32 := constant S_ .f32 0x7F800000#32
  let main_v30 : FVec F S29 .f32 := broadcastInDim S29 ![] bcast_S_S29 main_cst_10
  let main_v31 : IVec S29 1 := cmpf .olt main_v29 main_v30
  let main_c_11 : IVec S_ 1 := constantI S_ 1 1#1
  let main_v32 : IVec S_ 1 := (fun x v => Host.reduce IntOp.andi x v reducesTo_S29_S_d0 h_S_) main_v31 main_c_11
  let main_v33 : IVec S_ 1 := andi main_v28 main_v32
  fn_part2 (F := F) main_arg2 main_v33

def fn {F : FTy → Type} [FloatOps F] (main_arg0 : FVec F S16x512x2048 .f32) (main_arg1 : IVec S16 32) (main_arg2 : IVec S_ 32) (main_arg3 : FVec F S2048x768 .f32) (main_arg4 : FVec F S768 .f32) (main_arg5 : FVec F S29x768 .f32) (main_arg6 : FVec F S768 .f32) (main_arg7 : FVec F S768x29 .f32) (main_arg8 : FVec F S29 .f32) : IVec S_ 1 :=
  let main_v0 : FVec F S16x512x2048 .f32 := Host.absf main_arg0
  let main_cst : FVec F S_ .f32 := constant S_ .f32 0x7F800000#32
  let main_v1 : FVec F S16x512x2048 .f32 := broadcastInDim S16x512x2048 ![] bcast_S_S16x512x2048 main_cst
  let main_v2 : IVec S16x512x2048 1 := cmpf .olt main_v0 main_v1
  let main_c : IVec S_ 1 := constantI S_ 1 1#1
  let main_v3 : IVec S_ 1 := (fun x v => Host.reduce IntOp.andi x v reducesTo_S16x512x2048_S_d0_1_2 h_S_) main_v2 main_c
  let main_v4 : FVec F S2048x768 .f32 := Host.absf main_arg3
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S29x768 .f32 := Host.absf main_arg5
  let main_cst_4 : FVec F S_ .f32 := constant S_ .f32 0x7F800000#32
  let main_v15 : FVec F S29x768 .f32 := broadcastInDim S29x768 ![] bcast_S_S29x768 main_cst_4
  let main_v16 : IVec S29x768 1 := cmpf .olt main_v14 main_v15
  fn_part1 (F := F) main_arg2 main_arg6 main_arg7 main_arg8 main_v13 main_v16
-- ==== Kernel.lean ====
abbrev S16x512x2048 : Shape := ⟨3, ![16, 512, 2048]⟩
abbrev S16 : Shape := ⟨1, ![16]⟩
abbrev S_ : Shape := ⟨0, ![]⟩
abbrev S2048x768 : Shape := ⟨2, ![2048, 768]⟩
abbrev S768 : Shape := ⟨1, ![768]⟩
abbrev S29x768 : Shape := ⟨2, ![29, 768]⟩
abbrev S768x29 : Shape := ⟨2, ![768, 29]⟩
abbrev S29 : Shape := ⟨1, ![29]⟩
abbrev S8192x2048 : Shape := ⟨2, ![8192, 2048]⟩
abbrev S1x768 : Shape := ⟨2, ![1, 768]⟩
abbrev S32x8192 : Shape := ⟨2, ![32, 8192]⟩
abbrev S8192x32 : Shape := ⟨2, ![8192, 32]⟩
abbrev S1024x2048 : Shape := ⟨2, ![1024, 2048]⟩
abbrev S32x1024 : Shape := ⟨2, ![32, 1024]⟩
abbrev S1024x32 : Shape := ⟨2, ![1024, 32]⟩
abbrev S2048x64 : Shape := ⟨2, ![2048, 64]⟩
abbrev S1x64 : Shape := ⟨2, ![1, 64]⟩
abbrev S2048x29 : Shape := ⟨2, ![2048, 29]⟩
abbrev S2048x1 : Shape := ⟨2, ![2048, 1]⟩
abbrev S2048x2 : Shape := ⟨2, ![2048, 2]⟩
abbrev S2048x3 : Shape := ⟨2, ![2048, 3]⟩
abbrev S1x29 : Shape := ⟨2, ![1, 29]⟩
abbrev S1x1 : Shape := ⟨2, ![1, 1]⟩
abbrev S1x2 : Shape := ⟨2, ![1, 2]⟩
abbrev S1x3 : Shape := ⟨2, ![1, 3]⟩
abbrev S2048x32 : Shape := ⟨2, ![2048, 32]⟩
abbrev S1x32 : Shape := ⟨2, ![1, 32]⟩
abbrev S32x1 : Shape := ⟨2, ![32, 1]⟩
abbrev S16x1 : Shape := ⟨2, ![16, 1]⟩
abbrev S16x16 : Shape := ⟨2, ![16, 16]⟩
abbrev S3 : Shape := ⟨1, ![3]⟩
abbrev S32 : Shape := ⟨1, ![32]⟩
abbrev S32x512 : Shape := ⟨2, ![32, 512]⟩
abbrev S512x32 : Shape := ⟨2, ![512, 32]⟩
abbrev S1x16 : Shape := ⟨2, ![1, 16]⟩
abbrev S1 : Shape := ⟨1, ![1]⟩
abbrev S16x512x32 : Shape := ⟨3, ![16, 512, 32]⟩
abbrev S16x512x29 : Shape := ⟨3, ![16, 512, 29]⟩
abbrev S16x512x512 : Shape := ⟨3, ![16, 512, 512]⟩
abbrev S16x64x32 : Shape := ⟨3, ![16, 64, 32]⟩
abbrev S16x64x29 : Shape := ⟨3, ![16, 64, 29]⟩
abbrev S16x64x512 : Shape := ⟨3, ![16, 64, 512]⟩
abbrev S16x64x1 : Shape := ⟨3, ![16, 64, 1]⟩
abbrev S16x64 : Shape := ⟨2, ![16, 64]⟩
abbrev S16x1x1 : Shape := ⟨3, ![16, 1, 1]⟩
abbrev S16x1x32 : Shape := ⟨3, ![16, 1, 32]⟩
abbrev S16x32 : Shape := ⟨2, ![16, 32]⟩
abbrev S16x224 : Shape := ⟨2, ![16, 224]⟩
abbrev S16x256 : Shape := ⟨2, ![16, 256]⟩
abbrev S16x1x256 : Shape := ⟨3, ![16, 1, 256]⟩

abbrev nBuf : Table → Nat
  | .hbm => 26
  | .local .tc .vmem => 22
  | .local .scVector .vmem => 6
  | _ => 0

abbrev bufTy : (tb : Table) → Fin (nBuf tb) → BufTy
  | .hbm, ⟨0, _⟩ => ⟨S16x512x2048, .f32⟩
  | .hbm, ⟨1, _⟩ => ⟨S16, .i32⟩
  | .hbm, ⟨2, _⟩ => ⟨S_, .i32⟩
  | .hbm, ⟨3, _⟩ => ⟨S2048x768, .f32⟩
  | .hbm, ⟨4, _⟩ => ⟨S768, .f32⟩
  | .hbm, ⟨5, _⟩ => ⟨S29x768, .f32⟩
  | .hbm, ⟨6, _⟩ => ⟨S768, .f32⟩
  | .hbm, ⟨7, _⟩ => ⟨S768x29, .f32⟩
  | .hbm, ⟨8, _⟩ => ⟨S29, .f32⟩
  | .hbm, ⟨9, _⟩ => ⟨S8192x2048, .f32⟩
  | .hbm, ⟨10, _⟩ => ⟨S1x768, .f32⟩
  | .hbm, ⟨11, _⟩ => ⟨S1x768, .f32⟩
  | .hbm, ⟨12, _⟩ => ⟨S32x8192, .f32⟩
  | .hbm, ⟨13, _⟩ => ⟨S8192x32, .f32⟩
  | .hbm, ⟨14, _⟩ => ⟨S16x1, .i32⟩
  | .hbm, ⟨15, _⟩ => ⟨S16x16, .i32⟩
  | .hbm, ⟨16, _⟩ => ⟨S_, .f32⟩
  | .hbm, ⟨17, _⟩ => ⟨S3, .f32⟩
  | .hbm, ⟨18, _⟩ => ⟨S32, .f32⟩
  | .hbm, ⟨19, _⟩ => ⟨S8192x32, .f32⟩
  | .hbm, ⟨20, _⟩ => ⟨S8192x32, .f32⟩
  | .hbm, ⟨21, _⟩ => ⟨S16x1, .i32⟩
  | .hbm, ⟨22, _⟩ => ⟨S16x512x32, .f32⟩
  | .hbm, ⟨23, _⟩ => ⟨S16x512x32, .f32⟩
  | .hbm, ⟨24, _⟩ => ⟨S16x512x29, .f32⟩
  | .hbm, ⟨25, _⟩ => ⟨S16x512x512, .f32⟩
  | .local .tc .vmem, ⟨0, _⟩ => ⟨S1024x2048, .f32⟩
  | .local .tc .vmem, ⟨1, _⟩ => ⟨S1024x2048, .f32⟩
  | .local .tc .vmem, ⟨2, _⟩ => ⟨S2048x768, .f32⟩
  | .local .tc .vmem, ⟨3, _⟩ => ⟨S1x768, .f32⟩
  | .local .tc .vmem, ⟨4, _⟩ => ⟨S29x768, .f32⟩
  | .local .tc .vmem, ⟨5, _⟩ => ⟨S1x768, .f32⟩
  | .local .tc .vmem, ⟨6, _⟩ => ⟨S768x29, .f32⟩
  | .local .tc .vmem, ⟨7, _⟩ => ⟨S32x1024, .f32⟩
  | .local .tc .vmem, ⟨8, _⟩ => ⟨S32x1024, .f32⟩
  | .local .tc .vmem, ⟨9, _⟩ => ⟨S1024x32, .f32⟩
  | .local .tc .vmem, ⟨10, _⟩ => ⟨S1024x32, .f32⟩
  | .local .tc .vmem, ⟨11, _⟩ => ⟨S2048x64, .f32⟩
  | .local .tc .vmem, ⟨12, _⟩ => ⟨S1x64, .f32⟩
  | .local .tc .vmem, ⟨13, _⟩ => ⟨S16x64x32, .f32⟩
  | .local .tc .vmem, ⟨14, _⟩ => ⟨S16x64x32, .f32⟩
  | .local .tc .vmem, ⟨15, _⟩ => ⟨S16x64x32, .f32⟩
  | .local .tc .vmem, ⟨16, _⟩ => ⟨S16x64x32, .f32⟩
  | .local .tc .vmem, ⟨17, _⟩ => ⟨S16x1, .i32⟩
  | .local .tc .vmem, ⟨18, _⟩ => ⟨S16x64x29, .f32⟩
  | .local .tc .vmem, ⟨19, _⟩ => ⟨S16x64x29, .f32⟩
  | .local .tc .vmem, ⟨20, _⟩ => ⟨S16x64x512, .f32⟩
  | .local .tc .vmem, ⟨21, _⟩ => ⟨S16x64x512, .f32⟩
  | .local .scVector .vmem, ⟨0, _⟩ => ⟨S32x512, .f32⟩
  | .local .scVector .vmem, ⟨1, _⟩ => ⟨S512x32, .f32⟩
  | .local .scVector .vmem, ⟨2, _⟩ => ⟨S16, .i32⟩
  | .local .scVector .vmem, ⟨3, _⟩ => ⟨S32, .f32⟩
  | .local .scVector .vmem, ⟨4, _⟩ => ⟨S512x32, .f32⟩
  | .local .scVector .vmem, ⟨5, _⟩ => ⟨S512x32, .f32⟩
  | _, _ => ⟨S16x512x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v3_0_scv : Ref sig .scVector := ⟨.hbm, 12, rfl⟩
abbrev main_v3_1_scv : Ref sig .scVector := ⟨.hbm, 13, rfl⟩
abbrev main_v5_scv : Ref sig .scVector := ⟨.hbm, 15, rfl⟩
abbrev main_v7_scv : Ref sig .scVector := ⟨.hbm, 18, rfl⟩
abbrev main_v8_0_scv : Ref sig .scVector := ⟨.hbm, 19, rfl⟩
abbrev main_v8_1_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S29x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x29 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let c0_i32_22_r0 : BitVec 32 := 0#32
  let arg1 : BitVec 32 := BitVec.ofNat 32 (i 1).val
  let c512_i32 : BitVec 32 := 512#32
  let v3 : BitVec 32 := Scalar.muli arg1 c512_i32
  ![0, v3.toNat]
def k1_off2 (i : grid1.Coords) : Fin 2 → Nat :=
  let arg1 : BitVec 32 := BitVec.ofNat 32 (i 1).val
  let c512_i32_1 : BitVec 32 := 512#32
  let v4 : BitVec 32 := Scalar.muli arg1 c512_i32_1
  let c0_i32_22_r1 : BitVec 32 := 0#32
  ![v4.toNat, 0]
def k1_off3 (i : grid1.Coords) : Fin 2 → Nat :=
  let arg1 : BitVec 32 := BitVec.ofNat 32 (i 1).val
  let c0_i32_22_r2 : BitVec 32 := 0#32
  ![arg1.toNat, 0]
@[reducible] def k1_t1_loop : Scf.Loop 32 :=
  let c0_i32_7 : BitVec 32 := 0#32
  let c11_i32 : BitVec 32 := 11#32
  let v19 : BitVec 32 := Scalar.addi c0_i32_7 c11_i32
  let c1_i32 : BitVec 32 := 1#32
  ⟨c0_i32_7, v19, c1_i32⟩
def k1_mult1 (k1_t1 : Fin k1_t1_loop.trips) : BitVec 32 :=
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  v49
def k1_mult2 (k1_t1 : Fin k1_t1_loop.trips) : BitVec 32 :=
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  v51
def k1_off4 (k1_t1 : Fin k1_t1_loop.trips) : Fin 2 → Nat :=
  let c29_i32 : BitVec 32 := 29#32
  let v120 : Index := Scalar.indexCast c29_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v121 : Index := Scalar.indexCast v50
  ![29, v121.toNat]
def k1_off5 (k1_t1 : Fin k1_t1_loop.trips) : Fin 2 → Nat :=
  let c0_i32_32 : BitVec 32 := 0#32
  let v124 : Index := Scalar.indexCast c0_i32_32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v125 : Index := Scalar.indexCast v50
  ![0, v125.toNat]
def k1_off6 (k1_t1 : Fin k1_t1_loop.trips) : Fin 2 → Nat :=
  let c1_i32_33 : BitVec 32 := 1#32
  let v130 : Index := Scalar.indexCast c1_i32_33
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v131 : Index := Scalar.indexCast v50
  ![1, v131.toNat]
def k1_off7 (k1_t1 : Fin k1_t1_loop.trips) : Fin 2 → Nat :=
  let c2_i32 : BitVec 32 := 2#32
  let v136 : Index := Scalar.indexCast c2_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v137 : Index := Scalar.indexCast v50
  ![2, v137.toNat]
def k1_off8 (k1_t1 : Fin k1_t1_loop.trips) : Fin 2 → Nat :=
  let c3_i32 : BitVec 32 := 3#32
  let v142 : Index := Scalar.indexCast c3_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v143 : Index := Scalar.indexCast v50
  ![3, v143.toNat]
def k1_off9 (k1_t1 : Fin k1_t1_loop.trips) : Fin 2 → Nat :=
  let c4_i32 : BitVec 32 := 4#32
  let v148 : Index := Scalar.indexCast c4_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v149 : Index := Scalar.indexCast v50
  ![4, v149.toNat]
def k1_off10 (k1_t1 : Fin k1_t1_loop.trips) : Fin 2 → Nat :=
  let c5_i32_34 : BitVec 32 := 5#32
  let v154 : Index := Scalar.indexCast c5_i32_34
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v155 : Index := Scalar.indexCast v50
  ![5, v155.toNat]
def k1_off11 (k1_t1 : Fin k1_t1_loop.trips) : Fin 2 → Nat :=
  let c6_i32 : BitVec 32 := 6#32
  let v160 : Index := Scalar.indexCast c6_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v161 : Index := Scalar.indexCast v50
  ![6, v161.toNat]
def k1_off12 (k1_t1 : Fin k1_t1_loop.trips) : Fin 2 → Nat :=
  let c7_i32 : BitVec 32 := 7#32
  let v166 : Index := Scalar.indexCast c7_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v167 : Index := Scalar.indexCast v50
  ![7, v167.toNat]
def k1_off13 (k1_t1 : Fin k1_t1_loop.trips) : Fin 2 → Nat :=
  let c8_i32 : BitVec 32 := 8#32
  let v172 : Index := Scalar.indexCast c8_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v173 : Index := Scalar.indexCast v50
  ![8, v173.toNat]
def k1_off14 (k1_t1 : Fin k1_t1_loop.trips) : Fin 2 → Nat :=
  let c9_i32 : BitVec 32 := 9#32
  let v178 : Index := Scalar.indexCast c9_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v179 : Index := Scalar.indexCast v50
  ![9, v179.toNat]
def k1_off15 (k1_t1 : Fin k1_t1_loop.trips) : Fin 2 → Nat :=
  let c10_i32_35 : BitVec 32 := 10#32
  let v184 : Index := Scalar.indexCast c10_i32_35
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v185 : Index := Scalar.indexCast v50
  ![10, v185.toNat]
def k1_off16 (k1_t1 : Fin k1_t1_loop.trips) : Fin 2 → Nat :=
  let c11_i32_36 : BitVec 32 := 11#32
  let v190 : Index := Scalar.indexCast c11_i32_36
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v191 : Index := Scalar.indexCast v50
  ![11, v191.toNat]
def k1_off17 (k1_t1 : Fin k1_t1_loop.trips) : Fin 2 → Nat :=
  let c12_i32_37 : BitVec 32 := 12#32
  let v196 : Index := Scalar.indexCast c12_i32_37
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v197 : Index := Scalar.indexCast v50
  ![12, v197.toNat]
def k1_off18 (k1_t1 : Fin k1_t1_loop.trips) : Fin 2 → Nat :=
  let c13_i32 : BitVec 32 := 13#32
  let v202 : Index := Scalar.indexCast c13_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v203 : Index := Scalar.indexCast v50
  ![13, v203.toNat]
def k1_off19 (k1_t1 : Fin k1_t1_loop.trips) : Fin 2 → Nat :=
  let c14_i32 : BitVec 32 := 14#32
  let v208 : Index := Scalar.indexCast c14_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v209 : Index := Scalar.indexCast v50
  ![14, v209.toNat]
def k1_off20 (k1_t1 : Fin k1_t1_loop.trips) : Fin 2 → Nat :=
  let c15_i32 : BitVec 32 := 15#32
  let v214 : Index := Scalar.indexCast c15_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v215 : Index := Scalar.indexCast v50
  ![15, v215.toNat]
def k1_off21 (k1_t1 : Fin k1_t1_loop.trips) : Fin 2 → Nat :=
  let c16_i32_38 : BitVec 32 := 16#32
  let v220 : Index := Scalar.indexCast c16_i32_38
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v221 : Index := Scalar.indexCast v50
  ![16, v221.toNat]
def k1_off22 (k1_t1 : Fin k1_t1_loop.trips) : Fin 2 → Nat :=
  let c17_i32 : BitVec 32 := 17#32
  let v226 : Index := Scalar.indexCast c17_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v227 : Index := Scalar.indexCast v50
  ![17, v227.toNat]
def k1_off23 (k1_t1 : Fin k1_t1_loop.trips) : Fin 2 → Nat :=
  let c18_i32 : BitVec 32 := 18#32
  let v232 : Index := Scalar.indexCast c18_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v233 : Index := Scalar.indexCast v50
  ![18, v233.toNat]
def k1_off24 (k1_t1 : Fin k1_t1_loop.trips) : Fin 2 → Nat :=
  let c19_i32 : BitVec 32 := 19#32
  let v238 : Index := Scalar.indexCast c19_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v239 : Index := Scalar.indexCast v50
  ![19, v239.toNat]
def k1_off25 (k1_t1 : Fin k1_t1_loop.trips) : Fin 2 → Nat :=
  let c20_i32 : BitVec 32 := 20#32
  let v244 : Index := Scalar.indexCast c20_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v245 : Index := Scalar.indexCast v50
  ![20, v245.toNat]
def k1_off26 (k1_t1 : Fin k1_t1_loop.trips) : Fin 2 → Nat :=
  let c21_i32 : BitVec 32 := 21#32
  let v250 : Index := Scalar.indexCast c21_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v251 : Index := Scalar.indexCast v50
  ![21, v251.toNat]
def k1_off27 (k1_t1 : Fin k1_t1_loop.trips) : Fin 2 → Nat :=
  let c22_i32 : BitVec 32 := 22#32
  let v256 : Index := Scalar.indexCast c22_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v257 : Index := Scalar.indexCast v50
  ![22, v257.toNat]
def k1_off28 (k1_t1 : Fin k1_t1_loop.trips) : Fin 2 → Nat :=
  let c23_i32 : BitVec 32 := 23#32
  let v262 : Index := Scalar.indexCast c23_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v263 : Index := Scalar.indexCast v50
  ![23, v263.toNat]
def k1_off29 (k1_t1 : Fin k1_t1_loop.trips) : Fin 2 → Nat :=
  let c24_i32 : BitVec 32 := 24#32
  let v268 : Index := Scalar.indexCast c24_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v269 : Index := Scalar.indexCast v50
  ![24, v269.toNat]
def k1_off30 (k1_t1 : Fin k1_t1_loop.trips) : Fin 2 → Nat :=
  let c25_i32 : BitVec 32 := 25#32
  let v274 : Index := Scalar.indexCast c25_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v275 : Index := Scalar.indexCast v50
  ![25, v275.toNat]
def k1_off31 (k1_t1 : Fin k1_t1_loop.trips) : Fin 2 → Nat :=
  let c26_i32 : BitVec 32 := 26#32
  let v280 : Index := Scalar.indexCast c26_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v281 : Index := Scalar.indexCast v50
  ![26, v281.toNat]
def k1_off32 (k1_t1 : Fin k1_t1_loop.trips) : Fin 2 → Nat :=
  let c27_i32 : BitVec 32 := 27#32
  let v286 : Index := Scalar.indexCast c27_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v287 : Index := Scalar.indexCast v50
  ![27, v287.toNat]
def k1_off33 (k1_t1 : Fin k1_t1_loop.trips) : Fin 2 → Nat :=
  let c28_i32 : BitVec 32 := 28#32
  let v292 : Index := Scalar.indexCast c28_i32
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v293 : Index := Scalar.indexCast v50
  ![28, v293.toNat]
def k1_off34 (k1_t1 : Fin k1_t1_loop.trips) : Fin 2 → Nat :=
  let c0_i32_7 : BitVec 32 := 0#32
  let c1_i32 : BitVec 32 := 1#32
  let arg14 : BitVec 32 := Scf.iv c0_i32_7 c1_i32 k1_t1
  let v380 : Index := Scalar.indexCast arg14
  let c0_39 : Index := 0#32
  ![v380.toNat, 0]
def k1_off35 (k1_t1 : Fin k1_t1_loop.trips) : Fin 2 → Nat :=
  let c0_i32_7 : BitVec 32 := 0#32
  let c1_i32 : BitVec 32 := 1#32
  let arg14 : BitVec 32 := Scf.iv c0_i32_7 c1_i32 k1_t1
  let v384 : Index := Scalar.indexCast arg14
  let c16_40 : Index := 16#32
  ![v384.toNat, 16]
def k1_off36 (k1_t1 : Fin k1_t1_loop.trips) (c0_i32_41 : BitVec 32) : Fin 2 → Nat :=
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v420 : BitVec 32 := Scalar.addi v50 c0_i32_41
  let v421 : Index := Scalar.indexCast v420
  let c0_42 : Index := 0#32
  ![v421.toNat, 0]
def k1_off37 (k1_t1 : Fin k1_t1_loop.trips) (c0_i32_73 : BitVec 32) : Fin 2 → Nat :=
  let c480_i32 : BitVec 32 := 480#32
  let c0_i32_29 : BitVec 32 := 0#32
  let c0_i32_7 : BitVec 32 := 0#32
  let c1_i32 : BitVec 32 := 1#32
  let arg14 : BitVec 32 := Scf.iv c0_i32_7 c1_i32 k1_t1
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v516 : BitVec 32 := Scalar.addi v50 c0_i32_73
  let v517 : Index := Scalar.indexCast v516
  let c16_74 : Index := 16#32
  ![v517.toNat, 16]
@[reducible] def k1_t2_loop : Scf.Loop 32 :=
  let c0_i32_10 : BitVec 32 := 0#32
  let c30_i32 : BitVec 32 := 30#32
  let v21 : BitVec 32 := Scalar.addi c0_i32_10 c30_i32
  let c1_i32_11 : BitVec 32 := 1#32
  ⟨c0_i32_10, v21, c1_i32_11⟩
@[reducible] def k1_t3_loop (k1_t2 : Fin k1_t2_loop.trips) : Scf.Loop 32 :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_25 : BitVec 32 := 1#32
  ⟨v30, v36, c1_i32_25⟩
def k1_mult3 (k1_t2 : Fin k1_t2_loop.trips) (k1_t3 : Fin (k1_t3_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  v68
def k1_mult4 (k1_t2 : Fin k1_t2_loop.trips) (k1_t3 : Fin (k1_t3_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  v70
def k1_off38 (k1_t2 : Fin k1_t2_loop.trips) (k1_t3 : Fin (k1_t3_loop k1_t2).trips) : Fin 2 → Nat :=
  let c29_i32 : BitVec 32 := 29#32
  let v139 : Index := Scalar.indexCast c29_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v140 : Index := Scalar.indexCast v69
  ![29, v140.toNat]
def k1_off39 (k1_t2 : Fin k1_t2_loop.trips) (k1_t3 : Fin (k1_t3_loop k1_t2).trips) : Fin 2 → Nat :=
  let c0_i32_43 : BitVec 32 := 0#32
  let v143 : Index := Scalar.indexCast c0_i32_43
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v144 : Index := Scalar.indexCast v69
  ![0, v144.toNat]
def k1_off40 (k1_t2 : Fin k1_t2_loop.trips) (k1_t3 : Fin (k1_t3_loop k1_t2).trips) : Fin 2 → Nat :=
  let c1_i32_44 : BitVec 32 := 1#32
  let v149 : Index := Scalar.indexCast c1_i32_44
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v150 : Index := Scalar.indexCast v69
  ![1, v150.toNat]
def k1_off41 (k1_t2 : Fin k1_t2_loop.trips) (k1_t3 : Fin (k1_t3_loop k1_t2).trips) : Fin 2 → Nat :=
  let c2_i32 : BitVec 32 := 2#32
  let v155 : Index := Scalar.indexCast c2_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v156 : Index := Scalar.indexCast v69
  ![2, v156.toNat]
def k1_off42 (k1_t2 : Fin k1_t2_loop.trips) (k1_t3 : Fin (k1_t3_loop k1_t2).trips) : Fin 2 → Nat :=
  let c3_i32 : BitVec 32 := 3#32
  let v161 : Index := Scalar.indexCast c3_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v162 : Index := Scalar.indexCast v69
  ![3, v162.toNat]
def k1_off43 (k1_t2 : Fin k1_t2_loop.trips) (k1_t3 : Fin (k1_t3_loop k1_t2).trips) : Fin 2 → Nat :=
  let c4_i32 : BitVec 32 := 4#32
  let v167 : Index := Scalar.indexCast c4_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v168 : Index := Scalar.indexCast v69
  ![4, v168.toNat]
def k1_off44 (k1_t2 : Fin k1_t2_loop.trips) (k1_t3 : Fin (k1_t3_loop k1_t2).trips) : Fin 2 → Nat :=
  let c5_i32_45 : BitVec 32 := 5#32
  let v173 : Index := Scalar.indexCast c5_i32_45
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v174 : Index := Scalar.indexCast v69
  ![5, v174.toNat]
def k1_off45 (k1_t2 : Fin k1_t2_loop.trips) (k1_t3 : Fin (k1_t3_loop k1_t2).trips) : Fin 2 → Nat :=
  let c6_i32 : BitVec 32 := 6#32
  let v179 : Index := Scalar.indexCast c6_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v180 : Index := Scalar.indexCast v69
  ![6, v180.toNat]
def k1_off46 (k1_t2 : Fin k1_t2_loop.trips) (k1_t3 : Fin (k1_t3_loop k1_t2).trips) : Fin 2 → Nat :=
  let c7_i32 : BitVec 32 := 7#32
  let v185 : Index := Scalar.indexCast c7_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v186 : Index := Scalar.indexCast v69
  ![7, v186.toNat]
def k1_off47 (k1_t2 : Fin k1_t2_loop.trips) (k1_t3 : Fin (k1_t3_loop k1_t2).trips) : Fin 2 → Nat :=
  let c8_i32 : BitVec 32 := 8#32
  let v191 : Index := Scalar.indexCast c8_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v192 : Index := Scalar.indexCast v69
  ![8, v192.toNat]
def k1_off48 (k1_t2 : Fin k1_t2_loop.trips) (k1_t3 : Fin (k1_t3_loop k1_t2).trips) : Fin 2 → Nat :=
  let c9_i32 : BitVec 32 := 9#32
  let v197 : Index := Scalar.indexCast c9_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v198 : Index := Scalar.indexCast v69
  ![9, v198.toNat]
def k1_off49 (k1_t2 : Fin k1_t2_loop.trips) (k1_t3 : Fin (k1_t3_loop k1_t2).trips) : Fin 2 → Nat :=
  let c10_i32_46 : BitVec 32 := 10#32
  let v203 : Index := Scalar.indexCast c10_i32_46
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v204 : Index := Scalar.indexCast v69
  ![10, v204.toNat]
def k1_off50 (k1_t2 : Fin k1_t2_loop.trips) (k1_t3 : Fin (k1_t3_loop k1_t2).trips) : Fin 2 → Nat :=
  let c11_i32_47 : BitVec 32 := 11#32
  let v209 : Index := Scalar.indexCast c11_i32_47
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v210 : Index := Scalar.indexCast v69
  ![11, v210.toNat]
def k1_off51 (k1_t2 : Fin k1_t2_loop.trips) (k1_t3 : Fin (k1_t3_loop k1_t2).trips) : Fin 2 → Nat :=
  let c12_i32_48 : BitVec 32 := 12#32
  let v215 : Index := Scalar.indexCast c12_i32_48
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v216 : Index := Scalar.indexCast v69
  ![12, v216.toNat]
def k1_off52 (k1_t2 : Fin k1_t2_loop.trips) (k1_t3 : Fin (k1_t3_loop k1_t2).trips) : Fin 2 → Nat :=
  let c13_i32 : BitVec 32 := 13#32
  let v221 : Index := Scalar.indexCast c13_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v222 : Index := Scalar.indexCast v69
  ![13, v222.toNat]
def k1_off53 (k1_t2 : Fin k1_t2_loop.trips) (k1_t3 : Fin (k1_t3_loop k1_t2).trips) : Fin 2 → Nat :=
  let c14_i32 : BitVec 32 := 14#32
  let v227 : Index := Scalar.indexCast c14_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v228 : Index := Scalar.indexCast v69
  ![14, v228.toNat]
def k1_off54 (k1_t2 : Fin k1_t2_loop.trips) (k1_t3 : Fin (k1_t3_loop k1_t2).trips) : Fin 2 → Nat :=
  let c15_i32 : BitVec 32 := 15#32
  let v233 : Index := Scalar.indexCast c15_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v234 : Index := Scalar.indexCast v69
  ![15, v234.toNat]
def k1_off55 (k1_t2 : Fin k1_t2_loop.trips) (k1_t3 : Fin (k1_t3_loop k1_t2).trips) : Fin 2 → Nat :=
  let c16_i32_49 : BitVec 32 := 16#32
  let v239 : Index := Scalar.indexCast c16_i32_49
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v240 : Index := Scalar.indexCast v69
  ![16, v240.toNat]
def k1_off56 (k1_t2 : Fin k1_t2_loop.trips) (k1_t3 : Fin (k1_t3_loop k1_t2).trips) : Fin 2 → Nat :=
  let c17_i32 : BitVec 32 := 17#32
  let v245 : Index := Scalar.indexCast c17_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v246 : Index := Scalar.indexCast v69
  ![17, v246.toNat]
def k1_off57 (k1_t2 : Fin k1_t2_loop.trips) (k1_t3 : Fin (k1_t3_loop k1_t2).trips) : Fin 2 → Nat :=
  let c18_i32 : BitVec 32 := 18#32
  let v251 : Index := Scalar.indexCast c18_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v252 : Index := Scalar.indexCast v69
  ![18, v252.toNat]
def k1_off58 (k1_t2 : Fin k1_t2_loop.trips) (k1_t3 : Fin (k1_t3_loop k1_t2).trips) : Fin 2 → Nat :=
  let c19_i32 : BitVec 32 := 19#32
  let v257 : Index := Scalar.indexCast c19_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v258 : Index := Scalar.indexCast v69
  ![19, v258.toNat]
def k1_off59 (k1_t2 : Fin k1_t2_loop.trips) (k1_t3 : Fin (k1_t3_loop k1_t2).trips) : Fin 2 → Nat :=
  let c20_i32 : BitVec 32 := 20#32
  let v263 : Index := Scalar.indexCast c20_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v264 : Index := Scalar.indexCast v69
  ![20, v264.toNat]
def k1_off60 (k1_t2 : Fin k1_t2_loop.trips) (k1_t3 : Fin (k1_t3_loop k1_t2).trips) : Fin 2 → Nat :=
  let c21_i32 : BitVec 32 := 21#32
  let v269 : Index := Scalar.indexCast c21_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v270 : Index := Scalar.indexCast v69
  ![21, v270.toNat]
def k1_off61 (k1_t2 : Fin k1_t2_loop.trips) (k1_t3 : Fin (k1_t3_loop k1_t2).trips) : Fin 2 → Nat :=
  let c22_i32 : BitVec 32 := 22#32
  let v275 : Index := Scalar.indexCast c22_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v276 : Index := Scalar.indexCast v69
  ![22, v276.toNat]
def k1_off62 (k1_t2 : Fin k1_t2_loop.trips) (k1_t3 : Fin (k1_t3_loop k1_t2).trips) : Fin 2 → Nat :=
  let c23_i32 : BitVec 32 := 23#32
  let v281 : Index := Scalar.indexCast c23_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v282 : Index := Scalar.indexCast v69
  ![23, v282.toNat]
def k1_off63 (k1_t2 : Fin k1_t2_loop.trips) (k1_t3 : Fin (k1_t3_loop k1_t2).trips) : Fin 2 → Nat :=
  let c24_i32 : BitVec 32 := 24#32
  let v287 : Index := Scalar.indexCast c24_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v288 : Index := Scalar.indexCast v69
  ![24, v288.toNat]
def k1_off64 (k1_t2 : Fin k1_t2_loop.trips) (k1_t3 : Fin (k1_t3_loop k1_t2).trips) : Fin 2 → Nat :=
  let c25_i32 : BitVec 32 := 25#32
  let v293 : Index := Scalar.indexCast c25_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v294 : Index := Scalar.indexCast v69
  ![25, v294.toNat]
def k1_off65 (k1_t2 : Fin k1_t2_loop.trips) (k1_t3 : Fin (k1_t3_loop k1_t2).trips) : Fin 2 → Nat :=
  let c26_i32 : BitVec 32 := 26#32
  let v299 : Index := Scalar.indexCast c26_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v300 : Index := Scalar.indexCast v69
  ![26, v300.toNat]
def k1_off66 (k1_t2 : Fin k1_t2_loop.trips) (k1_t3 : Fin (k1_t3_loop k1_t2).trips) : Fin 2 → Nat :=
  let c27_i32 : BitVec 32 := 27#32
  let v305 : Index := Scalar.indexCast c27_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v306 : Index := Scalar.indexCast v69
  ![27, v306.toNat]
def k1_off67 (k1_t2 : Fin k1_t2_loop.trips) (k1_t3 : Fin (k1_t3_loop k1_t2).trips) : Fin 2 → Nat :=
  let c28_i32 : BitVec 32 := 28#32
  let v311 : Index := Scalar.indexCast c28_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v312 : Index := Scalar.indexCast v69
  ![28, v312.toNat]
def k1_off68 (k1_t2 : Fin k1_t2_loop.trips) (k1_t3 : Fin (k1_t3_loop k1_t2).trips) : Fin 2 → Nat :=
  let c29_i32_52 : BitVec 32 := 29#32
  let v358 : Index := Scalar.indexCast c29_i32_52
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v359 : Index := Scalar.indexCast v71
  ![29, v359.toNat]
def k1_off69 (k1_t2 : Fin k1_t2_loop.trips) (k1_t3 : Fin (k1_t3_loop k1_t2).trips) : Fin 2 → Nat :=
  let c0_i32_53 : BitVec 32 := 0#32
  let v362 : Index := Scalar.indexCast c0_i32_53
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v363 : Index := Scalar.indexCast v71
  ![0, v363.toNat]
def k1_off70 (k1_t2 : Fin k1_t2_loop.trips) (k1_t3 : Fin (k1_t3_loop k1_t2).trips) : Fin 2 → Nat :=
  let c1_i32_54 : BitVec 32 := 1#32
  let v368 : Index := Scalar.indexCast c1_i32_54
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v369 : Index := Scalar.indexCast v71
  ![1, v369.toNat]
def k1_off71 (k1_t2 : Fin k1_t2_loop.trips) (k1_t3 : Fin (k1_t3_loop k1_t2).trips) : Fin 2 → Nat :=
  let c2_i32_55 : BitVec 32 := 2#32
  let v374 : Index := Scalar.indexCast c2_i32_55
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v375 : Index := Scalar.indexCast v71
  ![2, v375.toNat]
def k1_off72 (k1_t2 : Fin k1_t2_loop.trips) (k1_t3 : Fin (k1_t3_loop k1_t2).trips) : Fin 2 → Nat :=
  let c3_i32_56 : BitVec 32 := 3#32
  let v380 : Index := Scalar.indexCast c3_i32_56
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v381 : Index := Scalar.indexCast v71
  ![3, v381.toNat]
def k1_off73 (k1_t2 : Fin k1_t2_loop.trips) (k1_t3 : Fin (k1_t3_loop k1_t2).trips) : Fin 2 → Nat :=
  let c4_i32_57 : BitVec 32 := 4#32
  let v386 : Index := Scalar.indexCast c4_i32_57
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v387 : Index := Scalar.indexCast v71
  ![4, v387.toNat]
def k1_off74 (k1_t2 : Fin k1_t2_loop.trips) (k1_t3 : Fin (k1_t3_loop k1_t2).trips) : Fin 2 → Nat :=
  let c5_i32_58 : BitVec 32 := 5#32
  let v392 : Index := Scalar.indexCast c5_i32_58
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v393 : Index := Scalar.indexCast v71
  ![5, v393.toNat]
def k1_off75 (k1_t2 : Fin k1_t2_loop.trips) (k1_t3 : Fin (k1_t3_loop k1_t2).trips) : Fin 2 → Nat :=
  let c6_i32_59 : BitVec 32 := 6#32
  let v398 : Index := Scalar.indexCast c6_i32_59
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v399 : Index := Scalar.indexCast v71
  ![6, v399.toNat]
def k1_off76 (k1_t2 : Fin k1_t2_loop.trips) (k1_t3 : Fin (k1_t3_loop k1_t2).trips) : Fin 2 → Nat :=
  let c7_i32_60 : BitVec 32 := 7#32
  let v404 : Index := Scalar.indexCast c7_i32_60
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v405 : Index := Scalar.indexCast v71
  ![7, v405.toNat]
def k1_off77 (k1_t2 : Fin k1_t2_loop.trips) (k1_t3 : Fin (k1_t3_loop k1_t2).trips) : Fin 2 → Nat :=
  let c8_i32_61 : BitVec 32 := 8#32
  let v410 : Index := Scalar.indexCast c8_i32_61
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v411 : Index := Scalar.indexCast v71
  ![8, v411.toNat]
def k1_off78 (k1_t2 : Fin k1_t2_loop.trips) (k1_t3 : Fin (k1_t3_loop k1_t2).trips) : Fin 2 → Nat :=
  let c9_i32_62 : BitVec 32 := 9#32
  let v416 : Index := Scalar.indexCast c9_i32_62
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v417 : Index := Scalar.indexCast v71
  ![9, v417.toNat]
def k1_off79 (k1_t2 : Fin k1_t2_loop.trips) (k1_t3 : Fin (k1_t3_loop k1_t2).trips) : Fin 2 → Nat :=
  let c10_i32_63 : BitVec 32 := 10#32
  let v422 : Index := Scalar.indexCast c10_i32_63
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v423 : Index := Scalar.indexCast v71
  ![10, v423.toNat]
def k1_off80 (k1_t2 : Fin k1_t2_loop.trips) (k1_t3 : Fin (k1_t3_loop k1_t2).trips) : Fin 2 → Nat :=
  let c11_i32_64 : BitVec 32 := 11#32
  let v428 : Index := Scalar.indexCast c11_i32_64
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v429 : Index := Scalar.indexCast v71
  ![11, v429.toNat]
def k1_off81 (k1_t2 : Fin k1_t2_loop.trips) (k1_t3 : Fin (k1_t3_loop k1_t2).trips) : Fin 2 → Nat :=
  let c12_i32_65 : BitVec 32 := 12#32
  let v434 : Index := Scalar.indexCast c12_i32_65
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v435 : Index := Scalar.indexCast v71
  ![12, v435.toNat]
def k1_off82 (k1_t2 : Fin k1_t2_loop.trips) (k1_t3 : Fin (k1_t3_loop k1_t2).trips) : Fin 2 → Nat :=
  let c13_i32_66 : BitVec 32 := 13#32
  let v440 : Index := Scalar.indexCast c13_i32_66
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v441 : Index := Scalar.indexCast v71
  ![13, v441.toNat]
def k1_off83 (k1_t2 : Fin k1_t2_loop.trips) (k1_t3 : Fin (k1_t3_loop k1_t2).trips) : Fin 2 → Nat :=
  let c14_i32_67 : BitVec 32 := 14#32
  let v446 : Index := Scalar.indexCast c14_i32_67
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v447 : Index := Scalar.indexCast v71
  ![14, v447.toNat]
def k1_off84 (k1_t2 : Fin k1_t2_loop.trips) (k1_t3 : Fin (k1_t3_loop k1_t2).trips) : Fin 2 → Nat :=
  let c15_i32_68 : BitVec 32 := 15#32
  let v452 : Index := Scalar.indexCast c15_i32_68
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v453 : Index := Scalar.indexCast v71
  ![15, v453.toNat]
def k1_off85 (k1_t2 : Fin k1_t2_loop.trips) (k1_t3 : Fin (k1_t3_loop k1_t2).trips) : Fin 2 → Nat :=
  let c16_i32_69 : BitVec 32 := 16#32
  let v458 : Index := Scalar.indexCast c16_i32_69
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v459 : Index := Scalar.indexCast v71
  ![16, v459.toNat]
def k1_off86 (k1_t2 : Fin k1_t2_loop.trips) (k1_t3 : Fin (k1_t3_loop k1_t2).trips) : Fin 2 → Nat :=
  let c17_i32_70 : BitVec 32 := 17#32
  let v464 : Index := Scalar.indexCast c17_i32_70
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v465 : Index := Scalar.indexCast v71
  ![17, v465.toNat]
def k1_off87 (k1_t2 : Fin k1_t2_loop.trips) (k1_t3 : Fin (k1_t3_loop k1_t2).trips) : Fin 2 → Nat :=
  let c18_i32_71 : BitVec 32 := 18#32
  let v470 : Index := Scalar.indexCast c18_i32_71
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v471 : Index := Scalar.indexCast v71
  ![18, v471.toNat]
def k1_off88 (k1_t2 : Fin k1_t2_loop.trips) (k1_t3 : Fin (k1_t3_loop k1_t2).trips) : Fin 2 → Nat :=
  let c19_i32_72 : BitVec 32 := 19#32
  let v476 : Index := Scalar.indexCast c19_i32_72
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v477 : Index := Scalar.indexCast v71
  ![19, v477.toNat]
def k1_off89 (k1_t2 : Fin k1_t2_loop.trips) (k1_t3 : Fin (k1_t3_loop k1_t2).trips) : Fin 2 → Nat :=
  let c20_i32_73 : BitVec 32 := 20#32
  let v482 : Index := Scalar.indexCast c20_i32_73
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v483 : Index := Scalar.indexCast v71
  ![20, v483.toNat]
def k1_off90 (k1_t2 : Fin k1_t2_loop.trips) (k1_t3 : Fin (k1_t3_loop k1_t2).trips) : Fin 2 → Nat :=
  let c21_i32_74 : BitVec 32 := 21#32
  let v488 : Index := Scalar.indexCast c21_i32_74
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v489 : Index := Scalar.indexCast v71
  ![21, v489.toNat]
def k1_off91 (k1_t2 : Fin k1_t2_loop.trips) (k1_t3 : Fin (k1_t3_loop k1_t2).trips) : Fin 2 → Nat :=
  let c22_i32_75 : BitVec 32 := 22#32
  let v494 : Index := Scalar.indexCast c22_i32_75
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v495 : Index := Scalar.indexCast v71
  ![22, v495.toNat]
def k1_off92 (k1_t2 : Fin k1_t2_loop.trips) (k1_t3 : Fin (k1_t3_loop k1_t2).trips) : Fin 2 → Nat :=
  let c23_i32_76 : BitVec 32 := 23#32
  let v500 : Index := Scalar.indexCast c23_i32_76
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v501 : Index := Scalar.indexCast v71
  ![23, v501.toNat]
def k1_off93 (k1_t2 : Fin k1_t2_loop.trips) (k1_t3 : Fin (k1_t3_loop k1_t2).trips) : Fin 2 → Nat :=
  let c24_i32_77 : BitVec 32 := 24#32
  let v506 : Index := Scalar.indexCast c24_i32_77
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v507 : Index := Scalar.indexCast v71
  ![24, v507.toNat]
def k1_off94 (k1_t2 : Fin k1_t2_loop.trips) (k1_t3 : Fin (k1_t3_loop k1_t2).trips) : Fin 2 → Nat :=
  let c25_i32_78 : BitVec 32 := 25#32
  let v512 : Index := Scalar.indexCast c25_i32_78
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v513 : Index := Scalar.indexCast v71
  ![25, v513.toNat]
def k1_off95 (k1_t2 : Fin k1_t2_loop.trips) (k1_t3 : Fin (k1_t3_loop k1_t2).trips) : Fin 2 → Nat :=
  let c26_i32_79 : BitVec 32 := 26#32
  let v518 : Index := Scalar.indexCast c26_i32_79
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v519 : Index := Scalar.indexCast v71
  ![26, v519.toNat]
def k1_off96 (k1_t2 : Fin k1_t2_loop.trips) (k1_t3 : Fin (k1_t3_loop k1_t2).trips) : Fin 2 → Nat :=
  let c27_i32_80 : BitVec 32 := 27#32
  let v524 : Index := Scalar.indexCast c27_i32_80
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v525 : Index := Scalar.indexCast v71
  ![27, v525.toNat]
def k1_off97 (k1_t2 : Fin k1_t2_loop.trips) (k1_t3 : Fin (k1_t3_loop k1_t2).trips) : Fin 2 → Nat :=
  let c28_i32_81 : BitVec 32 := 28#32
  let v530 : Index := Scalar.indexCast c28_i32_81
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v531 : Index := Scalar.indexCast v71
  ![28, v531.toNat]
def k1_off98 (k1_t2 : Fin k1_t2_loop.trips) (k1_t3 : Fin (k1_t3_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let v620 : Index := Scalar.indexCast arg17
  let c0_82 : Index := 0#32
  ![v620.toNat, 0]
def k1_off99 (k1_t2 : Fin k1_t2_loop.trips) (k1_t3 : Fin (k1_t3_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let v624 : Index := Scalar.indexCast arg17
  let c16_83 : Index := 16#32
  ![v624.toNat, 16]
def k1_off100 (k1_t2 : Fin k1_t2_loop.trips) (k1_t3 : Fin (k1_t3_loop k1_t2).trips) (c0_i32_84 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v660 : BitVec 32 := Scalar.addi v69 c0_i32_84
  let v661 : Index := Scalar.indexCast v660
  let c0_85 : Index := 0#32
  ![v661.toNat, 0]
def k1_off101 (k1_t2 : Fin k1_t2_loop.trips) (k1_t3 : Fin (k1_t3_loop k1_t2).trips) (c0_i32_116 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v756 : BitVec 32 := Scalar.addi v69 c0_i32_116
  let v757 : Index := Scalar.indexCast v756
  let c16_117 : Index := 16#32
  ![v757.toNat, 16]
def k1_off102 (k1_t2 : Fin k1_t2_loop.trips) (k1_t3 : Fin (k1_t3_loop k1_t2).trips) (c0_i32_148 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v884 : BitVec 32 := Scalar.addi v71 c0_i32_148
  let v885 : Index := Scalar.indexCast v884
  let c0_149 : Index := 0#32
  ![v885.toNat, 0]
def k1_off103 (k1_t2 : Fin k1_t2_loop.trips) (k1_t3 : Fin (k1_t3_loop k1_t2).trips) (c0_i32_180 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c1_i32_25 : BitVec 32 := 1#32
  let arg17 : BitVec 32 := Scf.iv v30 c1_i32_25 k1_t3
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v980 : BitVec 32 := Scalar.addi v71 c0_i32_180
  let v981 : Index := Scalar.indexCast v980
  let c16_181 : Index := 16#32
  ![v981.toNat, 16]
@[reducible] def k1_t4_loop (k1_t2 : Fin k1_t2_loop.trips) : Scf.Loop 32 :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let v33 : BitVec 32 := Scalar.addi v30 v32
  let c1_i32_26 : BitVec 32 := 1#32
  ⟨v36, v33, c1_i32_26⟩
def k1_mult5 (k1_t2 : Fin k1_t2_loop.trips) (k1_t4 : Fin (k1_t4_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  v68
def k1_mult6 (k1_t2 : Fin k1_t2_loop.trips) (k1_t4 : Fin (k1_t4_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  v70
def k1_off104 (k1_t2 : Fin k1_t2_loop.trips) (k1_t4 : Fin (k1_t4_loop k1_t2).trips) : Fin 2 → Nat :=
  let c29_i32 : BitVec 32 := 29#32
  let v139 : Index := Scalar.indexCast c29_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v140 : Index := Scalar.indexCast v69
  ![29, v140.toNat]
def k1_off105 (k1_t2 : Fin k1_t2_loop.trips) (k1_t4 : Fin (k1_t4_loop k1_t2).trips) : Fin 2 → Nat :=
  let c0_i32_43 : BitVec 32 := 0#32
  let v143 : Index := Scalar.indexCast c0_i32_43
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v144 : Index := Scalar.indexCast v69
  ![0, v144.toNat]
def k1_off106 (k1_t2 : Fin k1_t2_loop.trips) (k1_t4 : Fin (k1_t4_loop k1_t2).trips) : Fin 2 → Nat :=
  let c1_i32_44 : BitVec 32 := 1#32
  let v149 : Index := Scalar.indexCast c1_i32_44
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v150 : Index := Scalar.indexCast v69
  ![1, v150.toNat]
def k1_off107 (k1_t2 : Fin k1_t2_loop.trips) (k1_t4 : Fin (k1_t4_loop k1_t2).trips) : Fin 2 → Nat :=
  let c2_i32 : BitVec 32 := 2#32
  let v155 : Index := Scalar.indexCast c2_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v156 : Index := Scalar.indexCast v69
  ![2, v156.toNat]
def k1_off108 (k1_t2 : Fin k1_t2_loop.trips) (k1_t4 : Fin (k1_t4_loop k1_t2).trips) : Fin 2 → Nat :=
  let c3_i32 : BitVec 32 := 3#32
  let v161 : Index := Scalar.indexCast c3_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v162 : Index := Scalar.indexCast v69
  ![3, v162.toNat]
def k1_off109 (k1_t2 : Fin k1_t2_loop.trips) (k1_t4 : Fin (k1_t4_loop k1_t2).trips) : Fin 2 → Nat :=
  let c4_i32 : BitVec 32 := 4#32
  let v167 : Index := Scalar.indexCast c4_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v168 : Index := Scalar.indexCast v69
  ![4, v168.toNat]
def k1_off110 (k1_t2 : Fin k1_t2_loop.trips) (k1_t4 : Fin (k1_t4_loop k1_t2).trips) : Fin 2 → Nat :=
  let c5_i32_45 : BitVec 32 := 5#32
  let v173 : Index := Scalar.indexCast c5_i32_45
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v174 : Index := Scalar.indexCast v69
  ![5, v174.toNat]
def k1_off111 (k1_t2 : Fin k1_t2_loop.trips) (k1_t4 : Fin (k1_t4_loop k1_t2).trips) : Fin 2 → Nat :=
  let c6_i32 : BitVec 32 := 6#32
  let v179 : Index := Scalar.indexCast c6_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v180 : Index := Scalar.indexCast v69
  ![6, v180.toNat]
def k1_off112 (k1_t2 : Fin k1_t2_loop.trips) (k1_t4 : Fin (k1_t4_loop k1_t2).trips) : Fin 2 → Nat :=
  let c7_i32 : BitVec 32 := 7#32
  let v185 : Index := Scalar.indexCast c7_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v186 : Index := Scalar.indexCast v69
  ![7, v186.toNat]
def k1_off113 (k1_t2 : Fin k1_t2_loop.trips) (k1_t4 : Fin (k1_t4_loop k1_t2).trips) : Fin 2 → Nat :=
  let c8_i32 : BitVec 32 := 8#32
  let v191 : Index := Scalar.indexCast c8_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v192 : Index := Scalar.indexCast v69
  ![8, v192.toNat]
def k1_off114 (k1_t2 : Fin k1_t2_loop.trips) (k1_t4 : Fin (k1_t4_loop k1_t2).trips) : Fin 2 → Nat :=
  let c9_i32 : BitVec 32 := 9#32
  let v197 : Index := Scalar.indexCast c9_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v198 : Index := Scalar.indexCast v69
  ![9, v198.toNat]
def k1_off115 (k1_t2 : Fin k1_t2_loop.trips) (k1_t4 : Fin (k1_t4_loop k1_t2).trips) : Fin 2 → Nat :=
  let c10_i32_46 : BitVec 32 := 10#32
  let v203 : Index := Scalar.indexCast c10_i32_46
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v204 : Index := Scalar.indexCast v69
  ![10, v204.toNat]
def k1_off116 (k1_t2 : Fin k1_t2_loop.trips) (k1_t4 : Fin (k1_t4_loop k1_t2).trips) : Fin 2 → Nat :=
  let c11_i32_47 : BitVec 32 := 11#32
  let v209 : Index := Scalar.indexCast c11_i32_47
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v210 : Index := Scalar.indexCast v69
  ![11, v210.toNat]
def k1_off117 (k1_t2 : Fin k1_t2_loop.trips) (k1_t4 : Fin (k1_t4_loop k1_t2).trips) : Fin 2 → Nat :=
  let c12_i32_48 : BitVec 32 := 12#32
  let v215 : Index := Scalar.indexCast c12_i32_48
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v216 : Index := Scalar.indexCast v69
  ![12, v216.toNat]
def k1_off118 (k1_t2 : Fin k1_t2_loop.trips) (k1_t4 : Fin (k1_t4_loop k1_t2).trips) : Fin 2 → Nat :=
  let c13_i32 : BitVec 32 := 13#32
  let v221 : Index := Scalar.indexCast c13_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v222 : Index := Scalar.indexCast v69
  ![13, v222.toNat]
def k1_off119 (k1_t2 : Fin k1_t2_loop.trips) (k1_t4 : Fin (k1_t4_loop k1_t2).trips) : Fin 2 → Nat :=
  let c14_i32 : BitVec 32 := 14#32
  let v227 : Index := Scalar.indexCast c14_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v228 : Index := Scalar.indexCast v69
  ![14, v228.toNat]
def k1_off120 (k1_t2 : Fin k1_t2_loop.trips) (k1_t4 : Fin (k1_t4_loop k1_t2).trips) : Fin 2 → Nat :=
  let c15_i32 : BitVec 32 := 15#32
  let v233 : Index := Scalar.indexCast c15_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v234 : Index := Scalar.indexCast v69
  ![15, v234.toNat]
def k1_off121 (k1_t2 : Fin k1_t2_loop.trips) (k1_t4 : Fin (k1_t4_loop k1_t2).trips) : Fin 2 → Nat :=
  let c16_i32_49 : BitVec 32 := 16#32
  let v239 : Index := Scalar.indexCast c16_i32_49
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v240 : Index := Scalar.indexCast v69
  ![16, v240.toNat]
def k1_off122 (k1_t2 : Fin k1_t2_loop.trips) (k1_t4 : Fin (k1_t4_loop k1_t2).trips) : Fin 2 → Nat :=
  let c17_i32 : BitVec 32 := 17#32
  let v245 : Index := Scalar.indexCast c17_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v246 : Index := Scalar.indexCast v69
  ![17, v246.toNat]
def k1_off123 (k1_t2 : Fin k1_t2_loop.trips) (k1_t4 : Fin (k1_t4_loop k1_t2).trips) : Fin 2 → Nat :=
  let c18_i32 : BitVec 32 := 18#32
  let v251 : Index := Scalar.indexCast c18_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v252 : Index := Scalar.indexCast v69
  ![18, v252.toNat]
def k1_off124 (k1_t2 : Fin k1_t2_loop.trips) (k1_t4 : Fin (k1_t4_loop k1_t2).trips) : Fin 2 → Nat :=
  let c19_i32 : BitVec 32 := 19#32
  let v257 : Index := Scalar.indexCast c19_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v258 : Index := Scalar.indexCast v69
  ![19, v258.toNat]
def k1_off125 (k1_t2 : Fin k1_t2_loop.trips) (k1_t4 : Fin (k1_t4_loop k1_t2).trips) : Fin 2 → Nat :=
  let c20_i32 : BitVec 32 := 20#32
  let v263 : Index := Scalar.indexCast c20_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v264 : Index := Scalar.indexCast v69
  ![20, v264.toNat]
def k1_off126 (k1_t2 : Fin k1_t2_loop.trips) (k1_t4 : Fin (k1_t4_loop k1_t2).trips) : Fin 2 → Nat :=
  let c21_i32 : BitVec 32 := 21#32
  let v269 : Index := Scalar.indexCast c21_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v270 : Index := Scalar.indexCast v69
  ![21, v270.toNat]
def k1_off127 (k1_t2 : Fin k1_t2_loop.trips) (k1_t4 : Fin (k1_t4_loop k1_t2).trips) : Fin 2 → Nat :=
  let c22_i32 : BitVec 32 := 22#32
  let v275 : Index := Scalar.indexCast c22_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v276 : Index := Scalar.indexCast v69
  ![22, v276.toNat]
def k1_off128 (k1_t2 : Fin k1_t2_loop.trips) (k1_t4 : Fin (k1_t4_loop k1_t2).trips) : Fin 2 → Nat :=
  let c23_i32 : BitVec 32 := 23#32
  let v281 : Index := Scalar.indexCast c23_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v282 : Index := Scalar.indexCast v69
  ![23, v282.toNat]
def k1_off129 (k1_t2 : Fin k1_t2_loop.trips) (k1_t4 : Fin (k1_t4_loop k1_t2).trips) : Fin 2 → Nat :=
  let c24_i32 : BitVec 32 := 24#32
  let v287 : Index := Scalar.indexCast c24_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v288 : Index := Scalar.indexCast v69
  ![24, v288.toNat]
def k1_off130 (k1_t2 : Fin k1_t2_loop.trips) (k1_t4 : Fin (k1_t4_loop k1_t2).trips) : Fin 2 → Nat :=
  let c25_i32 : BitVec 32 := 25#32
  let v293 : Index := Scalar.indexCast c25_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v294 : Index := Scalar.indexCast v69
  ![25, v294.toNat]
def k1_off131 (k1_t2 : Fin k1_t2_loop.trips) (k1_t4 : Fin (k1_t4_loop k1_t2).trips) : Fin 2 → Nat :=
  let c26_i32 : BitVec 32 := 26#32
  let v299 : Index := Scalar.indexCast c26_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v300 : Index := Scalar.indexCast v69
  ![26, v300.toNat]
def k1_off132 (k1_t2 : Fin k1_t2_loop.trips) (k1_t4 : Fin (k1_t4_loop k1_t2).trips) : Fin 2 → Nat :=
  let c27_i32 : BitVec 32 := 27#32
  let v305 : Index := Scalar.indexCast c27_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v306 : Index := Scalar.indexCast v69
  ![27, v306.toNat]
def k1_off133 (k1_t2 : Fin k1_t2_loop.trips) (k1_t4 : Fin (k1_t4_loop k1_t2).trips) : Fin 2 → Nat :=
  let c28_i32 : BitVec 32 := 28#32
  let v311 : Index := Scalar.indexCast c28_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v312 : Index := Scalar.indexCast v69
  ![28, v312.toNat]
def k1_off134 (k1_t2 : Fin k1_t2_loop.trips) (k1_t4 : Fin (k1_t4_loop k1_t2).trips) : Fin 2 → Nat :=
  let c29_i32_52 : BitVec 32 := 29#32
  let v358 : Index := Scalar.indexCast c29_i32_52
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v359 : Index := Scalar.indexCast v71
  ![29, v359.toNat]
def k1_off135 (k1_t2 : Fin k1_t2_loop.trips) (k1_t4 : Fin (k1_t4_loop k1_t2).trips) : Fin 2 → Nat :=
  let c0_i32_53 : BitVec 32 := 0#32
  let v362 : Index := Scalar.indexCast c0_i32_53
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v363 : Index := Scalar.indexCast v71
  ![0, v363.toNat]
def k1_off136 (k1_t2 : Fin k1_t2_loop.trips) (k1_t4 : Fin (k1_t4_loop k1_t2).trips) : Fin 2 → Nat :=
  let c1_i32_54 : BitVec 32 := 1#32
  let v368 : Index := Scalar.indexCast c1_i32_54
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v369 : Index := Scalar.indexCast v71
  ![1, v369.toNat]
def k1_off137 (k1_t2 : Fin k1_t2_loop.trips) (k1_t4 : Fin (k1_t4_loop k1_t2).trips) : Fin 2 → Nat :=
  let c2_i32_55 : BitVec 32 := 2#32
  let v374 : Index := Scalar.indexCast c2_i32_55
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v375 : Index := Scalar.indexCast v71
  ![2, v375.toNat]
def k1_off138 (k1_t2 : Fin k1_t2_loop.trips) (k1_t4 : Fin (k1_t4_loop k1_t2).trips) : Fin 2 → Nat :=
  let c3_i32_56 : BitVec 32 := 3#32
  let v380 : Index := Scalar.indexCast c3_i32_56
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v381 : Index := Scalar.indexCast v71
  ![3, v381.toNat]
def k1_off139 (k1_t2 : Fin k1_t2_loop.trips) (k1_t4 : Fin (k1_t4_loop k1_t2).trips) : Fin 2 → Nat :=
  let c4_i32_57 : BitVec 32 := 4#32
  let v386 : Index := Scalar.indexCast c4_i32_57
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v387 : Index := Scalar.indexCast v71
  ![4, v387.toNat]
def k1_off140 (k1_t2 : Fin k1_t2_loop.trips) (k1_t4 : Fin (k1_t4_loop k1_t2).trips) : Fin 2 → Nat :=
  let c5_i32_58 : BitVec 32 := 5#32
  let v392 : Index := Scalar.indexCast c5_i32_58
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v393 : Index := Scalar.indexCast v71
  ![5, v393.toNat]
def k1_off141 (k1_t2 : Fin k1_t2_loop.trips) (k1_t4 : Fin (k1_t4_loop k1_t2).trips) : Fin 2 → Nat :=
  let c6_i32_59 : BitVec 32 := 6#32
  let v398 : Index := Scalar.indexCast c6_i32_59
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v399 : Index := Scalar.indexCast v71
  ![6, v399.toNat]
def k1_off142 (k1_t2 : Fin k1_t2_loop.trips) (k1_t4 : Fin (k1_t4_loop k1_t2).trips) : Fin 2 → Nat :=
  let c7_i32_60 : BitVec 32 := 7#32
  let v404 : Index := Scalar.indexCast c7_i32_60
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v405 : Index := Scalar.indexCast v71
  ![7, v405.toNat]
def k1_off143 (k1_t2 : Fin k1_t2_loop.trips) (k1_t4 : Fin (k1_t4_loop k1_t2).trips) : Fin 2 → Nat :=
  let c8_i32_61 : BitVec 32 := 8#32
  let v410 : Index := Scalar.indexCast c8_i32_61
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v411 : Index := Scalar.indexCast v71
  ![8, v411.toNat]
def k1_off144 (k1_t2 : Fin k1_t2_loop.trips) (k1_t4 : Fin (k1_t4_loop k1_t2).trips) : Fin 2 → Nat :=
  let c9_i32_62 : BitVec 32 := 9#32
  let v416 : Index := Scalar.indexCast c9_i32_62
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v417 : Index := Scalar.indexCast v71
  ![9, v417.toNat]
def k1_off145 (k1_t2 : Fin k1_t2_loop.trips) (k1_t4 : Fin (k1_t4_loop k1_t2).trips) : Fin 2 → Nat :=
  let c10_i32_63 : BitVec 32 := 10#32
  let v422 : Index := Scalar.indexCast c10_i32_63
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v423 : Index := Scalar.indexCast v71
  ![10, v423.toNat]
def k1_off146 (k1_t2 : Fin k1_t2_loop.trips) (k1_t4 : Fin (k1_t4_loop k1_t2).trips) : Fin 2 → Nat :=
  let c11_i32_64 : BitVec 32 := 11#32
  let v428 : Index := Scalar.indexCast c11_i32_64
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v429 : Index := Scalar.indexCast v71
  ![11, v429.toNat]
def k1_off147 (k1_t2 : Fin k1_t2_loop.trips) (k1_t4 : Fin (k1_t4_loop k1_t2).trips) : Fin 2 → Nat :=
  let c12_i32_65 : BitVec 32 := 12#32
  let v434 : Index := Scalar.indexCast c12_i32_65
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v435 : Index := Scalar.indexCast v71
  ![12, v435.toNat]
def k1_off148 (k1_t2 : Fin k1_t2_loop.trips) (k1_t4 : Fin (k1_t4_loop k1_t2).trips) : Fin 2 → Nat :=
  let c13_i32_66 : BitVec 32 := 13#32
  let v440 : Index := Scalar.indexCast c13_i32_66
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v441 : Index := Scalar.indexCast v71
  ![13, v441.toNat]
def k1_off149 (k1_t2 : Fin k1_t2_loop.trips) (k1_t4 : Fin (k1_t4_loop k1_t2).trips) : Fin 2 → Nat :=
  let c14_i32_67 : BitVec 32 := 14#32
  let v446 : Index := Scalar.indexCast c14_i32_67
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v447 : Index := Scalar.indexCast v71
  ![14, v447.toNat]
def k1_off150 (k1_t2 : Fin k1_t2_loop.trips) (k1_t4 : Fin (k1_t4_loop k1_t2).trips) : Fin 2 → Nat :=
  let c15_i32_68 : BitVec 32 := 15#32
  let v452 : Index := Scalar.indexCast c15_i32_68
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v453 : Index := Scalar.indexCast v71
  ![15, v453.toNat]
def k1_off151 (k1_t2 : Fin k1_t2_loop.trips) (k1_t4 : Fin (k1_t4_loop k1_t2).trips) : Fin 2 → Nat :=
  let c16_i32_69 : BitVec 32 := 16#32
  let v458 : Index := Scalar.indexCast c16_i32_69
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v459 : Index := Scalar.indexCast v71
  ![16, v459.toNat]
def k1_off152 (k1_t2 : Fin k1_t2_loop.trips) (k1_t4 : Fin (k1_t4_loop k1_t2).trips) : Fin 2 → Nat :=
  let c17_i32_70 : BitVec 32 := 17#32
  let v464 : Index := Scalar.indexCast c17_i32_70
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v465 : Index := Scalar.indexCast v71
  ![17, v465.toNat]
def k1_off153 (k1_t2 : Fin k1_t2_loop.trips) (k1_t4 : Fin (k1_t4_loop k1_t2).trips) : Fin 2 → Nat :=
  let c18_i32_71 : BitVec 32 := 18#32
  let v470 : Index := Scalar.indexCast c18_i32_71
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v471 : Index := Scalar.indexCast v71
  ![18, v471.toNat]
def k1_off154 (k1_t2 : Fin k1_t2_loop.trips) (k1_t4 : Fin (k1_t4_loop k1_t2).trips) : Fin 2 → Nat :=
  let c19_i32_72 : BitVec 32 := 19#32
  let v476 : Index := Scalar.indexCast c19_i32_72
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v477 : Index := Scalar.indexCast v71
  ![19, v477.toNat]
def k1_off155 (k1_t2 : Fin k1_t2_loop.trips) (k1_t4 : Fin (k1_t4_loop k1_t2).trips) : Fin 2 → Nat :=
  let c20_i32_73 : BitVec 32 := 20#32
  let v482 : Index := Scalar.indexCast c20_i32_73
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v483 : Index := Scalar.indexCast v71
  ![20, v483.toNat]
def k1_off156 (k1_t2 : Fin k1_t2_loop.trips) (k1_t4 : Fin (k1_t4_loop k1_t2).trips) : Fin 2 → Nat :=
  let c21_i32_74 : BitVec 32 := 21#32
  let v488 : Index := Scalar.indexCast c21_i32_74
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v489 : Index := Scalar.indexCast v71
  ![21, v489.toNat]
def k1_off157 (k1_t2 : Fin k1_t2_loop.trips) (k1_t4 : Fin (k1_t4_loop k1_t2).trips) : Fin 2 → Nat :=
  let c22_i32_75 : BitVec 32 := 22#32
  let v494 : Index := Scalar.indexCast c22_i32_75
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v495 : Index := Scalar.indexCast v71
  ![22, v495.toNat]
def k1_off158 (k1_t2 : Fin k1_t2_loop.trips) (k1_t4 : Fin (k1_t4_loop k1_t2).trips) : Fin 2 → Nat :=
  let c23_i32_76 : BitVec 32 := 23#32
  let v500 : Index := Scalar.indexCast c23_i32_76
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v501 : Index := Scalar.indexCast v71
  ![23, v501.toNat]
def k1_off159 (k1_t2 : Fin k1_t2_loop.trips) (k1_t4 : Fin (k1_t4_loop k1_t2).trips) : Fin 2 → Nat :=
  let c24_i32_77 : BitVec 32 := 24#32
  let v506 : Index := Scalar.indexCast c24_i32_77
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v507 : Index := Scalar.indexCast v71
  ![24, v507.toNat]
def k1_off160 (k1_t2 : Fin k1_t2_loop.trips) (k1_t4 : Fin (k1_t4_loop k1_t2).trips) : Fin 2 → Nat :=
  let c25_i32_78 : BitVec 32 := 25#32
  let v512 : Index := Scalar.indexCast c25_i32_78
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v513 : Index := Scalar.indexCast v71
  ![25, v513.toNat]
def k1_off161 (k1_t2 : Fin k1_t2_loop.trips) (k1_t4 : Fin (k1_t4_loop k1_t2).trips) : Fin 2 → Nat :=
  let c26_i32_79 : BitVec 32 := 26#32
  let v518 : Index := Scalar.indexCast c26_i32_79
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v519 : Index := Scalar.indexCast v71
  ![26, v519.toNat]
def k1_off162 (k1_t2 : Fin k1_t2_loop.trips) (k1_t4 : Fin (k1_t4_loop k1_t2).trips) : Fin 2 → Nat :=
  let c27_i32_80 : BitVec 32 := 27#32
  let v524 : Index := Scalar.indexCast c27_i32_80
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v525 : Index := Scalar.indexCast v71
  ![27, v525.toNat]
def k1_off163 (k1_t2 : Fin k1_t2_loop.trips) (k1_t4 : Fin (k1_t4_loop k1_t2).trips) : Fin 2 → Nat :=
  let c28_i32_81 : BitVec 32 := 28#32
  let v530 : Index := Scalar.indexCast c28_i32_81
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v531 : Index := Scalar.indexCast v71
  ![28, v531.toNat]
def k1_off164 (k1_t2 : Fin k1_t2_loop.trips) (k1_t4 : Fin (k1_t4_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let v620 : Index := Scalar.indexCast arg17
  let c0_82 : Index := 0#32
  ![v620.toNat, 0]
def k1_off165 (k1_t2 : Fin k1_t2_loop.trips) (k1_t4 : Fin (k1_t4_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let v624 : Index := Scalar.indexCast arg17
  let c16_83 : Index := 16#32
  ![v624.toNat, 16]
def k1_off166 (k1_t2 : Fin k1_t2_loop.trips) (k1_t4 : Fin (k1_t4_loop k1_t2).trips) (c0_i32_84 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v660 : BitVec 32 := Scalar.addi v69 c0_i32_84
  let v661 : Index := Scalar.indexCast v660
  let c0_85 : Index := 0#32
  ![v661.toNat, 0]
def k1_off167 (k1_t2 : Fin k1_t2_loop.trips) (k1_t4 : Fin (k1_t4_loop k1_t2).trips) (c0_i32_116 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v756 : BitVec 32 := Scalar.addi v69 c0_i32_116
  let v757 : Index := Scalar.indexCast v756
  let c16_117 : Index := 16#32
  ![v757.toNat, 16]
def k1_off168 (k1_t2 : Fin k1_t2_loop.trips) (k1_t4 : Fin (k1_t4_loop k1_t2).trips) (c0_i32_148 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v884 : BitVec 32 := Scalar.addi v71 c0_i32_148
  let v885 : Index := Scalar.indexCast v884
  let c0_149 : Index := 0#32
  ![v885.toNat, 0]
def k1_off169 (k1_t2 : Fin k1_t2_loop.trips) (k1_t4 : Fin (k1_t4_loop k1_t2).trips) (c0_i32_180 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_23 : BitVec 32 := 10#32
  let v31 : BitVec 32 := Scalar.addi v30 c10_i32_23
  let v32 : BitVec 32 := Scalar.subi v31 v30
  let c1_i32_24 : BitVec 32 := 1#32
  let v34 : BitVec 32 := Scalar.divsi v32 c1_i32_24
  let v35 : BitVec 32 := Scalar.muli v34 c1_i32_24
  let v36 : BitVec 32 := Scalar.addi v30 v35
  let c1_i32_26 : BitVec 32 := 1#32
  let arg17 : BitVec 32 := Scf.iv v36 c1_i32_26 k1_t4
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  let v71 : BitVec 32 := v70
  let v980 : BitVec 32 := Scalar.addi v71 c0_i32_180
  let v981 : Index := Scalar.indexCast v980
  let c16_181 : Index := 16#32
  ![v981.toNat, 16]
@[reducible] def k1_t5_loop (k1_t2 : Fin k1_t2_loop.trips) : Scf.Loop 32 :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_30 : BitVec 32 := 1#32
  ⟨v39, v45, c1_i32_30⟩
def k1_mult7 (k1_t2 : Fin k1_t2_loop.trips) (k1_t5 : Fin (k1_t5_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  v68
def k1_mult8 (k1_t2 : Fin k1_t2_loop.trips) (k1_t5 : Fin (k1_t5_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  v70
def k1_off170 (k1_t2 : Fin k1_t2_loop.trips) (k1_t5 : Fin (k1_t5_loop k1_t2).trips) : Fin 2 → Nat :=
  let c29_i32 : BitVec 32 := 29#32
  let v139 : Index := Scalar.indexCast c29_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v140 : Index := Scalar.indexCast v69
  ![29, v140.toNat]
def k1_off171 (k1_t2 : Fin k1_t2_loop.trips) (k1_t5 : Fin (k1_t5_loop k1_t2).trips) : Fin 2 → Nat :=
  let c0_i32_43 : BitVec 32 := 0#32
  let v143 : Index := Scalar.indexCast c0_i32_43
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v144 : Index := Scalar.indexCast v69
  ![0, v144.toNat]
def k1_off172 (k1_t2 : Fin k1_t2_loop.trips) (k1_t5 : Fin (k1_t5_loop k1_t2).trips) : Fin 2 → Nat :=
  let c1_i32_44 : BitVec 32 := 1#32
  let v149 : Index := Scalar.indexCast c1_i32_44
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v150 : Index := Scalar.indexCast v69
  ![1, v150.toNat]
def k1_off173 (k1_t2 : Fin k1_t2_loop.trips) (k1_t5 : Fin (k1_t5_loop k1_t2).trips) : Fin 2 → Nat :=
  let c2_i32 : BitVec 32 := 2#32
  let v155 : Index := Scalar.indexCast c2_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v156 : Index := Scalar.indexCast v69
  ![2, v156.toNat]
def k1_off174 (k1_t2 : Fin k1_t2_loop.trips) (k1_t5 : Fin (k1_t5_loop k1_t2).trips) : Fin 2 → Nat :=
  let c3_i32 : BitVec 32 := 3#32
  let v161 : Index := Scalar.indexCast c3_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v162 : Index := Scalar.indexCast v69
  ![3, v162.toNat]
def k1_off175 (k1_t2 : Fin k1_t2_loop.trips) (k1_t5 : Fin (k1_t5_loop k1_t2).trips) : Fin 2 → Nat :=
  let c4_i32 : BitVec 32 := 4#32
  let v167 : Index := Scalar.indexCast c4_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v168 : Index := Scalar.indexCast v69
  ![4, v168.toNat]
def k1_off176 (k1_t2 : Fin k1_t2_loop.trips) (k1_t5 : Fin (k1_t5_loop k1_t2).trips) : Fin 2 → Nat :=
  let c5_i32_45 : BitVec 32 := 5#32
  let v173 : Index := Scalar.indexCast c5_i32_45
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v174 : Index := Scalar.indexCast v69
  ![5, v174.toNat]
def k1_off177 (k1_t2 : Fin k1_t2_loop.trips) (k1_t5 : Fin (k1_t5_loop k1_t2).trips) : Fin 2 → Nat :=
  let c6_i32 : BitVec 32 := 6#32
  let v179 : Index := Scalar.indexCast c6_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v180 : Index := Scalar.indexCast v69
  ![6, v180.toNat]
def k1_off178 (k1_t2 : Fin k1_t2_loop.trips) (k1_t5 : Fin (k1_t5_loop k1_t2).trips) : Fin 2 → Nat :=
  let c7_i32 : BitVec 32 := 7#32
  let v185 : Index := Scalar.indexCast c7_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v186 : Index := Scalar.indexCast v69
  ![7, v186.toNat]
def k1_off179 (k1_t2 : Fin k1_t2_loop.trips) (k1_t5 : Fin (k1_t5_loop k1_t2).trips) : Fin 2 → Nat :=
  let c8_i32 : BitVec 32 := 8#32
  let v191 : Index := Scalar.indexCast c8_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v192 : Index := Scalar.indexCast v69
  ![8, v192.toNat]
def k1_off180 (k1_t2 : Fin k1_t2_loop.trips) (k1_t5 : Fin (k1_t5_loop k1_t2).trips) : Fin 2 → Nat :=
  let c9_i32 : BitVec 32 := 9#32
  let v197 : Index := Scalar.indexCast c9_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v198 : Index := Scalar.indexCast v69
  ![9, v198.toNat]
def k1_off181 (k1_t2 : Fin k1_t2_loop.trips) (k1_t5 : Fin (k1_t5_loop k1_t2).trips) : Fin 2 → Nat :=
  let c10_i32_46 : BitVec 32 := 10#32
  let v203 : Index := Scalar.indexCast c10_i32_46
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v204 : Index := Scalar.indexCast v69
  ![10, v204.toNat]
def k1_off182 (k1_t2 : Fin k1_t2_loop.trips) (k1_t5 : Fin (k1_t5_loop k1_t2).trips) : Fin 2 → Nat :=
  let c11_i32_47 : BitVec 32 := 11#32
  let v209 : Index := Scalar.indexCast c11_i32_47
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v210 : Index := Scalar.indexCast v69
  ![11, v210.toNat]
def k1_off183 (k1_t2 : Fin k1_t2_loop.trips) (k1_t5 : Fin (k1_t5_loop k1_t2).trips) : Fin 2 → Nat :=
  let c12_i32_48 : BitVec 32 := 12#32
  let v215 : Index := Scalar.indexCast c12_i32_48
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v216 : Index := Scalar.indexCast v69
  ![12, v216.toNat]
def k1_off184 (k1_t2 : Fin k1_t2_loop.trips) (k1_t5 : Fin (k1_t5_loop k1_t2).trips) : Fin 2 → Nat :=
  let c13_i32 : BitVec 32 := 13#32
  let v221 : Index := Scalar.indexCast c13_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v222 : Index := Scalar.indexCast v69
  ![13, v222.toNat]
def k1_off185 (k1_t2 : Fin k1_t2_loop.trips) (k1_t5 : Fin (k1_t5_loop k1_t2).trips) : Fin 2 → Nat :=
  let c14_i32 : BitVec 32 := 14#32
  let v227 : Index := Scalar.indexCast c14_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v228 : Index := Scalar.indexCast v69
  ![14, v228.toNat]
def k1_off186 (k1_t2 : Fin k1_t2_loop.trips) (k1_t5 : Fin (k1_t5_loop k1_t2).trips) : Fin 2 → Nat :=
  let c15_i32 : BitVec 32 := 15#32
  let v233 : Index := Scalar.indexCast c15_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v234 : Index := Scalar.indexCast v69
  ![15, v234.toNat]
def k1_off187 (k1_t2 : Fin k1_t2_loop.trips) (k1_t5 : Fin (k1_t5_loop k1_t2).trips) : Fin 2 → Nat :=
  let c16_i32_49 : BitVec 32 := 16#32
  let v239 : Index := Scalar.indexCast c16_i32_49
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v240 : Index := Scalar.indexCast v69
  ![16, v240.toNat]
def k1_off188 (k1_t2 : Fin k1_t2_loop.trips) (k1_t5 : Fin (k1_t5_loop k1_t2).trips) : Fin 2 → Nat :=
  let c17_i32 : BitVec 32 := 17#32
  let v245 : Index := Scalar.indexCast c17_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v246 : Index := Scalar.indexCast v69
  ![17, v246.toNat]
def k1_off189 (k1_t2 : Fin k1_t2_loop.trips) (k1_t5 : Fin (k1_t5_loop k1_t2).trips) : Fin 2 → Nat :=
  let c18_i32 : BitVec 32 := 18#32
  let v251 : Index := Scalar.indexCast c18_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v252 : Index := Scalar.indexCast v69
  ![18, v252.toNat]
def k1_off190 (k1_t2 : Fin k1_t2_loop.trips) (k1_t5 : Fin (k1_t5_loop k1_t2).trips) : Fin 2 → Nat :=
  let c19_i32 : BitVec 32 := 19#32
  let v257 : Index := Scalar.indexCast c19_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v258 : Index := Scalar.indexCast v69
  ![19, v258.toNat]
def k1_off191 (k1_t2 : Fin k1_t2_loop.trips) (k1_t5 : Fin (k1_t5_loop k1_t2).trips) : Fin 2 → Nat :=
  let c20_i32 : BitVec 32 := 20#32
  let v263 : Index := Scalar.indexCast c20_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v264 : Index := Scalar.indexCast v69
  ![20, v264.toNat]
def k1_off192 (k1_t2 : Fin k1_t2_loop.trips) (k1_t5 : Fin (k1_t5_loop k1_t2).trips) : Fin 2 → Nat :=
  let c21_i32 : BitVec 32 := 21#32
  let v269 : Index := Scalar.indexCast c21_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v270 : Index := Scalar.indexCast v69
  ![21, v270.toNat]
def k1_off193 (k1_t2 : Fin k1_t2_loop.trips) (k1_t5 : Fin (k1_t5_loop k1_t2).trips) : Fin 2 → Nat :=
  let c22_i32 : BitVec 32 := 22#32
  let v275 : Index := Scalar.indexCast c22_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v276 : Index := Scalar.indexCast v69
  ![22, v276.toNat]
def k1_off194 (k1_t2 : Fin k1_t2_loop.trips) (k1_t5 : Fin (k1_t5_loop k1_t2).trips) : Fin 2 → Nat :=
  let c23_i32 : BitVec 32 := 23#32
  let v281 : Index := Scalar.indexCast c23_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v282 : Index := Scalar.indexCast v69
  ![23, v282.toNat]
def k1_off195 (k1_t2 : Fin k1_t2_loop.trips) (k1_t5 : Fin (k1_t5_loop k1_t2).trips) : Fin 2 → Nat :=
  let c24_i32 : BitVec 32 := 24#32
  let v287 : Index := Scalar.indexCast c24_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v288 : Index := Scalar.indexCast v69
  ![24, v288.toNat]
def k1_off196 (k1_t2 : Fin k1_t2_loop.trips) (k1_t5 : Fin (k1_t5_loop k1_t2).trips) : Fin 2 → Nat :=
  let c25_i32 : BitVec 32 := 25#32
  let v293 : Index := Scalar.indexCast c25_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v294 : Index := Scalar.indexCast v69
  ![25, v294.toNat]
def k1_off197 (k1_t2 : Fin k1_t2_loop.trips) (k1_t5 : Fin (k1_t5_loop k1_t2).trips) : Fin 2 → Nat :=
  let c26_i32 : BitVec 32 := 26#32
  let v299 : Index := Scalar.indexCast c26_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v300 : Index := Scalar.indexCast v69
  ![26, v300.toNat]
def k1_off198 (k1_t2 : Fin k1_t2_loop.trips) (k1_t5 : Fin (k1_t5_loop k1_t2).trips) : Fin 2 → Nat :=
  let c27_i32 : BitVec 32 := 27#32
  let v305 : Index := Scalar.indexCast c27_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v306 : Index := Scalar.indexCast v69
  ![27, v306.toNat]
def k1_off199 (k1_t2 : Fin k1_t2_loop.trips) (k1_t5 : Fin (k1_t5_loop k1_t2).trips) : Fin 2 → Nat :=
  let c28_i32 : BitVec 32 := 28#32
  let v311 : Index := Scalar.indexCast c28_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v312 : Index := Scalar.indexCast v69
  ![28, v312.toNat]
def k1_off200 (k1_t2 : Fin k1_t2_loop.trips) (k1_t5 : Fin (k1_t5_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let v399 : Index := Scalar.indexCast arg17
  let c0_50 : Index := 0#32
  ![v399.toNat, 0]
def k1_off201 (k1_t2 : Fin k1_t2_loop.trips) (k1_t5 : Fin (k1_t5_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let v403 : Index := Scalar.indexCast arg17
  let c16_51 : Index := 16#32
  ![v403.toNat, 16]
def k1_off202 (k1_t2 : Fin k1_t2_loop.trips) (k1_t5 : Fin (k1_t5_loop k1_t2).trips) (c0_i32_52 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v439 : BitVec 32 := Scalar.addi v69 c0_i32_52
  let v440 : Index := Scalar.indexCast v439
  let c0_53 : Index := 0#32
  ![v440.toNat, 0]
def k1_off203 (k1_t2 : Fin k1_t2_loop.trips) (k1_t5 : Fin (k1_t5_loop k1_t2).trips) (c0_i32_84 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c1_i32_30 : BitVec 32 := 1#32
  let arg17 : BitVec 32 := Scf.iv v39 c1_i32_30 k1_t5
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v535 : BitVec 32 := Scalar.addi v69 c0_i32_84
  let v536 : Index := Scalar.indexCast v535
  let c16_85 : Index := 16#32
  ![v536.toNat, 16]
@[reducible] def k1_t6_loop (k1_t2 : Fin k1_t2_loop.trips) : Scf.Loop 32 :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let v42 : BitVec 32 := Scalar.addi v39 v41
  let c1_i32_31 : BitVec 32 := 1#32
  ⟨v45, v42, c1_i32_31⟩
def k1_mult9 (k1_t2 : Fin k1_t2_loop.trips) (k1_t6 : Fin (k1_t6_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  v68
def k1_mult10 (k1_t2 : Fin k1_t2_loop.trips) (k1_t6 : Fin (k1_t6_loop k1_t2).trips) : BitVec 32 :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let c16_i32_41 : BitVec 32 := 16#32
  let v70 : BitVec 32 := Scalar.addi v69 c16_i32_41
  v70
def k1_off204 (k1_t2 : Fin k1_t2_loop.trips) (k1_t6 : Fin (k1_t6_loop k1_t2).trips) : Fin 2 → Nat :=
  let c29_i32 : BitVec 32 := 29#32
  let v139 : Index := Scalar.indexCast c29_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v140 : Index := Scalar.indexCast v69
  ![29, v140.toNat]
def k1_off205 (k1_t2 : Fin k1_t2_loop.trips) (k1_t6 : Fin (k1_t6_loop k1_t2).trips) : Fin 2 → Nat :=
  let c0_i32_43 : BitVec 32 := 0#32
  let v143 : Index := Scalar.indexCast c0_i32_43
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v144 : Index := Scalar.indexCast v69
  ![0, v144.toNat]
def k1_off206 (k1_t2 : Fin k1_t2_loop.trips) (k1_t6 : Fin (k1_t6_loop k1_t2).trips) : Fin 2 → Nat :=
  let c1_i32_44 : BitVec 32 := 1#32
  let v149 : Index := Scalar.indexCast c1_i32_44
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v150 : Index := Scalar.indexCast v69
  ![1, v150.toNat]
def k1_off207 (k1_t2 : Fin k1_t2_loop.trips) (k1_t6 : Fin (k1_t6_loop k1_t2).trips) : Fin 2 → Nat :=
  let c2_i32 : BitVec 32 := 2#32
  let v155 : Index := Scalar.indexCast c2_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v156 : Index := Scalar.indexCast v69
  ![2, v156.toNat]
def k1_off208 (k1_t2 : Fin k1_t2_loop.trips) (k1_t6 : Fin (k1_t6_loop k1_t2).trips) : Fin 2 → Nat :=
  let c3_i32 : BitVec 32 := 3#32
  let v161 : Index := Scalar.indexCast c3_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v162 : Index := Scalar.indexCast v69
  ![3, v162.toNat]
def k1_off209 (k1_t2 : Fin k1_t2_loop.trips) (k1_t6 : Fin (k1_t6_loop k1_t2).trips) : Fin 2 → Nat :=
  let c4_i32 : BitVec 32 := 4#32
  let v167 : Index := Scalar.indexCast c4_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v168 : Index := Scalar.indexCast v69
  ![4, v168.toNat]
def k1_off210 (k1_t2 : Fin k1_t2_loop.trips) (k1_t6 : Fin (k1_t6_loop k1_t2).trips) : Fin 2 → Nat :=
  let c5_i32_45 : BitVec 32 := 5#32
  let v173 : Index := Scalar.indexCast c5_i32_45
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v174 : Index := Scalar.indexCast v69
  ![5, v174.toNat]
def k1_off211 (k1_t2 : Fin k1_t2_loop.trips) (k1_t6 : Fin (k1_t6_loop k1_t2).trips) : Fin 2 → Nat :=
  let c6_i32 : BitVec 32 := 6#32
  let v179 : Index := Scalar.indexCast c6_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v180 : Index := Scalar.indexCast v69
  ![6, v180.toNat]
def k1_off212 (k1_t2 : Fin k1_t2_loop.trips) (k1_t6 : Fin (k1_t6_loop k1_t2).trips) : Fin 2 → Nat :=
  let c7_i32 : BitVec 32 := 7#32
  let v185 : Index := Scalar.indexCast c7_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v186 : Index := Scalar.indexCast v69
  ![7, v186.toNat]
def k1_off213 (k1_t2 : Fin k1_t2_loop.trips) (k1_t6 : Fin (k1_t6_loop k1_t2).trips) : Fin 2 → Nat :=
  let c8_i32 : BitVec 32 := 8#32
  let v191 : Index := Scalar.indexCast c8_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v192 : Index := Scalar.indexCast v69
  ![8, v192.toNat]
def k1_off214 (k1_t2 : Fin k1_t2_loop.trips) (k1_t6 : Fin (k1_t6_loop k1_t2).trips) : Fin 2 → Nat :=
  let c9_i32 : BitVec 32 := 9#32
  let v197 : Index := Scalar.indexCast c9_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v198 : Index := Scalar.indexCast v69
  ![9, v198.toNat]
def k1_off215 (k1_t2 : Fin k1_t2_loop.trips) (k1_t6 : Fin (k1_t6_loop k1_t2).trips) : Fin 2 → Nat :=
  let c10_i32_46 : BitVec 32 := 10#32
  let v203 : Index := Scalar.indexCast c10_i32_46
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v204 : Index := Scalar.indexCast v69
  ![10, v204.toNat]
def k1_off216 (k1_t2 : Fin k1_t2_loop.trips) (k1_t6 : Fin (k1_t6_loop k1_t2).trips) : Fin 2 → Nat :=
  let c11_i32_47 : BitVec 32 := 11#32
  let v209 : Index := Scalar.indexCast c11_i32_47
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v210 : Index := Scalar.indexCast v69
  ![11, v210.toNat]
def k1_off217 (k1_t2 : Fin k1_t2_loop.trips) (k1_t6 : Fin (k1_t6_loop k1_t2).trips) : Fin 2 → Nat :=
  let c12_i32_48 : BitVec 32 := 12#32
  let v215 : Index := Scalar.indexCast c12_i32_48
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v216 : Index := Scalar.indexCast v69
  ![12, v216.toNat]
def k1_off218 (k1_t2 : Fin k1_t2_loop.trips) (k1_t6 : Fin (k1_t6_loop k1_t2).trips) : Fin 2 → Nat :=
  let c13_i32 : BitVec 32 := 13#32
  let v221 : Index := Scalar.indexCast c13_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v222 : Index := Scalar.indexCast v69
  ![13, v222.toNat]
def k1_off219 (k1_t2 : Fin k1_t2_loop.trips) (k1_t6 : Fin (k1_t6_loop k1_t2).trips) : Fin 2 → Nat :=
  let c14_i32 : BitVec 32 := 14#32
  let v227 : Index := Scalar.indexCast c14_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v228 : Index := Scalar.indexCast v69
  ![14, v228.toNat]
def k1_off220 (k1_t2 : Fin k1_t2_loop.trips) (k1_t6 : Fin (k1_t6_loop k1_t2).trips) : Fin 2 → Nat :=
  let c15_i32 : BitVec 32 := 15#32
  let v233 : Index := Scalar.indexCast c15_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v234 : Index := Scalar.indexCast v69
  ![15, v234.toNat]
def k1_off221 (k1_t2 : Fin k1_t2_loop.trips) (k1_t6 : Fin (k1_t6_loop k1_t2).trips) : Fin 2 → Nat :=
  let c16_i32_49 : BitVec 32 := 16#32
  let v239 : Index := Scalar.indexCast c16_i32_49
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v240 : Index := Scalar.indexCast v69
  ![16, v240.toNat]
def k1_off222 (k1_t2 : Fin k1_t2_loop.trips) (k1_t6 : Fin (k1_t6_loop k1_t2).trips) : Fin 2 → Nat :=
  let c17_i32 : BitVec 32 := 17#32
  let v245 : Index := Scalar.indexCast c17_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v246 : Index := Scalar.indexCast v69
  ![17, v246.toNat]
def k1_off223 (k1_t2 : Fin k1_t2_loop.trips) (k1_t6 : Fin (k1_t6_loop k1_t2).trips) : Fin 2 → Nat :=
  let c18_i32 : BitVec 32 := 18#32
  let v251 : Index := Scalar.indexCast c18_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v252 : Index := Scalar.indexCast v69
  ![18, v252.toNat]
def k1_off224 (k1_t2 : Fin k1_t2_loop.trips) (k1_t6 : Fin (k1_t6_loop k1_t2).trips) : Fin 2 → Nat :=
  let c19_i32 : BitVec 32 := 19#32
  let v257 : Index := Scalar.indexCast c19_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v258 : Index := Scalar.indexCast v69
  ![19, v258.toNat]
def k1_off225 (k1_t2 : Fin k1_t2_loop.trips) (k1_t6 : Fin (k1_t6_loop k1_t2).trips) : Fin 2 → Nat :=
  let c20_i32 : BitVec 32 := 20#32
  let v263 : Index := Scalar.indexCast c20_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v264 : Index := Scalar.indexCast v69
  ![20, v264.toNat]
def k1_off226 (k1_t2 : Fin k1_t2_loop.trips) (k1_t6 : Fin (k1_t6_loop k1_t2).trips) : Fin 2 → Nat :=
  let c21_i32 : BitVec 32 := 21#32
  let v269 : Index := Scalar.indexCast c21_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v270 : Index := Scalar.indexCast v69
  ![21, v270.toNat]
def k1_off227 (k1_t2 : Fin k1_t2_loop.trips) (k1_t6 : Fin (k1_t6_loop k1_t2).trips) : Fin 2 → Nat :=
  let c22_i32 : BitVec 32 := 22#32
  let v275 : Index := Scalar.indexCast c22_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v276 : Index := Scalar.indexCast v69
  ![22, v276.toNat]
def k1_off228 (k1_t2 : Fin k1_t2_loop.trips) (k1_t6 : Fin (k1_t6_loop k1_t2).trips) : Fin 2 → Nat :=
  let c23_i32 : BitVec 32 := 23#32
  let v281 : Index := Scalar.indexCast c23_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v282 : Index := Scalar.indexCast v69
  ![23, v282.toNat]
def k1_off229 (k1_t2 : Fin k1_t2_loop.trips) (k1_t6 : Fin (k1_t6_loop k1_t2).trips) : Fin 2 → Nat :=
  let c24_i32 : BitVec 32 := 24#32
  let v287 : Index := Scalar.indexCast c24_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v288 : Index := Scalar.indexCast v69
  ![24, v288.toNat]
def k1_off230 (k1_t2 : Fin k1_t2_loop.trips) (k1_t6 : Fin (k1_t6_loop k1_t2).trips) : Fin 2 → Nat :=
  let c25_i32 : BitVec 32 := 25#32
  let v293 : Index := Scalar.indexCast c25_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v294 : Index := Scalar.indexCast v69
  ![25, v294.toNat]
def k1_off231 (k1_t2 : Fin k1_t2_loop.trips) (k1_t6 : Fin (k1_t6_loop k1_t2).trips) : Fin 2 → Nat :=
  let c26_i32 : BitVec 32 := 26#32
  let v299 : Index := Scalar.indexCast c26_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v300 : Index := Scalar.indexCast v69
  ![26, v300.toNat]
def k1_off232 (k1_t2 : Fin k1_t2_loop.trips) (k1_t6 : Fin (k1_t6_loop k1_t2).trips) : Fin 2 → Nat :=
  let c27_i32 : BitVec 32 := 27#32
  let v305 : Index := Scalar.indexCast c27_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v306 : Index := Scalar.indexCast v69
  ![27, v306.toNat]
def k1_off233 (k1_t2 : Fin k1_t2_loop.trips) (k1_t6 : Fin (k1_t6_loop k1_t2).trips) : Fin 2 → Nat :=
  let c28_i32 : BitVec 32 := 28#32
  let v311 : Index := Scalar.indexCast c28_i32
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v312 : Index := Scalar.indexCast v69
  ![28, v312.toNat]
def k1_off234 (k1_t2 : Fin k1_t2_loop.trips) (k1_t6 : Fin (k1_t6_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let v399 : Index := Scalar.indexCast arg17
  let c0_50 : Index := 0#32
  ![v399.toNat, 0]
def k1_off235 (k1_t2 : Fin k1_t2_loop.trips) (k1_t6 : Fin (k1_t6_loop k1_t2).trips) : Fin 2 → Nat :=
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let v403 : Index := Scalar.indexCast arg17
  let c16_51 : Index := 16#32
  ![v403.toNat, 16]
def k1_off236 (k1_t2 : Fin k1_t2_loop.trips) (k1_t6 : Fin (k1_t6_loop k1_t2).trips) (c0_i32_52 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v439 : BitVec 32 := Scalar.addi v69 c0_i32_52
  let v440 : Index := Scalar.indexCast v439
  let c0_53 : Index := 0#32
  ![v440.toNat, 0]
def k1_off237 (k1_t2 : Fin k1_t2_loop.trips) (k1_t6 : Fin (k1_t6_loop k1_t2).trips) (c0_i32_84 : BitVec 32) : Fin 2 → Nat :=
  let c480_i32 : BitVec 32 := 480#32
  let c0_i32_40 : BitVec 32 := 0#32
  let c11_i32_22 : BitVec 32 := 11#32
  let c0_i32_10 : BitVec 32 := 0#32
  let c1_i32_11 : BitVec 32 := 1#32
  let arg14 : BitVec 32 := Scf.iv c0_i32_10 c1_i32_11 k1_t2
  let c16_i32 : BitVec 32 := 16#32
  let v29 : BitVec 32 := Scalar.muli arg14 c16_i32
  let v30 : BitVec 32 := Scalar.addi c11_i32_22 v29
  let c10_i32_27 : BitVec 32 := 10#32
  let v39 : BitVec 32 := Scalar.addi v30 c10_i32_27
  let c16_i32_28 : BitVec 32 := 16#32
  let v40 : BitVec 32 := Scalar.addi v30 c16_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg17 : BitVec 32 := Scf.iv v45 c1_i32_31 k1_t6
  let c5_i32 : BitVec 32 := 5#32
  let v48 : BitVec 32 := Scalar.subi arg17 c5_i32
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c16_i32_32 : BitVec 32 := 16#32
  let c0_i32_35 : BitVec 32 := 0#32
  let v55 : BitVec 1 := Scalar.cmpi .sgt c16_i32_32 c0_i32_35
  let v56 : BitVec 32 := Scalar.extui v55
  let c0_i32_36 : BitVec 32 := 0#32
  let v57 : BitVec 1 := Scalar.cmpi .slt c16_i32_32 c0_i32_36
  let v58 : BitVec 32 := Scalar.extui v57
  let v59 : BitVec 32 := Scalar.subi v56 v58
  let v60 : BitVec 1 := Scalar.cmpi .ne v54 v59
  let v61 : BitVec 32 := Scalar.remsi v48 c16_i32_32
  let c0_i32_37 : BitVec 32 := 0#32
  let v62 : BitVec 1 := Scalar.cmpi .ne v61 c0_i32_37
  let v63 : BitVec 1 := Scalar.andi v60 v62
  let v49 : BitVec 32 := Scalar.divsi v48 c16_i32_32
  let c1_i32_38 : BitVec 32 := 1#32
  let v64 : BitVec 32 := Scalar.subi v49 c1_i32_38
  let v65 : BitVec 32 := Scalar.select v63 v64 v49
  let c16_i32_39 : BitVec 32 := 16#32
  let v66 : BitVec 32 := Scalar.muli v65 c16_i32_39
  let v67 : BitVec 32 := Scalar.maxsi c0_i32_40 v66
  let v68 : BitVec 32 := Scalar.minsi c480_i32 v67
  let v69 : BitVec 32 := v68
  let v535 : BitVec 32 := Scalar.addi v69 c0_i32_84
  let v536 : Index := Scalar.indexCast v535
  let c16_85 : Index := 16#32
  ![v536.toNat, 16]
@[reducible] def k1_t7_loop : Scf.Loop 32 :=
  let c491_i32 : BitVec 32 := 491#32
  let c10_i32 : BitVec 32 := 10#32
  let v23 : BitVec 32 := Scalar.addi c491_i32 c10_i32
  let c1_i32_14 : BitVec 32 := 1#32
  ⟨c491_i32, v23, c1_i32_14⟩
def k1_mult11 (k1_t7 : Fin k1_t7_loop.trips) : BitVec 32 :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  v49
def k1_mult12 (k1_t7 : Fin k1_t7_loop.trips) : BitVec 32 :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  v51
def k1_off238 (k1_t7 : Fin k1_t7_loop.trips) : Fin 2 → Nat :=
  let c29_i32 : BitVec 32 := 29#32
  let v120 : Index := Scalar.indexCast c29_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v121 : Index := Scalar.indexCast v50
  ![29, v121.toNat]
def k1_off239 (k1_t7 : Fin k1_t7_loop.trips) : Fin 2 → Nat :=
  let c0_i32_32 : BitVec 32 := 0#32
  let v124 : Index := Scalar.indexCast c0_i32_32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v125 : Index := Scalar.indexCast v50
  ![0, v125.toNat]
def k1_off240 (k1_t7 : Fin k1_t7_loop.trips) : Fin 2 → Nat :=
  let c1_i32_33 : BitVec 32 := 1#32
  let v130 : Index := Scalar.indexCast c1_i32_33
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v131 : Index := Scalar.indexCast v50
  ![1, v131.toNat]
def k1_off241 (k1_t7 : Fin k1_t7_loop.trips) : Fin 2 → Nat :=
  let c2_i32 : BitVec 32 := 2#32
  let v136 : Index := Scalar.indexCast c2_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v137 : Index := Scalar.indexCast v50
  ![2, v137.toNat]
def k1_off242 (k1_t7 : Fin k1_t7_loop.trips) : Fin 2 → Nat :=
  let c3_i32 : BitVec 32 := 3#32
  let v142 : Index := Scalar.indexCast c3_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v143 : Index := Scalar.indexCast v50
  ![3, v143.toNat]
def k1_off243 (k1_t7 : Fin k1_t7_loop.trips) : Fin 2 → Nat :=
  let c4_i32 : BitVec 32 := 4#32
  let v148 : Index := Scalar.indexCast c4_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v149 : Index := Scalar.indexCast v50
  ![4, v149.toNat]
def k1_off244 (k1_t7 : Fin k1_t7_loop.trips) : Fin 2 → Nat :=
  let c5_i32_34 : BitVec 32 := 5#32
  let v154 : Index := Scalar.indexCast c5_i32_34
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v155 : Index := Scalar.indexCast v50
  ![5, v155.toNat]
def k1_off245 (k1_t7 : Fin k1_t7_loop.trips) : Fin 2 → Nat :=
  let c6_i32 : BitVec 32 := 6#32
  let v160 : Index := Scalar.indexCast c6_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v161 : Index := Scalar.indexCast v50
  ![6, v161.toNat]
def k1_off246 (k1_t7 : Fin k1_t7_loop.trips) : Fin 2 → Nat :=
  let c7_i32 : BitVec 32 := 7#32
  let v166 : Index := Scalar.indexCast c7_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v167 : Index := Scalar.indexCast v50
  ![7, v167.toNat]
def k1_off247 (k1_t7 : Fin k1_t7_loop.trips) : Fin 2 → Nat :=
  let c8_i32 : BitVec 32 := 8#32
  let v172 : Index := Scalar.indexCast c8_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v173 : Index := Scalar.indexCast v50
  ![8, v173.toNat]
def k1_off248 (k1_t7 : Fin k1_t7_loop.trips) : Fin 2 → Nat :=
  let c9_i32 : BitVec 32 := 9#32
  let v178 : Index := Scalar.indexCast c9_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v179 : Index := Scalar.indexCast v50
  ![9, v179.toNat]
def k1_off249 (k1_t7 : Fin k1_t7_loop.trips) : Fin 2 → Nat :=
  let c10_i32_35 : BitVec 32 := 10#32
  let v184 : Index := Scalar.indexCast c10_i32_35
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v185 : Index := Scalar.indexCast v50
  ![10, v185.toNat]
def k1_off250 (k1_t7 : Fin k1_t7_loop.trips) : Fin 2 → Nat :=
  let c11_i32_36 : BitVec 32 := 11#32
  let v190 : Index := Scalar.indexCast c11_i32_36
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v191 : Index := Scalar.indexCast v50
  ![11, v191.toNat]
def k1_off251 (k1_t7 : Fin k1_t7_loop.trips) : Fin 2 → Nat :=
  let c12_i32_37 : BitVec 32 := 12#32
  let v196 : Index := Scalar.indexCast c12_i32_37
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v197 : Index := Scalar.indexCast v50
  ![12, v197.toNat]
def k1_off252 (k1_t7 : Fin k1_t7_loop.trips) : Fin 2 → Nat :=
  let c13_i32 : BitVec 32 := 13#32
  let v202 : Index := Scalar.indexCast c13_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v203 : Index := Scalar.indexCast v50
  ![13, v203.toNat]
def k1_off253 (k1_t7 : Fin k1_t7_loop.trips) : Fin 2 → Nat :=
  let c14_i32 : BitVec 32 := 14#32
  let v208 : Index := Scalar.indexCast c14_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v209 : Index := Scalar.indexCast v50
  ![14, v209.toNat]
def k1_off254 (k1_t7 : Fin k1_t7_loop.trips) : Fin 2 → Nat :=
  let c15_i32 : BitVec 32 := 15#32
  let v214 : Index := Scalar.indexCast c15_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v215 : Index := Scalar.indexCast v50
  ![15, v215.toNat]
def k1_off255 (k1_t7 : Fin k1_t7_loop.trips) : Fin 2 → Nat :=
  let c16_i32_38 : BitVec 32 := 16#32
  let v220 : Index := Scalar.indexCast c16_i32_38
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v221 : Index := Scalar.indexCast v50
  ![16, v221.toNat]
def k1_off256 (k1_t7 : Fin k1_t7_loop.trips) : Fin 2 → Nat :=
  let c17_i32 : BitVec 32 := 17#32
  let v226 : Index := Scalar.indexCast c17_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v227 : Index := Scalar.indexCast v50
  ![17, v227.toNat]
def k1_off257 (k1_t7 : Fin k1_t7_loop.trips) : Fin 2 → Nat :=
  let c18_i32 : BitVec 32 := 18#32
  let v232 : Index := Scalar.indexCast c18_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v233 : Index := Scalar.indexCast v50
  ![18, v233.toNat]
def k1_off258 (k1_t7 : Fin k1_t7_loop.trips) : Fin 2 → Nat :=
  let c19_i32 : BitVec 32 := 19#32
  let v238 : Index := Scalar.indexCast c19_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v239 : Index := Scalar.indexCast v50
  ![19, v239.toNat]
def k1_off259 (k1_t7 : Fin k1_t7_loop.trips) : Fin 2 → Nat :=
  let c20_i32 : BitVec 32 := 20#32
  let v244 : Index := Scalar.indexCast c20_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v245 : Index := Scalar.indexCast v50
  ![20, v245.toNat]
def k1_off260 (k1_t7 : Fin k1_t7_loop.trips) : Fin 2 → Nat :=
  let c21_i32 : BitVec 32 := 21#32
  let v250 : Index := Scalar.indexCast c21_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v251 : Index := Scalar.indexCast v50
  ![21, v251.toNat]
def k1_off261 (k1_t7 : Fin k1_t7_loop.trips) : Fin 2 → Nat :=
  let c22_i32 : BitVec 32 := 22#32
  let v256 : Index := Scalar.indexCast c22_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v257 : Index := Scalar.indexCast v50
  ![22, v257.toNat]
def k1_off262 (k1_t7 : Fin k1_t7_loop.trips) : Fin 2 → Nat :=
  let c23_i32 : BitVec 32 := 23#32
  let v262 : Index := Scalar.indexCast c23_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v263 : Index := Scalar.indexCast v50
  ![23, v263.toNat]
def k1_off263 (k1_t7 : Fin k1_t7_loop.trips) : Fin 2 → Nat :=
  let c24_i32 : BitVec 32 := 24#32
  let v268 : Index := Scalar.indexCast c24_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v269 : Index := Scalar.indexCast v50
  ![24, v269.toNat]
def k1_off264 (k1_t7 : Fin k1_t7_loop.trips) : Fin 2 → Nat :=
  let c25_i32 : BitVec 32 := 25#32
  let v274 : Index := Scalar.indexCast c25_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v275 : Index := Scalar.indexCast v50
  ![25, v275.toNat]
def k1_off265 (k1_t7 : Fin k1_t7_loop.trips) : Fin 2 → Nat :=
  let c26_i32 : BitVec 32 := 26#32
  let v280 : Index := Scalar.indexCast c26_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v281 : Index := Scalar.indexCast v50
  ![26, v281.toNat]
def k1_off266 (k1_t7 : Fin k1_t7_loop.trips) : Fin 2 → Nat :=
  let c27_i32 : BitVec 32 := 27#32
  let v286 : Index := Scalar.indexCast c27_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v287 : Index := Scalar.indexCast v50
  ![27, v287.toNat]
def k1_off267 (k1_t7 : Fin k1_t7_loop.trips) : Fin 2 → Nat :=
  let c28_i32 : BitVec 32 := 28#32
  let v292 : Index := Scalar.indexCast c28_i32
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v293 : Index := Scalar.indexCast v50
  ![28, v293.toNat]
def k1_off268 (k1_t7 : Fin k1_t7_loop.trips) : Fin 2 → Nat :=
  let c29_i32_41 : BitVec 32 := 29#32
  let v339 : Index := Scalar.indexCast c29_i32_41
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v340 : Index := Scalar.indexCast v52
  ![29, v340.toNat]
def k1_off269 (k1_t7 : Fin k1_t7_loop.trips) : Fin 2 → Nat :=
  let c0_i32_42 : BitVec 32 := 0#32
  let v343 : Index := Scalar.indexCast c0_i32_42
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v344 : Index := Scalar.indexCast v52
  ![0, v344.toNat]
def k1_off270 (k1_t7 : Fin k1_t7_loop.trips) : Fin 2 → Nat :=
  let c1_i32_43 : BitVec 32 := 1#32
  let v349 : Index := Scalar.indexCast c1_i32_43
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v350 : Index := Scalar.indexCast v52
  ![1, v350.toNat]
def k1_off271 (k1_t7 : Fin k1_t7_loop.trips) : Fin 2 → Nat :=
  let c2_i32_44 : BitVec 32 := 2#32
  let v355 : Index := Scalar.indexCast c2_i32_44
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v356 : Index := Scalar.indexCast v52
  ![2, v356.toNat]
def k1_off272 (k1_t7 : Fin k1_t7_loop.trips) : Fin 2 → Nat :=
  let c3_i32_45 : BitVec 32 := 3#32
  let v361 : Index := Scalar.indexCast c3_i32_45
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v362 : Index := Scalar.indexCast v52
  ![3, v362.toNat]
def k1_off273 (k1_t7 : Fin k1_t7_loop.trips) : Fin 2 → Nat :=
  let c4_i32_46 : BitVec 32 := 4#32
  let v367 : Index := Scalar.indexCast c4_i32_46
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v368 : Index := Scalar.indexCast v52
  ![4, v368.toNat]
def k1_off274 (k1_t7 : Fin k1_t7_loop.trips) : Fin 2 → Nat :=
  let c5_i32_47 : BitVec 32 := 5#32
  let v373 : Index := Scalar.indexCast c5_i32_47
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v374 : Index := Scalar.indexCast v52
  ![5, v374.toNat]
def k1_off275 (k1_t7 : Fin k1_t7_loop.trips) : Fin 2 → Nat :=
  let c6_i32_48 : BitVec 32 := 6#32
  let v379 : Index := Scalar.indexCast c6_i32_48
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v380 : Index := Scalar.indexCast v52
  ![6, v380.toNat]
def k1_off276 (k1_t7 : Fin k1_t7_loop.trips) : Fin 2 → Nat :=
  let c7_i32_49 : BitVec 32 := 7#32
  let v385 : Index := Scalar.indexCast c7_i32_49
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v386 : Index := Scalar.indexCast v52
  ![7, v386.toNat]
def k1_off277 (k1_t7 : Fin k1_t7_loop.trips) : Fin 2 → Nat :=
  let c8_i32_50 : BitVec 32 := 8#32
  let v391 : Index := Scalar.indexCast c8_i32_50
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v392 : Index := Scalar.indexCast v52
  ![8, v392.toNat]
def k1_off278 (k1_t7 : Fin k1_t7_loop.trips) : Fin 2 → Nat :=
  let c9_i32_51 : BitVec 32 := 9#32
  let v397 : Index := Scalar.indexCast c9_i32_51
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v398 : Index := Scalar.indexCast v52
  ![9, v398.toNat]
def k1_off279 (k1_t7 : Fin k1_t7_loop.trips) : Fin 2 → Nat :=
  let c10_i32_52 : BitVec 32 := 10#32
  let v403 : Index := Scalar.indexCast c10_i32_52
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v404 : Index := Scalar.indexCast v52
  ![10, v404.toNat]
def k1_off280 (k1_t7 : Fin k1_t7_loop.trips) : Fin 2 → Nat :=
  let c11_i32_53 : BitVec 32 := 11#32
  let v409 : Index := Scalar.indexCast c11_i32_53
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v410 : Index := Scalar.indexCast v52
  ![11, v410.toNat]
def k1_off281 (k1_t7 : Fin k1_t7_loop.trips) : Fin 2 → Nat :=
  let c12_i32_54 : BitVec 32 := 12#32
  let v415 : Index := Scalar.indexCast c12_i32_54
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v416 : Index := Scalar.indexCast v52
  ![12, v416.toNat]
def k1_off282 (k1_t7 : Fin k1_t7_loop.trips) : Fin 2 → Nat :=
  let c13_i32_55 : BitVec 32 := 13#32
  let v421 : Index := Scalar.indexCast c13_i32_55
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v422 : Index := Scalar.indexCast v52
  ![13, v422.toNat]
def k1_off283 (k1_t7 : Fin k1_t7_loop.trips) : Fin 2 → Nat :=
  let c14_i32_56 : BitVec 32 := 14#32
  let v427 : Index := Scalar.indexCast c14_i32_56
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v428 : Index := Scalar.indexCast v52
  ![14, v428.toNat]
def k1_off284 (k1_t7 : Fin k1_t7_loop.trips) : Fin 2 → Nat :=
  let c15_i32_57 : BitVec 32 := 15#32
  let v433 : Index := Scalar.indexCast c15_i32_57
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v434 : Index := Scalar.indexCast v52
  ![15, v434.toNat]
def k1_off285 (k1_t7 : Fin k1_t7_loop.trips) : Fin 2 → Nat :=
  let c16_i32_58 : BitVec 32 := 16#32
  let v439 : Index := Scalar.indexCast c16_i32_58
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v440 : Index := Scalar.indexCast v52
  ![16, v440.toNat]
def k1_off286 (k1_t7 : Fin k1_t7_loop.trips) : Fin 2 → Nat :=
  let c17_i32_59 : BitVec 32 := 17#32
  let v445 : Index := Scalar.indexCast c17_i32_59
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v446 : Index := Scalar.indexCast v52
  ![17, v446.toNat]
def k1_off287 (k1_t7 : Fin k1_t7_loop.trips) : Fin 2 → Nat :=
  let c18_i32_60 : BitVec 32 := 18#32
  let v451 : Index := Scalar.indexCast c18_i32_60
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v452 : Index := Scalar.indexCast v52
  ![18, v452.toNat]
def k1_off288 (k1_t7 : Fin k1_t7_loop.trips) : Fin 2 → Nat :=
  let c19_i32_61 : BitVec 32 := 19#32
  let v457 : Index := Scalar.indexCast c19_i32_61
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v458 : Index := Scalar.indexCast v52
  ![19, v458.toNat]
def k1_off289 (k1_t7 : Fin k1_t7_loop.trips) : Fin 2 → Nat :=
  let c20_i32_62 : BitVec 32 := 20#32
  let v463 : Index := Scalar.indexCast c20_i32_62
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v464 : Index := Scalar.indexCast v52
  ![20, v464.toNat]
def k1_off290 (k1_t7 : Fin k1_t7_loop.trips) : Fin 2 → Nat :=
  let c21_i32_63 : BitVec 32 := 21#32
  let v469 : Index := Scalar.indexCast c21_i32_63
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v470 : Index := Scalar.indexCast v52
  ![21, v470.toNat]
def k1_off291 (k1_t7 : Fin k1_t7_loop.trips) : Fin 2 → Nat :=
  let c22_i32_64 : BitVec 32 := 22#32
  let v475 : Index := Scalar.indexCast c22_i32_64
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v476 : Index := Scalar.indexCast v52
  ![22, v476.toNat]
def k1_off292 (k1_t7 : Fin k1_t7_loop.trips) : Fin 2 → Nat :=
  let c23_i32_65 : BitVec 32 := 23#32
  let v481 : Index := Scalar.indexCast c23_i32_65
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v482 : Index := Scalar.indexCast v52
  ![23, v482.toNat]
def k1_off293 (k1_t7 : Fin k1_t7_loop.trips) : Fin 2 → Nat :=
  let c24_i32_66 : BitVec 32 := 24#32
  let v487 : Index := Scalar.indexCast c24_i32_66
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v488 : Index := Scalar.indexCast v52
  ![24, v488.toNat]
def k1_off294 (k1_t7 : Fin k1_t7_loop.trips) : Fin 2 → Nat :=
  let c25_i32_67 : BitVec 32 := 25#32
  let v493 : Index := Scalar.indexCast c25_i32_67
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v494 : Index := Scalar.indexCast v52
  ![25, v494.toNat]
def k1_off295 (k1_t7 : Fin k1_t7_loop.trips) : Fin 2 → Nat :=
  let c26_i32_68 : BitVec 32 := 26#32
  let v499 : Index := Scalar.indexCast c26_i32_68
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v500 : Index := Scalar.indexCast v52
  ![26, v500.toNat]
def k1_off296 (k1_t7 : Fin k1_t7_loop.trips) : Fin 2 → Nat :=
  let c27_i32_69 : BitVec 32 := 27#32
  let v505 : Index := Scalar.indexCast c27_i32_69
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v506 : Index := Scalar.indexCast v52
  ![27, v506.toNat]
def k1_off297 (k1_t7 : Fin k1_t7_loop.trips) : Fin 2 → Nat :=
  let c28_i32_70 : BitVec 32 := 28#32
  let v511 : Index := Scalar.indexCast c28_i32_70
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v512 : Index := Scalar.indexCast v52
  ![28, v512.toNat]
def k1_off298 (k1_t7 : Fin k1_t7_loop.trips) : Fin 2 → Nat :=
  let c491_i32 : BitVec 32 := 491#32
  let c1_i32_14 : BitVec 32 := 1#32
  let arg14 : BitVec 32 := Scf.iv c491_i32 c1_i32_14 k1_t7
  let v601 : Index := Scalar.indexCast arg14
  let c0_71 : Index := 0#32
  ![v601.toNat, 0]
def k1_off299 (k1_t7 : Fin k1_t7_loop.trips) : Fin 2 → Nat :=
  let c491_i32 : BitVec 32 := 491#32
  let c1_i32_14 : BitVec 32 := 1#32
  let arg14 : BitVec 32 := Scf.iv c491_i32 c1_i32_14 k1_t7
  let v605 : Index := Scalar.indexCast arg14
  let c16_72 : Index := 16#32
  ![v605.toNat, 16]
def k1_off300 (k1_t7 : Fin k1_t7_loop.trips) (c0_i32_73 : BitVec 32) : Fin 2 → Nat :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v641 : BitVec 32 := Scalar.addi v50 c0_i32_73
  let v642 : Index := Scalar.indexCast v641
  let c0_74 : Index := 0#32
  ![v642.toNat, 0]
def k1_off301 (k1_t7 : Fin k1_t7_loop.trips) (c0_i32_105 : BitVec 32) : Fin 2 → Nat :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let v737 : BitVec 32 := Scalar.addi v50 c0_i32_105
  let v738 : Index := Scalar.indexCast v737
  let c16_106 : Index := 16#32
  ![v738.toNat, 16]
def k1_off302 (k1_t7 : Fin k1_t7_loop.trips) (c0_i32_137 : BitVec 32) : Fin 2 → Nat :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v865 : BitVec 32 := Scalar.addi v52 c0_i32_137
  let v866 : Index := Scalar.indexCast v865
  let c0_138 : Index := 0#32
  ![v866.toNat, 0]
def k1_off303 (k1_t7 : Fin k1_t7_loop.trips) (c0_i32_169 : BitVec 32) : Fin 2 → Nat :=
  let c480_i32 : BitVec 32 := 480#32
  let c0_i32_29 : BitVec 32 := 0#32
  let c491_i32 : BitVec 32 := 491#32
  let c1_i32_14 : BitVec 32 := 1#32
  let arg14 : BitVec 32 := Scf.iv c491_i32 c1_i32_14 k1_t7
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v961 : BitVec 32 := Scalar.addi v52 c0_i32_169
  let v962 : Index := Scalar.indexCast v961
  let c16_170 : Index := 16#32
  ![v962.toNat, 16]
@[reducible] def k1_t8_loop : Scf.Loop 32 :=
  let c501_i32 : BitVec 32 := 501#32
  let c11_i32_17 : BitVec 32 := 11#32
  let v25 : BitVec 32 := Scalar.addi c501_i32 c11_i32_17
  let c1_i32_18 : BitVec 32 := 1#32
  ⟨c501_i32, v25, c1_i32_18⟩
def k1_mult13 (k1_t8 : Fin k1_t8_loop.trips) : BitVec 32 :=
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  v49
def k1_mult14 (k1_t8 : Fin k1_t8_loop.trips) : BitVec 32 :=
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  v51
def k1_off304 (k1_t8 : Fin k1_t8_loop.trips) : Fin 2 → Nat :=
  let c29_i32 : BitVec 32 := 29#32
  let v122 : Index := Scalar.indexCast c29_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v123 : Index := Scalar.indexCast v52
  ![29, v123.toNat]
def k1_off305 (k1_t8 : Fin k1_t8_loop.trips) : Fin 2 → Nat :=
  let c0_i32_33 : BitVec 32 := 0#32
  let v126 : Index := Scalar.indexCast c0_i32_33
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v127 : Index := Scalar.indexCast v52
  ![0, v127.toNat]
def k1_off306 (k1_t8 : Fin k1_t8_loop.trips) : Fin 2 → Nat :=
  let c1_i32_34 : BitVec 32 := 1#32
  let v132 : Index := Scalar.indexCast c1_i32_34
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v133 : Index := Scalar.indexCast v52
  ![1, v133.toNat]
def k1_off307 (k1_t8 : Fin k1_t8_loop.trips) : Fin 2 → Nat :=
  let c2_i32 : BitVec 32 := 2#32
  let v138 : Index := Scalar.indexCast c2_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v139 : Index := Scalar.indexCast v52
  ![2, v139.toNat]
def k1_off308 (k1_t8 : Fin k1_t8_loop.trips) : Fin 2 → Nat :=
  let c3_i32 : BitVec 32 := 3#32
  let v144 : Index := Scalar.indexCast c3_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v145 : Index := Scalar.indexCast v52
  ![3, v145.toNat]
def k1_off309 (k1_t8 : Fin k1_t8_loop.trips) : Fin 2 → Nat :=
  let c4_i32 : BitVec 32 := 4#32
  let v150 : Index := Scalar.indexCast c4_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v151 : Index := Scalar.indexCast v52
  ![4, v151.toNat]
def k1_off310 (k1_t8 : Fin k1_t8_loop.trips) : Fin 2 → Nat :=
  let c5_i32_35 : BitVec 32 := 5#32
  let v156 : Index := Scalar.indexCast c5_i32_35
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v157 : Index := Scalar.indexCast v52
  ![5, v157.toNat]
def k1_off311 (k1_t8 : Fin k1_t8_loop.trips) : Fin 2 → Nat :=
  let c6_i32 : BitVec 32 := 6#32
  let v162 : Index := Scalar.indexCast c6_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v163 : Index := Scalar.indexCast v52
  ![6, v163.toNat]
def k1_off312 (k1_t8 : Fin k1_t8_loop.trips) : Fin 2 → Nat :=
  let c7_i32 : BitVec 32 := 7#32
  let v168 : Index := Scalar.indexCast c7_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v169 : Index := Scalar.indexCast v52
  ![7, v169.toNat]
def k1_off313 (k1_t8 : Fin k1_t8_loop.trips) : Fin 2 → Nat :=
  let c8_i32 : BitVec 32 := 8#32
  let v174 : Index := Scalar.indexCast c8_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v175 : Index := Scalar.indexCast v52
  ![8, v175.toNat]
def k1_off314 (k1_t8 : Fin k1_t8_loop.trips) : Fin 2 → Nat :=
  let c9_i32 : BitVec 32 := 9#32
  let v180 : Index := Scalar.indexCast c9_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v181 : Index := Scalar.indexCast v52
  ![9, v181.toNat]
def k1_off315 (k1_t8 : Fin k1_t8_loop.trips) : Fin 2 → Nat :=
  let c10_i32_36 : BitVec 32 := 10#32
  let v186 : Index := Scalar.indexCast c10_i32_36
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v187 : Index := Scalar.indexCast v52
  ![10, v187.toNat]
def k1_off316 (k1_t8 : Fin k1_t8_loop.trips) : Fin 2 → Nat :=
  let c11_i32_37 : BitVec 32 := 11#32
  let v192 : Index := Scalar.indexCast c11_i32_37
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v193 : Index := Scalar.indexCast v52
  ![11, v193.toNat]
def k1_off317 (k1_t8 : Fin k1_t8_loop.trips) : Fin 2 → Nat :=
  let c12_i32_38 : BitVec 32 := 12#32
  let v198 : Index := Scalar.indexCast c12_i32_38
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v199 : Index := Scalar.indexCast v52
  ![12, v199.toNat]
def k1_off318 (k1_t8 : Fin k1_t8_loop.trips) : Fin 2 → Nat :=
  let c13_i32 : BitVec 32 := 13#32
  let v204 : Index := Scalar.indexCast c13_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v205 : Index := Scalar.indexCast v52
  ![13, v205.toNat]
def k1_off319 (k1_t8 : Fin k1_t8_loop.trips) : Fin 2 → Nat :=
  let c14_i32 : BitVec 32 := 14#32
  let v210 : Index := Scalar.indexCast c14_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v211 : Index := Scalar.indexCast v52
  ![14, v211.toNat]
def k1_off320 (k1_t8 : Fin k1_t8_loop.trips) : Fin 2 → Nat :=
  let c15_i32 : BitVec 32 := 15#32
  let v216 : Index := Scalar.indexCast c15_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v217 : Index := Scalar.indexCast v52
  ![15, v217.toNat]
def k1_off321 (k1_t8 : Fin k1_t8_loop.trips) : Fin 2 → Nat :=
  let c16_i32_39 : BitVec 32 := 16#32
  let v222 : Index := Scalar.indexCast c16_i32_39
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v223 : Index := Scalar.indexCast v52
  ![16, v223.toNat]
def k1_off322 (k1_t8 : Fin k1_t8_loop.trips) : Fin 2 → Nat :=
  let c17_i32 : BitVec 32 := 17#32
  let v228 : Index := Scalar.indexCast c17_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v229 : Index := Scalar.indexCast v52
  ![17, v229.toNat]
def k1_off323 (k1_t8 : Fin k1_t8_loop.trips) : Fin 2 → Nat :=
  let c18_i32 : BitVec 32 := 18#32
  let v234 : Index := Scalar.indexCast c18_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v235 : Index := Scalar.indexCast v52
  ![18, v235.toNat]
def k1_off324 (k1_t8 : Fin k1_t8_loop.trips) : Fin 2 → Nat :=
  let c19_i32 : BitVec 32 := 19#32
  let v240 : Index := Scalar.indexCast c19_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v241 : Index := Scalar.indexCast v52
  ![19, v241.toNat]
def k1_off325 (k1_t8 : Fin k1_t8_loop.trips) : Fin 2 → Nat :=
  let c20_i32 : BitVec 32 := 20#32
  let v246 : Index := Scalar.indexCast c20_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v247 : Index := Scalar.indexCast v52
  ![20, v247.toNat]
def k1_off326 (k1_t8 : Fin k1_t8_loop.trips) : Fin 2 → Nat :=
  let c21_i32 : BitVec 32 := 21#32
  let v252 : Index := Scalar.indexCast c21_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v253 : Index := Scalar.indexCast v52
  ![21, v253.toNat]
def k1_off327 (k1_t8 : Fin k1_t8_loop.trips) : Fin 2 → Nat :=
  let c22_i32 : BitVec 32 := 22#32
  let v258 : Index := Scalar.indexCast c22_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v259 : Index := Scalar.indexCast v52
  ![22, v259.toNat]
def k1_off328 (k1_t8 : Fin k1_t8_loop.trips) : Fin 2 → Nat :=
  let c23_i32 : BitVec 32 := 23#32
  let v264 : Index := Scalar.indexCast c23_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v265 : Index := Scalar.indexCast v52
  ![23, v265.toNat]
def k1_off329 (k1_t8 : Fin k1_t8_loop.trips) : Fin 2 → Nat :=
  let c24_i32 : BitVec 32 := 24#32
  let v270 : Index := Scalar.indexCast c24_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v271 : Index := Scalar.indexCast v52
  ![24, v271.toNat]
def k1_off330 (k1_t8 : Fin k1_t8_loop.trips) : Fin 2 → Nat :=
  let c25_i32 : BitVec 32 := 25#32
  let v276 : Index := Scalar.indexCast c25_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v277 : Index := Scalar.indexCast v52
  ![25, v277.toNat]
def k1_off331 (k1_t8 : Fin k1_t8_loop.trips) : Fin 2 → Nat :=
  let c26_i32 : BitVec 32 := 26#32
  let v282 : Index := Scalar.indexCast c26_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v283 : Index := Scalar.indexCast v52
  ![26, v283.toNat]
def k1_off332 (k1_t8 : Fin k1_t8_loop.trips) : Fin 2 → Nat :=
  let c27_i32 : BitVec 32 := 27#32
  let v288 : Index := Scalar.indexCast c27_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v289 : Index := Scalar.indexCast v52
  ![27, v289.toNat]
def k1_off333 (k1_t8 : Fin k1_t8_loop.trips) : Fin 2 → Nat :=
  let c28_i32 : BitVec 32 := 28#32
  let v294 : Index := Scalar.indexCast c28_i32
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v295 : Index := Scalar.indexCast v52
  ![28, v295.toNat]
def k1_off334 (k1_t8 : Fin k1_t8_loop.trips) : Fin 2 → Nat :=
  let c501_i32 : BitVec 32 := 501#32
  let c1_i32_18 : BitVec 32 := 1#32
  let arg14 : BitVec 32 := Scf.iv c501_i32 c1_i32_18 k1_t8
  let v382 : Index := Scalar.indexCast arg14
  let c0_40 : Index := 0#32
  ![v382.toNat, 0]
def k1_off335 (k1_t8 : Fin k1_t8_loop.trips) : Fin 2 → Nat :=
  let c501_i32 : BitVec 32 := 501#32
  let c1_i32_18 : BitVec 32 := 1#32
  let arg14 : BitVec 32 := Scf.iv c501_i32 c1_i32_18 k1_t8
  let v386 : Index := Scalar.indexCast arg14
  let c16_41 : Index := 16#32
  ![v386.toNat, 16]
def k1_off336 (k1_t8 : Fin k1_t8_loop.trips) (c0_i32_42 : BitVec 32) : Fin 2 → Nat :=
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v422 : BitVec 32 := Scalar.addi v52 c0_i32_42
  let v423 : Index := Scalar.indexCast v422
  let c0_43 : Index := 0#32
  ![v423.toNat, 0]
def k1_off337 (k1_t8 : Fin k1_t8_loop.trips) (c0_i32_74 : BitVec 32) : Fin 2 → Nat :=
  let c480_i32 : BitVec 32 := 480#32
  let c0_i32_29 : BitVec 32 := 0#32
  let c501_i32 : BitVec 32 := 501#32
  let c1_i32_18 : BitVec 32 := 1#32
  let arg14 : BitVec 32 := Scf.iv c501_i32 c1_i32_18 k1_t8
  let c5_i32 : BitVec 32 := 5#32
  let v29 : BitVec 32 := Scalar.subi arg14 c5_i32
  let c0_i32_22 : BitVec 32 := 0#32
  let v31 : BitVec 1 := Scalar.cmpi .sgt v29 c0_i32_22
  let v32 : BitVec 32 := Scalar.extui v31
  let c0_i32_23 : BitVec 32 := 0#32
  let v33 : BitVec 1 := Scalar.cmpi .slt v29 c0_i32_23
  let v34 : BitVec 32 := Scalar.extui v33
  let v35 : BitVec 32 := Scalar.subi v32 v34
  let c16_i32 : BitVec 32 := 16#32
  let c0_i32_24 : BitVec 32 := 0#32
  let v36 : BitVec 1 := Scalar.cmpi .sgt c16_i32 c0_i32_24
  let v37 : BitVec 32 := Scalar.extui v36
  let c0_i32_25 : BitVec 32 := 0#32
  let v38 : BitVec 1 := Scalar.cmpi .slt c16_i32 c0_i32_25
  let v39 : BitVec 32 := Scalar.extui v38
  let v40 : BitVec 32 := Scalar.subi v37 v39
  let v41 : BitVec 1 := Scalar.cmpi .ne v35 v40
  let v42 : BitVec 32 := Scalar.remsi v29 c16_i32
  let c0_i32_26 : BitVec 32 := 0#32
  let v43 : BitVec 1 := Scalar.cmpi .ne v42 c0_i32_26
  let v44 : BitVec 1 := Scalar.andi v41 v43
  let v30 : BitVec 32 := Scalar.divsi v29 c16_i32
  let c1_i32_27 : BitVec 32 := 1#32
  let v45 : BitVec 32 := Scalar.subi v30 c1_i32_27
  let v46 : BitVec 32 := Scalar.select v44 v45 v30
  let c16_i32_28 : BitVec 32 := 16#32
  let v47 : BitVec 32 := Scalar.muli v46 c16_i32_28
  let v48 : BitVec 32 := Scalar.maxsi c0_i32_29 v47
  let v49 : BitVec 32 := Scalar.minsi c480_i32 v48
  let v50 : BitVec 32 := v49
  let c16_i32_30 : BitVec 32 := 16#32
  let v51 : BitVec 32 := Scalar.addi v50 c16_i32_30
  let v52 : BitVec 32 := v51
  let v518 : BitVec 32 := Scalar.addi v52 c0_i32_74
  let v519 : Index := Scalar.indexCast v518
  let c16_75 : Index := 16#32
  ![v519.toNat, 16]
abbrev grid2 : Pipeline.Grid := ⟨1, ![8], ![false]⟩

@[reducible] def k2_t1_loop : Scf.Loop 32 :=
  let c0_i32 : BitVec 32 := 0#32
  let c64_i32_15 : BitVec 32 := 64#32
  let v38 : BitVec 32 := Scalar.addi c0_i32 c64_i32_15
  let c1_i32 : BitVec 32 := 1#32
  ⟨c0_i32, v38, c1_i32⟩
def k2_off1 (k2_t1 : Fin k2_t1_loop.trips) : Fin 3 → Nat :=
  let c0_26 : Index := 0#32
  let c0_i32 : BitVec 32 := 0#32
  let c1_i32 : BitVec 32 := 1#32
  let arg6 : BitVec 32 := Scf.iv c0_i32 c1_i32 k2_t1
  let v64 : Index := Scalar.indexCast arg6
  let c0_27 : Index := 0#32
  ![0, v64.toNat, 0]
def k2_mult1 (i : grid2.Coords) (k2_t1 : Fin k2_t1_loop.trips) : BitVec 32 :=
  let c480_i32 : BitVec 32 := 480#32
  let c0_i32_25 : BitVec 32 := 0#32
  let arg0 : BitVec 32 := BitVec.ofNat 32 (i 0).val
  let c64_i32_17 : BitVec 32 := 64#32
  let v39 : BitVec 32 := Scalar.muli arg0 c64_i32_17
  let c0_i32 : BitVec 32 := 0#32
  let c1_i32 : BitVec 32 := 1#32
  let arg6 : BitVec 32 := Scf.iv c0_i32 c1_i32 k2_t1
  let v40 : BitVec 32 := Scalar.addi v39 arg6
  let c5_i32 : BitVec 32 := 5#32
  let v41 : BitVec 32 := Scalar.subi v40 c5_i32
  let c0_i32_18 : BitVec 32 := 0#32
  let v43 : BitVec 1 := Scalar.cmpi .sgt v41 c0_i32_18
  let v44 : BitVec 32 := Scalar.extui v43
  let c0_i32_19 : BitVec 32 := 0#32
  let v45 : BitVec 1 := Scalar.cmpi .slt v41 c0_i32_19
  let v46 : BitVec 32 := Scalar.extui v45
  let v47 : BitVec 32 := Scalar.subi v44 v46
  let c16_i32 : BitVec 32 := 16#32
  let c0_i32_20 : BitVec 32 := 0#32
  let v48 : BitVec 1 := Scalar.cmpi .sgt c16_i32 c0_i32_20
  let v49 : BitVec 32 := Scalar.extui v48
  let c0_i32_21 : BitVec 32 := 0#32
  let v50 : BitVec 1 := Scalar.cmpi .slt c16_i32 c0_i32_21
  let v51 : BitVec 32 := Scalar.extui v50
  let v52 : BitVec 32 := Scalar.subi v49 v51
  let v53 : BitVec 1 := Scalar.cmpi .ne v47 v52
  let v54 : BitVec 32 := Scalar.remsi v41 c16_i32
  let c0_i32_22 : BitVec 32 := 0#32
  let v55 : BitVec 1 := Scalar.cmpi .ne v54 c0_i32_22
  let v56 : BitVec 1 := Scalar.andi v53 v55
  let v42 : BitVec 32 := Scalar.divsi v41 c16_i32
  let c1_i32_23 : BitVec 32 := 1#32
  let v57 : BitVec 32 := Scalar.subi v42 c1_i32_23
  let v58 : BitVec 32 := Scalar.select v56 v57 v42
  let c16_i32_24 : BitVec 32 := 16#32
  let v59 : BitVec 32 := Scalar.muli v58 c16_i32_24
  let v60 : BitVec 32 := Scalar.maxsi c0_i32_25 v59
  let v61 : BitVec 32 := Scalar.minsi c480_i32 v60
  let c0_i32_29 : BitVec 32 := 0#32
  let v72 : BitVec 1 := Scalar.cmpi .sgt v61 c0_i32_29
  let v73 : BitVec 32 := Scalar.extui v72
  let c0_i32_30 : BitVec 32 := 0#32
  let v74 : BitVec 1 := Scalar.cmpi .slt v61 c0_i32_30
  let v75 : BitVec 32 := Scalar.extui v74
  let v76 : BitVec 32 := Scalar.subi v73 v75
  let c128_i32 : BitVec 32 := 128#32
  let c0_i32_31 : BitVec 32 := 0#32
  let v77 : BitVec 1 := Scalar.cmpi .sgt c128_i32 c0_i32_31
  let v78 : BitVec 32 := Scalar.extui v77
  let c0_i32_32 : BitVec 32 := 0#32
  let v79 : BitVec 1 := Scalar.cmpi .slt c128_i32 c0_i32_32
  let v80 : BitVec 32 := Scalar.extui v79
  let v81 : BitVec 32 := Scalar.subi v78 v80
  let v82 : BitVec 1 := Scalar.cmpi .ne v76 v81
  let v83 : BitVec 32 := Scalar.remsi v61 c128_i32
  let c0_i32_33 : BitVec 32 := 0#32
  let v84 : BitVec 1 := Scalar.cmpi .ne v83 c0_i32_33
  let v85 : BitVec 1 := Scalar.andi v82 v84
  let v71 : BitVec 32 := Scalar.divsi v61 c128_i32
  let c1_i32_34 : BitVec 32 := 1#32
  let v86 : BitVec 32 := Scalar.subi v71 c1_i32_34
  let v87 : BitVec 32 := Scalar.select v85 v86 v71
  let c2_i32 : BitVec 32 := 2#32
  let v88 : BitVec 32 := Scalar.minsi v87 c2_i32
  let c128_i32_35 : BitVec 32 := 128#32
  let v89 : BitVec 32 := Scalar.muli v88 c128_i32_35
  v89
def k2_off2 (i : grid2.Coords) (k2_t1 : Fin k2_t1_loop.trips) : Fin 3 → Nat :=
  let c0_37 : Index := 0#32
  let c0_i32 : BitVec 32 := 0#32
  let c1_i32 : BitVec 32 := 1#32
  let arg6 : BitVec 32 := Scf.iv c0_i32 c1_i32 k2_t1
  let v95 : Index := Scalar.indexCast arg6
  let c480_i32 : BitVec 32 := 480#32
  let c0_i32_25 : BitVec 32 := 0#32
  let arg0 : BitVec 32 := BitVec.ofNat 32 (i 0).val
  let c64_i32_17 : BitVec 32 := 64#32
  let v39 : BitVec 32 := Scalar.muli arg0 c64_i32_17
  let v40 : BitVec 32 := Scalar.addi v39 arg6
  let c5_i32 : BitVec 32 := 5#32
  let v41 : BitVec 32 := Scalar.subi v40 c5_i32
  let c0_i32_18 : BitVec 32 := 0#32
  let v43 : BitVec 1 := Scalar.cmpi .sgt v41 c0_i32_18
  let v44 : BitVec 32 := Scalar.extui v43
  let c0_i32_19 : BitVec 32 := 0#32
  let v45 : BitVec 1 := Scalar.cmpi .slt v41 c0_i32_19
  let v46 : BitVec 32 := Scalar.extui v45
  let v47 : BitVec 32 := Scalar.subi v44 v46
  let c16_i32 : BitVec 32 := 16#32
  let c0_i32_20 : BitVec 32 := 0#32
  let v48 : BitVec 1 := Scalar.cmpi .sgt c16_i32 c0_i32_20
  let v49 : BitVec 32 := Scalar.extui v48
  let c0_i32_21 : BitVec 32 := 0#32
  let v50 : BitVec 1 := Scalar.cmpi .slt c16_i32 c0_i32_21
  let v51 : BitVec 32 := Scalar.extui v50
  let v52 : BitVec 32 := Scalar.subi v49 v51
  let v53 : BitVec 1 := Scalar.cmpi .ne v47 v52
  let v54 : BitVec 32 := Scalar.remsi v41 c16_i32
  let c0_i32_22 : BitVec 32 := 0#32
  let v55 : BitVec 1 := Scalar.cmpi .ne v54 c0_i32_22
  let v56 : BitVec 1 := Scalar.andi v53 v55
  let v42 : BitVec 32 := Scalar.divsi v41 c16_i32
  let c1_i32_23 : BitVec 32 := 1#32
  let v57 : BitVec 32 := Scalar.subi v42 c1_i32_23
  let v58 : BitVec 32 := Scalar.select v56 v57 v42
  let c16_i32_24 : BitVec 32 := 16#32
  let v59 : BitVec 32 := Scalar.muli v58 c16_i32_24
  let v60 : BitVec 32 := Scalar.maxsi c0_i32_25 v59
  let v61 : BitVec 32 := Scalar.minsi c480_i32 v60
  let c0_i32_29 : BitVec 32 := 0#32
  let v72 : BitVec 1 := Scalar.cmpi .sgt v61 c0_i32_29
  let v73 : BitVec 32 := Scalar.extui v72
  let c0_i32_30 : BitVec 32 := 0#32
  let v74 : BitVec 1 := Scalar.cmpi .slt v61 c0_i32_30
  let v75 : BitVec 32 := Scalar.extui v74
  let v76 : BitVec 32 := Scalar.subi v73 v75
  let c128_i32 : BitVec 32 := 128#32
  let c0_i32_31 : BitVec 32 := 0#32
  let v77 : BitVec 1 := Scalar.cmpi .sgt c128_i32 c0_i32_31
  let v78 : BitVec 32 := Scalar.extui v77
  let c0_i32_32 : BitVec 32 := 0#32
  let v79 : BitVec 1 := Scalar.cmpi .slt c128_i32 c0_i32_32
  let v80 : BitVec 32 := Scalar.extui v79
  let v81 : BitVec 32 := Scalar.subi v78 v80
  let v82 : BitVec 1 := Scalar.cmpi .ne v76 v81
  let v83 : BitVec 32 := Scalar.remsi v61 c128_i32
  let c0_i32_33 : BitVec 32 := 0#32
  let v84 : BitVec 1 := Scalar.cmpi .ne v83 c0_i32_33
  let v85 : BitVec 1 := Scalar.andi v82 v84
  let v71 : BitVec 32 := Scalar.divsi v61 c128_i32
  let c1_i32_34 : BitVec 32 := 1#32
  let v86 : BitVec 32 := Scalar.subi v71 c1_i32_34
  let v87 : BitVec 32 := Scalar.select v85 v86 v71
  let c2_i32 : BitVec 32 := 2#32
  let v88 : BitVec 32 := Scalar.minsi v87 c2_i32
  let c128_i32_35 : BitVec 32 := 128#32
  let v89 : BitVec 32 := Scalar.muli v88 c128_i32_35
  let v94 : BitVec 32 := v89
  let v96 : Index := Scalar.indexCast v94
  ![0, v95.toNat, v96.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S16x64x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x64x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x64x29 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x64x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x2048 : Shape := ⟨3, ![16, 512, 2048]⟩
abbrev S16 : Shape := ⟨1, ![16]⟩
abbrev S_ : Shape := ⟨0, ![]⟩
abbrev S2048x768 : Shape := ⟨2, ![2048, 768]⟩
abbrev S768 : Shape := ⟨1, ![768]⟩
abbrev S29x768 : Shape := ⟨2, ![29, 768]⟩
abbrev S768x29 : Shape := ⟨2, ![768, 29]⟩
abbrev S29 : Shape := ⟨1, ![29]⟩
abbrev S16x512x768 : Shape := ⟨3, ![16, 512, 768]⟩
abbrev S1x1x768 : Shape := ⟨3, ![1, 1, 768]⟩
abbrev S16x1x29 : Shape := ⟨3, ![16, 1, 29]⟩
abbrev S1 : Shape := ⟨1, ![1]⟩
abbrev S16x1 : Shape := ⟨2, ![16, 1]⟩
abbrev S512 : Shape := ⟨1, ![512]⟩
abbrev S512x16x1x29 : Shape := ⟨4, ![512, 16, 1, 29]⟩
abbrev S512x16x1x512 : Shape := ⟨4, ![512, 16, 1, 512]⟩
abbrev S16x1x768 : Shape := ⟨3, ![16, 1, 768]⟩
abbrev S16x1x512 : Shape := ⟨3, ![16, 1, 512]⟩
abbrev S1x1x512 : Shape := ⟨3, ![1, 1, 512]⟩
abbrev S16x1x1 : Shape := ⟨3, ![16, 1, 1]⟩
abbrev S1x1x29 : Shape := ⟨3, ![1, 1, 29]⟩
abbrev S1x16x1x29 : Shape := ⟨4, ![1, 16, 1, 29]⟩
abbrev S1x16x1x512 : Shape := ⟨4, ![1, 16, 1, 512]⟩
abbrev S512x16x29 : Shape := ⟨3, ![512, 16, 29]⟩
abbrev S16x512x29 : Shape := ⟨3, ![16, 512, 29]⟩
abbrev S512x16x512 : Shape := ⟨3, ![512, 16, 512]⟩
abbrev S16x512x512 : Shape := ⟨3, ![16, 512, 512]⟩
abbrev S16x512 : Shape := ⟨2, ![16, 512]⟩
abbrev S16x512x1 : Shape := ⟨3, ![16, 512, 1]⟩
abbrev S1x512 : Shape := ⟨2, ![1, 512]⟩

abbrev nBuf : Space → Nat
  | .hbm => 143
  | .vmem => 0
  | .smem => 0
  | _ => 0

abbrev hbmTy0_0 (i : Nat) : BufTy := match i % 128 with
  | 0 => ⟨S16x512x2048, .f32⟩
  | 1 => ⟨S16, .i32⟩
  | 2 => ⟨S_, .i32⟩
  | 3 => ⟨S2048x768, .f32⟩
  | 4 => ⟨S768, .f32⟩
  | 5 => ⟨S29x768, .f32⟩
  | 6 => ⟨S768, .f32⟩
  | 7 => ⟨S768x29, .f32⟩
  | 8 => ⟨S29, .f32⟩
  | 9 => ⟨S16x512x768, .f32⟩
  | 10 => ⟨S1x1x768, .f32⟩
  | 11 => ⟨S16x512x768, .f32⟩
  | 12 => ⟨S16x512x768, .f32⟩
  | 13 => ⟨S_, .f32⟩
  | 14 => ⟨S16x1x29, .f32⟩
  | 15 => ⟨S_, .i32⟩
  | 16 => ⟨S1, .i32⟩
  | 17 => ⟨S_, .f32⟩
  | 18 => ⟨S16x1, .f32⟩
  | 19 => ⟨S16x1x29, .f32⟩
  | 20 => ⟨S512, .i32⟩
  | 21 => ⟨S512, .i32⟩
  | 22 => ⟨S_, .f32⟩
  | 23 => ⟨S512x16x1x29, .f32⟩
  | 24 => ⟨S_, .f32⟩
  | 25 => ⟨S512x16x1x512, .f32⟩
  | 26 => ⟨S_, .i32⟩
  | 27 => ⟨S512, .i32⟩
  | 28 => ⟨S29x768, .f32⟩
  | 29 => ⟨S768, .f32⟩
  | 30 => ⟨S16x512x768, .f32⟩
  | 31 => ⟨S512, .i32⟩
  | 32 => ⟨S_, .i32⟩
  | 33 => ⟨S16, .i32⟩
  | 34 => ⟨S768x29, .f32⟩
  | 35 => ⟨S29, .f32⟩
  | 36 => ⟨S_, .i32⟩
  | 37 => ⟨S16x1x29, .f32⟩
  | 38 => ⟨S512x16x1x29, .f32⟩
  | 39 => ⟨S512x16x1x512, .f32⟩
  | 40 => ⟨S_, .i32⟩
  | 41 => ⟨S_, .i1⟩
  | 42 => ⟨S1, .i32⟩
  | 43 => ⟨S_, .i32⟩
  | 44 => ⟨S16x1x768, .f32⟩
  | 45 => ⟨S1x1x768, .f32⟩
  | 46 => ⟨S16x1x768, .f32⟩
  | 47 => ⟨S16x1x768, .f32⟩
  | 48 => ⟨S16x1x512, .f32⟩
  | 49 => ⟨S_, .f32⟩
  | 50 => ⟨S16x1x512, .f32⟩
  | 51 => ⟨S16x1x512, .f32⟩
  | 52 => ⟨S512, .i32⟩
  | 53 => ⟨S512, .i32⟩
  | 54 => ⟨S512, .i32⟩
  | 55 => ⟨S512, .i32⟩
  | 56 => ⟨S512, .i1⟩
  | 57 => ⟨S1x1x512, .i1⟩
  | 58 => ⟨S1x1x512, .i32⟩
  | 59 => ⟨S16x1x1, .i32⟩
  | 60 => ⟨S16x1x512, .i32⟩
  | 61 => ⟨S16x1x512, .i32⟩
  | 62 => ⟨S16x1x512, .i1⟩
  | 63 => ⟨S16x1x512, .i1⟩
  | 64 => ⟨S16x1x512, .i1⟩
  | 65 => ⟨S_, .f32⟩
  | 66 => ⟨S_, .f32⟩
  | 67 => ⟨S16x1x512, .f32⟩
  | 68 => ⟨S16x1x512, .f32⟩
  | 69 => ⟨S_, .f32⟩
  | 70 => ⟨S16x1, .f32⟩
  | 71 => ⟨S_, .f32⟩
  | 72 => ⟨S16x1, .f32⟩
  | 73 => ⟨S16x1, .f32⟩
  | 74 => ⟨S16x1x1, .f32⟩
  | 75 => ⟨S16x1x512, .f32⟩
  | 76 => ⟨S16x1x512, .f32⟩
  | 77 => ⟨S16x1x512, .f32⟩
  | 78 => ⟨S_, .f32⟩
  | 79 => ⟨S16x1, .f32⟩
  | 80 => ⟨S16x1x1, .f32⟩
  | 81 => ⟨S16x1x512, .f32⟩
  | 82 => ⟨S16x1x512, .f32⟩
  | 83 => ⟨S16x1x768, .f32⟩
  | 84 => ⟨S16x1x29, .f32⟩
  | 85 => ⟨S1x1x29, .f32⟩
  | 86 => ⟨S16x1x29, .f32⟩
  | 87 => ⟨S16x1x29, .f32⟩
  | 88 => ⟨S16, .i32⟩
  | 89 => ⟨S16, .i1⟩
  | 90 => ⟨S16x1x1, .i1⟩
  | 91 => ⟨S_, .f32⟩
  | 92 => ⟨S_, .f32⟩
  | 93 => ⟨S16x1x29, .i1⟩
  | 94 => ⟨S16x1x29, .f32⟩
  | 95 => ⟨S16x1x29, .f32⟩
  | 96 => ⟨S_, .f32⟩
  | 97 => ⟨S_, .f32⟩
  | 98 => ⟨S16x1x512, .i1⟩
  | 99 => ⟨S16x1x512, .f32⟩
  | 100 => ⟨S16x1x512, .f32⟩
  | 101 => ⟨S1x16x1x29, .f32⟩
  | 102 => ⟨S_, .i32⟩
  | 103 => ⟨S_, .i32⟩
  | 104 => ⟨S_, .i32⟩
  | 105 => ⟨S512x16x1x29, .f32⟩
  | 106 => ⟨S1x16x1x512, .f32⟩
  | 107 => ⟨S_, .i32⟩
  | 108 => ⟨S_, .i32⟩
  | 109 => ⟨S_, .i32⟩
  | 110 => ⟨S512x16x1x512, .f32⟩
  | 111 => ⟨S_, .i32⟩
  | 112 => ⟨S_, .i32⟩
  | 113 => ⟨S512x16x29, .f32⟩
  | 114 => ⟨S16x512x29, .f32⟩
  | 115 => ⟨S512x16x512, .f32⟩
  | 116 => ⟨S16x512x512, .f32⟩
  | 117 => ⟨S_, .f32⟩
  | 118 => ⟨S16x512, .f32⟩
  | 119 => ⟨S_, .f32⟩
  | 120 => ⟨S16x512, .f32⟩
  | 121 => ⟨S16x512, .f32⟩
  | 122 => ⟨S16x512x1, .f32⟩
  | 123 => ⟨S16x512x29, .f32⟩
  | 124 => ⟨S16x512x29, .f32⟩
  | 125 => ⟨S16x512x29, .f32⟩
  | 126 => ⟨S_, .f32⟩
  | 127 => ⟨S16x512, .f32⟩
  | _ => ⟨S16x512x2048, .f32⟩

abbrev hbmTy0_1 (i : Nat) : BufTy := match i % 128 with
  | 0 => ⟨S16x512x1, .f32⟩
  | 1 => ⟨S16x512x1, .f32⟩
  | 2 => ⟨S16x512x29, .f32⟩
  | 3 => ⟨S16x512x29, .f32⟩
  | 4 => ⟨S1x512, .i32⟩
  | 5 => ⟨S16x1, .i32⟩
  | 6 => ⟨S16x512, .i32⟩
  | 7 => ⟨S16x512, .i32⟩
  | 8 => ⟨S16x512, .i1⟩
  | 9 => ⟨S16x512x1, .i1⟩
  | 10 => ⟨S_, .f32⟩
  | 11 => ⟨S_, .f32⟩
  | 12 => ⟨S16x512x29, .i1⟩
  | 13 => ⟨S16x512x29, .f32⟩
  | 14 => ⟨S16x512x29, .f32⟩
  | _ => ⟨S16x512x2048, .f32⟩

abbrev hbmTy (i : Nat) : BufTy := match i / 128 with
  | 0 => hbmTy0_0 i
  | 1 => hbmTy0_1 i
  | _ => ⟨S16x512x2048, .f32⟩

abbrev bufTy : (tb : Table) → Fin (tcTables nBuf tb) → BufTy
  | .hbm, ⟨i, _⟩ => hbmTy i
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_c_3 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v12_5 : Ref sig .tc := ⟨.hbm, 32, rfl⟩
abbrev main_v12_6 : Ref sig .tc := ⟨.hbm, 33, rfl⟩
abbrev main_v12_7 : Ref sig .tc := ⟨.hbm, 34, rfl⟩
abbrev main_v12_8 : Ref sig .tc := ⟨.hbm, 35, rfl⟩
abbrev main_v12_9 : Ref sig .tc := ⟨.hbm, 36, rfl⟩
abbrev main_v12_10 : Ref sig .tc := ⟨.hbm, 37, rfl⟩
abbrev main_v12_11 : Ref sig .tc := ⟨.hbm, 38, rfl⟩
abbrev main_v12_12 : Ref sig .tc := ⟨.hbm, 39, rfl⟩
abbrev main_while0c_c_17 : Ref sig .tc := ⟨.hbm, 40, rfl⟩
abbrev main_while0c_v25 : Ref sig .tc := ⟨.hbm, 41, rfl⟩
abbrev main_while0b_call0_v0 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_v29 : Ref sig .tc := ⟨.hbm, 47, rfl⟩
abbrev main_while0b_v30 : Ref sig .tc := ⟨.hbm, 48, rfl⟩
abbrev main_while0b_cst_17 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_cst_18 : Ref sig .tc := ⟨.hbm, 65, rfl⟩
abbrev main_while0b_call1_v0 : Ref sig .tc := ⟨.hbm, 66, rfl⟩
abbrev main_while0b_call1_v1 : Ref sig .tc := ⟨.hbm, 67, rfl⟩
abbrev main_while0b_v46 : Ref sig .tc := ⟨.hbm, 68, rfl⟩
abbrev main_while0b_cst_19 : Ref sig .tc := ⟨.hbm, 69, rfl⟩
abbrev main_while0b_v47 : Ref sig .tc := ⟨.hbm, 70, rfl⟩
abbrev main_while0b_cst_20 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_cst_21 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_cst_22 : Ref sig .tc := ⟨.hbm, 91, rfl⟩
abbrev main_while0b_call2_v0 : Ref sig .tc := ⟨.hbm, 92, rfl⟩
abbrev main_while0b_call2_v1 : Ref sig .tc := ⟨.hbm, 93, rfl⟩
abbrev main_while0b_call2_v2 : Ref sig .tc := ⟨.hbm, 94, rfl⟩
abbrev main_while0b_v66 : Ref sig .tc := ⟨.hbm, 95, rfl⟩
abbrev main_while0b_cst_23 : Ref sig .tc := ⟨.hbm, 96, rfl⟩
abbrev main_while0b_call3_v0 : Ref sig .tc := ⟨.hbm, 97, rfl⟩
abbrev main_while0b_call3_v1 : Ref sig .tc := ⟨.hbm, 98, rfl⟩
abbrev main_while0b_call3_v2 : Ref sig .tc := ⟨.hbm, 99, rfl⟩
abbrev main_while0b_v67 : Ref sig .tc := ⟨.hbm, 100, rfl⟩
abbrev main_while0b_call4_v0 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_v68 : Ref sig .tc := ⟨.hbm, 105, rfl⟩
abbrev main_while0b_call5_v0 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_v69 : Ref sig .tc := ⟨.hbm, 110, rfl⟩
abbrev main_while0b_c_24 : Ref sig .tc := ⟨.hbm, 111, rfl⟩
abbrev main_while0b_v70 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_call6_cst : Ref sig .tc := ⟨.hbm, 117, rfl⟩
abbrev main_call6_v0 : Ref sig .tc := ⟨.hbm, 118, rfl⟩
abbrev main_call6_cst_0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_cst_1 : Ref sig .tc := ⟨.hbm, 126, rfl⟩
abbrev main_call6_v7 : Ref sig .tc := ⟨.hbm, 127, rfl⟩
abbrev main_call6_v8 : Ref sig .tc := ⟨.hbm, 128, rfl⟩
abbrev main_call6_v9 : Ref sig .tc := ⟨.hbm, 129, rfl⟩
abbrev main_call6_v10 : Ref sig .tc := ⟨.hbm, 130, rfl⟩
abbrev main_v17 : Ref sig .tc := ⟨.hbm, 131, rfl⟩
abbrev main_v18 : Ref sig .tc := ⟨.hbm, 132, rfl⟩
abbrev main_v19 : Ref sig .tc := ⟨.hbm, 133, rfl⟩
abbrev main_v20 : Ref sig .tc := ⟨.hbm, 134, rfl⟩
abbrev main_v21 : Ref sig .tc := ⟨.hbm, 135, rfl⟩
abbrev main_v22 : Ref sig .tc := ⟨.hbm, 136, rfl⟩
abbrev main_v23 : Ref sig .tc := ⟨.hbm, 137, rfl⟩
abbrev main_cst_4 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_v24 : Ref sig .tc := ⟨.hbm, 142, rfl⟩

abbrev nD : Nat := 1
abbrev τ : Topo := Topo.v7x

variable {F : FTy → Type} [FloatOps F]

abbrev main_while0_count : Scf.Loop 32 := ⟨0#32, 512#32, 1#32⟩
-- ==== Proof.Base.lean ====
/- The program as the SparseCore launch sees it, and the resource algebra the proof runs in. -/
module

public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Tactic
public import Idealize.ShloMosaic.Lib.ValueLayout
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

/-- The resource algebra. -/
abbrev MM (F : FTy → Type) := MT nD τ sig (HIx 1) (Elt F) ℕ UU ℕ

abbrev EH : Emb UH (MM F) :=
  (Emb.inl : Emb UH UU).trans (uEmb (nD := nD) (sig := sig) (Ix := HIx 1) (Val := Elt F) (Name := ℕ) (U := UU) (Lvl := ℕ)).toEmb
abbrev EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- Vector subcore `L` of device `d`. -/
abbrev thr (d : Dev nD) (L : grid1.Coords) : Thread nD τ := V d ((L 0).castLE hcore1) ((L 1).castLE hsub1)

end Cert.Proof
-- ==== Proof.Step.lean ====
/- One trip of the recurrence as a short program.

The printed loop regions are straight lines of row loads, sums and four stores. `stepProg` is that straight line
written over LISTS of row loads; `light_eq`, `full_eq` and `hi_eq` say that each printed region IS `stepProg` at its
flags, so that the run is reasoned about once, by induction over the lists. -/
module

public import proofs.«01_k».proof.Proof.Gen.KernelIdeal.Skeleton

@[expose] public section

noncomputable section

namespace Cert.KernelIdeal.Step

open Idealize.ShloMosaic Idealize.SL.Sem
open Cert.KernelIdeal Cert.KernelIdeal.Gen

variable {F : FTy → Type} [FloatOps F]

/-- A sixteen-lane vector. -/
abbrev V16 (F : FTy → Type) := FVec F S16 .f32

/-- The programs of a vector subcore at point `i` of the mesh. -/
abbrev Pr (F : FTy → Type) (i : grid1.Coords) (α : Type) :=
  Prog (TpuEff nD τ sig (Elt F) Λ₀ (.scVector ((i 0).castLE hcore1) ((i 1).castLE hsub1))) α

/-- A row box of a buffer of `a` rows of `b`: sixteen lanes at an offset inside it. -/
structure Off (a b : ℕ) where
  off : Fin 2 → ℕ
  inb : ∀ k, off k + S1x16.size k ≤ (⟨2, ![a, b]⟩ : Shape).size k

/-- Row `r` of the first buffer from lane `c`. -/
def gO (c : BitVec 32) (hc : c.toNat ≤ 496) (r : ℕ) (hr : r < 32) : Off 32 512 :=
  ⟨![r, (Scalar.indexCast c).toNat], by
    intro k
    match k with
    | 0 => exact hr
    | 1 => show c.toNat + 16 ≤ 512; omega⟩

theorem add_le (b c : BitVec 32) (hb : b.toNat ≤ 496) (hc : c.toNat ≤ 15) : (Scalar.addi b c).toNat = b.toNat + c.toNat := by
  show (b + c).toNat = _
  rw [BitVec.toNat_add, Nat.mod_eq_of_lt (by omega)]

/-- Row `b + c` of a row buffer, from lane `l`. -/
def vO (b c : BitVec 32) (hb : b.toNat ≤ 496) (hc : c.toNat ≤ 15) (l : ℕ) (hl : l ≤ 16) : Off 512 32 :=
  ⟨![(Scalar.indexCast (Scalar.addi b c)).toNat, l], by
    intro k
    match k with
    | 0 => show (Scalar.addi b c).toNat + 1 ≤ 512; rw [add_le b c hb hc]; omega
    | 1 => show l + 16 ≤ 32; omega⟩

/-- Row `t` of a row buffer, from lane `l`. -/
def tO (t : BitVec 32) (ht : t.toNat < 512) (l : ℕ) (hl : l ≤ 16) : Off 512 32 :=
  ⟨![(Scalar.indexCast t).toNat, l], by
    intro k
    match k with
    | 0 => exact ht
    | 1 => show l + 16 ≤ 32; omega⟩

/-- Row 29, then rows 0 to 28. -/
def gOs (c : BitVec 32) (hc : c.toNat ≤ 496) : List (Off 32 512) :=
  [gO c hc 29 (by decide), gO c hc 0 (by decide), gO c hc 1 (by decide), gO c hc 2 (by decide), gO c hc 3 (by decide), gO c hc 4 (by decide), gO c hc 5 (by decide), gO c hc 6 (by decide), gO c hc 7 (by decide), gO c hc 8 (by decide), gO c hc 9 (by decide), gO c hc 10 (by decide), gO c hc 11 (by decide), gO c hc 12 (by decide), gO c hc 13 (by decide), gO c hc 14 (by decide), gO c hc 15 (by decide), gO c hc 16 (by decide), gO c hc 17 (by decide), gO c hc 18 (by decide), gO c hc 19 (by decide), gO c hc 20 (by decide), gO c hc 21 (by decide), gO c hc 22 (by decide), gO c hc 23 (by decide), gO c hc 24 (by decide), gO c hc 25 (by decide), gO c hc 26 (by decide), gO c hc 27 (by decide), gO c hc 28 (by decide)]

/-- The sixteen rows from `b`. -/
def vOs (b : BitVec 32) (hb : b.toNat ≤ 496) (l : ℕ) (hl : l ≤ 16) : List (Off 512 32) :=
  [vO b 0#32 hb (by decide) l hl, vO b 1#32 hb (by decide) l hl, vO b 2#32 hb (by decide) l hl, vO b 3#32 hb (by decide) l hl, vO b 4#32 hb (by decide) l hl, vO b 5#32 hb (by decide) l hl, vO b 6#32 hb (by decide) l hl, vO b 7#32 hb (by decide) l hl, vO b 8#32 hb (by decide) l hl, vO b 9#32 hb (by decide) l hl, vO b 10#32 hb (by decide) l hl, vO b 11#32 hb (by decide) l hl, vO b 12#32 hb (by decide) l hl, vO b 13#32 hb (by decide) l hl, vO b 14#32 hb (by decide) l hl, vO b 15#32 hb (by decide) l hl]

/-- One row loaded. -/
def ld {i : grid1.Coords} {a b : ℕ} (m : Memref sig .scVector .vmem ⟨2, ![a, b]⟩ .f32) (o : Off a b) : Pr F i (Vec F S1x16 .f32) :=
  Prog.lift (.load m (Rect.unit (s := ⟨2, ![a, b]⟩) o.off S1x16.size o.inb).toLoadRect (View.loadsAt_vmem Facts₀.h_S1x16))

/-- One row stored. -/
def st {i : grid1.Coords} {a b : ℕ} (m : Memref sig .scVector .vmem ⟨2, ![a, b]⟩ .f32) (o : Off a b) (x : V16 F) : Pr F i PUnit :=
  Prog.lift (.store m (Rect.unit (s := ⟨2, ![a, b]⟩) o.off S1x16.size o.inb) (shapeCast S1x16 x Facts₀.shapeCasts_S16_S1x16) Finset.univ
    (View.stores_vmem_bits_univ Facts₀.h_S1x16 rfl) (.inl rfl))

/-- The rows of a list loaded in order, each as a sixteen-lane vector. -/
def rows {i : grid1.Coords} {α : Type} {a b : ℕ} (m : Memref sig .scVector .vmem ⟨2, ![a, b]⟩ .f32) :
    List (Off a b) → (List (V16 F) → Pr F i α) → Pr F i α
  | [], k => k []
  | o :: os, k => ld m o >>= fun v => rows m os fun vs => k (shapeCast S16 v Facts₀.shapeCasts_S1x16_S16 :: vs)

/-- A row stored (behind the load of what it held, which nothing reads). -/
def put {i : grid1.Coords} {α : Type} {a b : ℕ} (m : Memref sig .scVector .vmem ⟨2, ![a, b]⟩ .f32) (o : Off a b) (x : V16 F)
    (k : Pr F i α) : Pr F i α :=
  ld m o >>= fun _ => st m o x >>= fun _ => k

/-- Neighbours joined pair by pair. -/
def pair {α : Type} (op : α → α → α) : List α → List α
  | a :: b :: l => op a b :: pair op l
  | l => l

/-- `n` rounds of joining neighbours, and the head. -/
def tree {α : Type} (op : α → α → α) (d : α) : ℕ → List α → α
  | 0, x :: _ => x
  | 0, [] => d
  | n + 1, l => tree op d n (pair op l)

theorem slices16 (j : Fin 16) : S16.Slices ![j.val] S1 := by decide +revert

/-- One lane of a vector. -/
def lane (x : V16 F) (j : Fin 16) : F .f32 := extractAt ![0] (extractStridedSlice S1 ![j.val] x (slices16 j)) Facts₀.inpos_S1_p0

/-- The lanes of a vector. -/
def lanes (x : V16 F) : List (F .f32) :=
  [lane x 0, lane x 1, lane x 2, lane x 3, lane x 4, lane x 5, lane x 6, lane x 7, lane x 8, lane x 9, lane x 10, lane x 11, lane x 12, lane x 13, lane x 14, lane x 15]

/-- All zeros. -/
def z16 : V16 F := broadcast S16 (Scalar.ofBits .f32 0x00000000#32)

/-- Scalars against rows. -/
def scale : List (F .f32) → List (V16 F) → List (V16 F)
  | c :: cs, v :: vs => mulf (broadcast S16 c) v :: scale cs vs
  | _, _ => []

/-- The scores of sixteen positions, from the carried query and the rows read. -/
def score (q0 q1 : V16 F) (g : List (V16 F)) : V16 F :=
  match g with
  | g29 :: gs => tree addf z16 5 (g29 :: scale (lanes q0 ++ lanes q1) gs)
  | [] => z16

/-- The unnormalised weights. -/
def expo (ninf : F .f32) (v : IVec S16 1) (sc : V16 F) : V16 F := exp (select v sc (broadcast S16 ninf))

/-- The positions of the low half, and of the high half. -/
def pos0 (base : BitVec 32) (ln : IVec S16 32) : IVec S16 32 := addi (broadcast S16 base) ln
def pos1 (base : BitVec 32) (ln : IVec S16 32) : IVec S16 32 := addi (pos0 base ln) (broadcast S16 16#32)

/-- Which positions of a half are in the window and below the length. -/
def valid (t : BitVec 32) (p len : IVec S16 32) : IVec S16 1 :=
  andi (cmpi .sle (absi (subi p (broadcast S16 t))) (broadcast S16 5#32)) (cmpi .slt p len)

/-- The weights' normaliser in every lane. -/
def norm (es : V16 F) : V16 F := addf z16 (broadcast S16 (tree Scalar.addf (Scalar.ofBits .f32 0x00000000#32) 4 (lanes es)))

/-- What is carried, with what was stored: the weights' halves and the query's halves. -/
structure Out (F : FTy → Type) where
  w0 : V16 F
  w1 : V16 F
  q0 : V16 F
  q1 : V16 F

variable {i : grid1.Coords} (gt : Memref sig .scVector .vmem S32x512 .f32) (vv : Memref sig .scVector .vmem S512x32 .f32)
  (ov wv : Memref sig .scVector .vmem S512x32 .f32) (ln len : IVec S16 32) (b0 b1 : V16 F) (ninf : F .f32)
  (t base hi : BitVec 32) (ht : t.toNat < 512) (hb : base.toNat ≤ 496) (hh : hi.toNat ≤ 496)

/-- A trip that reads the low half of the window only. -/
def light (q : V16 F × V16 F) : Pr F i (V16 F × V16 F) :=
  rows gt (gOs base hb) fun g =>
  let e0 := expo ninf (valid t (pos0 base ln) len) (score q.1 q.2 g)
  let w0 := divf e0 (norm e0)
  put wv (tO t ht 0 (by decide)) w0 <|
  put wv (tO t ht 16 (by decide)) z16 <|
  rows vv (vOs base hb 0 (by decide)) fun v0 =>
  rows vv (vOs base hb 16 (by decide)) fun v1 =>
  let n0 := tree addf z16 5 (b0 :: scale (lanes w0) v0)
  let n1 := tree addf z16 5 (b1 :: scale (lanes w0) v1)
  put ov (tO t ht 0 (by decide)) n0 <|
  put ov (tO t ht 16 (by decide)) n1 <|
  .ret (n0, n1)

/-- A trip that reads both halves. -/
def full (q : V16 F × V16 F) : Pr F i (V16 F × V16 F) :=
  rows gt (gOs base hb) fun g =>
  rows gt (gOs hi hh) fun g' =>
  let e0 := expo ninf (valid t (pos0 base ln) len) (score q.1 q.2 g)
  let e1 := expo ninf (valid t (pos1 base ln) len) (score q.1 q.2 g')
  let w0 := divf e0 (norm (addf e0 e1))
  let w1 := divf e1 (norm (addf e0 e1))
  put wv (tO t ht 0 (by decide)) w0 <|
  put wv (tO t ht 16 (by decide)) w1 <|
  rows vv (vOs base hb 0 (by decide)) fun v0 =>
  rows vv (vOs base hb 16 (by decide)) fun v1 =>
  rows vv (vOs hi hh 0 (by decide)) fun v0' =>
  rows vv (vOs hi hh 16 (by decide)) fun v1' =>
  let n0 := tree addf z16 6 (b0 :: (scale (lanes w0) v0 ++ scale (lanes w1) v0'))
  let n1 := tree addf z16 6 (b1 :: (scale (lanes w0) v1 ++ scale (lanes w1) v1'))
  put ov (tO t ht 0 (by decide)) n0 <|
  put ov (tO t ht 16 (by decide)) n1 <|
  .ret (n0, n1)

/-- A trip that reads the high half only. -/
def hionly (q : V16 F × V16 F) : Pr F i (V16 F × V16 F) :=
  rows gt (gOs hi hh) fun g =>
  let e1 := expo ninf (valid t (pos1 base ln) len) (score q.1 q.2 g)
  let w1 := divf e1 (norm e1)
  put wv (tO t ht 0 (by decide)) z16 <|
  put wv (tO t ht 16 (by decide)) w1 <|
  rows vv (vOs hi hh 0 (by decide)) fun v0 =>
  rows vv (vOs hi hh 16 (by decide)) fun v1 =>
  let n0 := tree addf z16 5 (b0 :: scale (lanes w1) v0)
  let n1 := tree addf z16 5 (b1 :: scale (lanes w1) v1)
  put ov (tO t ht 0 (by decide)) n0 <|
  put ov (tO t ht 16 (by decide)) n1 <|
  .ret (n0, n1)

/-- The window's base at row `t`: a multiple of sixteen, five rows back, kept inside the buffer. -/
def baseOf (t : BitVec 32) : BitVec 32 :=
  let d := Scalar.subi t 5#32
  let q := Scalar.divsi d 16#32
  let sg := Scalar.subi (Scalar.extui (Scalar.cmpi .sgt d 0#32)) (Scalar.extui (Scalar.cmpi .slt d 0#32))
  let s16 := Scalar.subi (Scalar.extui (Scalar.cmpi .sgt 16#32 0#32)) (Scalar.extui (Scalar.cmpi .slt 16#32 0#32))
  let c := Scalar.andi (Scalar.cmpi .ne sg s16) (Scalar.cmpi .ne (Scalar.remsi d 16#32) 0#32)
  Scalar.minsi 480#32 (Scalar.maxsi 0#32 (Scalar.muli (Scalar.select c (Scalar.subi q 1#32) q) 16#32))

end Cert.KernelIdeal.Step
-- ==== Proof.Trip.lean ====
/- What one trip of the recurrence does to the tile's buffers. -/
module

public import proofs.«01_k».proof.Proof.Base
public import proofs.«01_k».proof.Proof.Step
public import Idealize.ShloMosaic.Lib.Writes
public import Idealize.ShloMosaic.Lib.WritesUnit

@[expose] public section

noncomputable section

namespace Cert.Proof

open Cert.KernelIdeal Cert.KernelIdeal.Gen Cert.KernelIdeal.Step

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## Rows of an array -/

/-- The sixteen lanes of `X` in the box at `o`. -/
def rowAt {a b : ℕ} (X : (⟨2, ![a, b]⟩ : Shape).Idx → F .f32) (o : Off a b) : V16 F :=
  shapeCast S16 (show FVec F S1x16 .f32 from fun x => X ((Rect.unit (s := ⟨2, ![a, b]⟩) o.off S1x16.size o.inb).idx x)) Facts₀.shapeCasts_S1x16_S16

/-- Row `r` of a `[32, 512]` array from lane `c`. -/
def gAt (G : S32x512.Idx → F .f32) (r : Fin 32) (c : ℕ) : V16 F :=
  fun j => G (ix2 r (⟨(c + (j 0).val) % 512, Nat.mod_lt _ (by decide)⟩ : Fin 512))
/-- Row `r` of a `[512, 32]` array from lane `l`. -/
def vAt (X : S512x32.Idx → F .f32) (r l : ℕ) : V16 F :=
  fun j => X (ix2 (⟨r % 512, Nat.mod_lt _ (by decide)⟩ : Fin 512) (⟨(l + (j 0).val) % 32, Nat.mod_lt _ (by decide)⟩ : Fin 32))

theorem rowAt_apply {a b : ℕ} (X : (⟨2, ![a, b]⟩ : Shape).Idx → F .f32) (o : Off a b) (j : S16.Idx) (r : Fin a) (c : Fin b)
    (hr : r.val = o.off 0) (hc : c.val = o.off 1 + (j 0).val) : rowAt X o j = X (ix2 r c) := by
  have hj : j = ix1 (j 0) := eq_ix1 j
  rw [hj]
  refine (shapeCast_1a_a_apply (a := 16) _ _ (j 0)).trans ?_
  refine congrArg X ?_
  funext k
  match k with
  | ⟨0, _⟩ =>
    refine Fin.ext ?_
    show o.off 0 + 1 * 0 = r.val
    omega
  | ⟨1, _⟩ =>
    refine Fin.ext ?_
    show o.off 1 + 1 * (j 0).val = c.val
    omega

theorem rowAt_gO (G : S32x512.Idx → F .f32) (c : BitVec 32) (hc : c.toNat ≤ 496) (r : ℕ) (hr : r < 32) :
    rowAt G (gO c hc r hr) = gAt G ⟨r, hr⟩ c.toNat := by
  funext j
  have hj : (j 0).val < 16 := (j 0).isLt
  refine rowAt_apply G _ j _ _ rfl ?_
  show (c.toNat + (j 0).val) % 512 = c.toNat + (j 0).val
  exact Nat.mod_eq_of_lt (by omega)

theorem rowAt_vO (X : S512x32.Idx → F .f32) (b c : BitVec 32) (hb : b.toNat ≤ 496) (hc : c.toNat ≤ 15) (l : ℕ) (hl : l ≤ 16) :
    rowAt X (vO b c hb hc l hl) = vAt X (b.toNat + c.toNat) l := by
  funext j
  have hj : (j 0).val < 16 := (j 0).isLt
  refine rowAt_apply X _ j _ _ ?_ ?_
  · show (b.toNat + c.toNat) % 512 = (Scalar.addi b c).toNat
    rw [add_le b c hb hc]; exact Nat.mod_eq_of_lt (by omega)
  · show (l + (j 0).val) % 32 = l + (j 0).val
    exact Nat.mod_eq_of_lt (by omega)

/-- Row 29, then rows 0 to 28. -/
def gIdx : List (Fin 32) := [29, 0, 1, 2, 3, 4, 5, 6, 7, 8, 9, 10, 11, 12, 13, 14, 15, 16, 17, 18, 19, 20, 21, 22, 23, 24, 25, 26, 27, 28]
def gVals (G : S32x512.Idx → F .f32) (c : ℕ) : List (V16 F) := gIdx.map fun r => gAt G r c
def vVals (X : S512x32.Idx → F .f32) (b l : ℕ) : List (V16 F) := [0, 1, 2, 3, 4, 5, 6, 7, 8, 9, 10, 11, 12, 13, 14, 15].map fun j => vAt X (b + j) l

theorem gOs_map (G : S32x512.Idx → F .f32) (c : BitVec 32) (hc : c.toNat ≤ 496) : (gOs c hc).map (rowAt G) = gVals G c.toNat := by
  simp only [gOs, List.map_cons, List.map_nil, rowAt_gO]; rfl
theorem vOs_map (X : S512x32.Idx → F .f32) (b : BitVec 32) (hb : b.toNat ≤ 496) (l : ℕ) (hl : l ≤ 16) : (vOs b hb l hl).map (rowAt X) = vVals X b.toNat l := by
  simp only [vOs, List.map_cons, List.map_nil, rowAt_vO]; rfl

/-- Sixteen lanes of row `t` from lane `l` replaced. -/
def setHalf (X : S512x32.Idx → F .f32) (t l : ℕ) (x : V16 F) : S512x32.Idx → F .f32 :=
  fun y => if h : (y 0).val = t ∧ l ≤ (y 1).val ∧ (y 1).val < l + 16 then x (ix1 (⟨(y 1).val - l, by omega⟩ : Fin 16)) else X y

/-- Row `t` replaced by two halves. -/
def setRow (X : S512x32.Idx → F .f32) (t : ℕ) (x0 x1 : V16 F) : S512x32.Idx → F .f32 := setHalf (setHalf X t 0 x0) t 16 x1

/-! ## The rules -/

section Rules

variable {defs : Defs nD τ sig (Elt F) Λ₀} (d : Dev nD) (i : grid1.Coords) {α : Type} {Q : α → sProp (MM F)}

theorem wp_ld {a b : ℕ} (m : Memref sig .scVector .vmem ⟨2, ![a, b]⟩ .f32) (o : Off a b) (k : Vec F S1x16 .f32 → Pr F i α)
    {q : PosShare TreeShare} (f : Buf (Elt F) (m.view.loc (thr d i))) :
    (m.view.loc (thr d i) ↦{q} f)
      ⊢ (iprop(((m.view.loc (thr d i) ↦{q} f)
          -∗ wp frame (wpE defs 𝒱₀ (thr d i) none) Set.univ (k fun x => m.view.read (Elt F) f ((Rect.unit (s := ⟨2, ![a, b]⟩) o.off S1x16.size o.inb).idx x)) Q)
        -∗ wp frame (wpE defs 𝒱₀ (thr d i) none) Set.univ (ld m o >>= k) Q) : sProp (MM F)) := by
  unfold ld
  rw [Prog.bind_lift]
  refine wp_load (Ix := HIx 1) (Name := ℕ) (U := UU) (Lvl := ℕ) (m := m) (r := (Rect.unit (s := ⟨2, ![a, b]⟩) o.off S1x16.size o.inb).toLoadRect) (k := k) (f := f) (Q := Q) 𝒱₀ (thr d i) none Set.univ (S := Finset.univ) ?_
  exact Finset.subset_univ _

theorem wp_rows {a b : ℕ} (m : Memref sig .scVector .vmem ⟨2, ![a, b]⟩ .f32) {q : PosShare TreeShare} (f : Buf (Elt F) (m.view.loc (thr d i))) :
    ∀ (os : List (Off a b)) (k : List (V16 F) → Pr F i α),
    (m.view.loc (thr d i) ↦{q} f)
      ⊢ (iprop(((m.view.loc (thr d i) ↦{q} f)
          -∗ wp frame (wpE defs 𝒱₀ (thr d i) none) Set.univ (k (os.map (rowAt (m.view.read (Elt F) f)))) Q)
        -∗ wp frame (wpE defs 𝒱₀ (thr d i) none) Set.univ (rows m os k) Q) : sProp (MM F))
  | [], k => by
    iintro H Hk
    unfold rows
    iapply Hk; iexact H
  | o :: os, k => by
    unfold rows
    iintro H Hk
    iapply (wp_ld d i m o _ f) $$ H
    iintro H
    iapply (wp_rows m f os _) $$ H
    iexact Hk

theorem wp_put (m : Memref sig .scVector .vmem S512x32 .f32) (t : BitVec 32) (ht : t.toNat < 512) (l : ℕ) (hl : l ≤ 16) (x : V16 F)
    (k : Pr F i α) (f : Buf (Elt F) (m.view.loc (thr d i))) :
    (m.view.loc (thr d i) ↦{fullShare} f)
      ⊢ (iprop((∀ f' : Buf (Elt F) (m.view.loc (thr d i)), ⌜m.view.read (Elt F) f' = setHalf (m.view.read (Elt F) f) t.toNat l x⌝
          -∗ (m.view.loc (thr d i) ↦{fullShare} f')
          -∗ wp frame (wpE defs 𝒱₀ (thr d i) none) Set.univ k Q)
        -∗ wp frame (wpE defs 𝒱₀ (thr d i) none) Set.univ (put m (tO t ht l hl) x k) Q) : sProp (MM F)) := by
  unfold put
  iintro H Hk
  iapply (wp_ld d i m (tO t ht l hl) _ f) $$ H
  iintro H
  unfold st
  rw [Prog.bind_lift]
  iapply (wp_store_writes₀ (Ix := HIx 1) (Name := ℕ) (U := UU) (Lvl := ℕ) 𝒱₀ (thr d i) none Set.univ (Finset.subset_univ _)) $$ H
  iintro H
  ispecialize Hk $$ %(m.view.writes (Elt F) f
    [⟨Rect.unit (s := S512x32) (tO t ht l hl).off S1x16.size (tO t ht l hl).inb, shapeCast S1x16 x Facts₀.shapeCasts_S16_S1x16⟩])
  iapply Hk $$ [] H
  ipureintro
  funext y
  rw [View.read_writes_cons_unit (off' := (tO t ht l hl).off) m.view f _ _ _ y rfl]
  unfold setHalf
  have hiff : (∀ a, (tO t ht l hl).off a ≤ (y a).val ∧ (y a).val < (tO t ht l hl).off a + S1x16.size a)
      ↔ ((y 0).val = t.toNat ∧ l ≤ (y 1).val ∧ (y 1).val < l + 16) := by
    constructor
    · intro h
      have h0 : t.toNat ≤ (y 0).val ∧ (y 0).val < t.toNat + 1 := h 0
      have h1 : l ≤ (y 1).val ∧ (y 1).val < l + 16 := h 1
      omega
    · intro h a
      match a with
      | ⟨0, _⟩ =>
        show t.toNat ≤ (y 0).val ∧ (y 0).val < t.toNat + 1
        omega
      | ⟨1, _⟩ => exact h.2
  by_cases h : ((y 0).val = t.toNat ∧ l ≤ (y 1).val ∧ (y 1).val < l + 16)
  · rw [dif_pos h, dif_pos (hiff.mpr h)]
    refine (congrArg _ (eq_ix2 (n0 := 1) (n1 := 16) _)).trans ((shapeCast_a_1a_apply (a := 16) _ _ _ _).trans ?_)
    exact congrArg x (congrArg ix1 (Fin.ext rfl))
  · rw [dif_neg h, dif_neg (fun h' => h (hiff.mp h'))]
    rfl

end Rules

end Cert.Proof
-- ==== Proof.Rec.lean ====
/- The recurrence as a function, and what each kind of row leaves in the tile's buffers. -/
module

public import proofs.«01_k».proof.Proof.Trip

@[expose] public section

noncomputable section

namespace Cert.Proof

open Cert.KernelIdeal Cert.KernelIdeal.Gen Cert.KernelIdeal.Step

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a tile reads: the projected scores and values of its batch, the lanes' numbers, the length, the output's bias and the mask. -/
structure Env (F : FTy → Type) where
  G : S32x512.Idx → F .f32
  X : S512x32.Idx → F .f32
  ln : IVec S16 32
  len : IVec S16 32
  b0 : V16 F
  b1 : V16 F
  ninf : F .f32

variable (E : Env F)

/-- A row whose window's valid positions lie in the low half. -/
def lightP (t base : BitVec 32) (q : V16 F × V16 F) : Out F :=
  let e0 := expo E.ninf (valid t (pos0 base E.ln) E.len) (score q.1 q.2 (gVals E.G base.toNat))
  let w0 := divf e0 (norm e0)
  ⟨w0, z16, tree addf z16 5 (E.b0 :: scale (lanes w0) (vVals E.X base.toNat 0)), tree addf z16 5 (E.b1 :: scale (lanes w0) (vVals E.X base.toNat 16))⟩

/-- A row whose window's valid positions lie in both halves. -/
def fullP (t base hi : BitVec 32) (q : V16 F × V16 F) : Out F :=
  let e0 := expo E.ninf (valid t (pos0 base E.ln) E.len) (score q.1 q.2 (gVals E.G base.toNat))
  let e1 := expo E.ninf (valid t (pos1 base E.ln) E.len) (score q.1 q.2 (gVals E.G hi.toNat))
  let w0 := divf e0 (norm (addf e0 e1))
  let w1 := divf e1 (norm (addf e0 e1))
  ⟨w0, w1, tree addf z16 6 (E.b0 :: (scale (lanes w0) (vVals E.X base.toNat 0) ++ scale (lanes w1) (vVals E.X hi.toNat 0))),
    tree addf z16 6 (E.b1 :: (scale (lanes w0) (vVals E.X base.toNat 16) ++ scale (lanes w1) (vVals E.X hi.toNat 16)))⟩

/-- A row whose window's valid positions lie in the high half. -/
def hiP (t base hi : BitVec 32) (q : V16 F × V16 F) : Out F :=
  let e1 := expo E.ninf (valid t (pos1 base E.ln) E.len) (score q.1 q.2 (gVals E.G hi.toNat))
  let w1 := divf e1 (norm e1)
  ⟨z16, w1, tree addf z16 5 (E.b0 :: scale (lanes w1) (vVals E.X hi.toNat 0)), tree addf z16 5 (E.b1 :: scale (lanes w1) (vVals E.X hi.toNat 16))⟩

/-- Row `t` from the carried query. -/
def stepP (t : ℕ) (q : V16 F × V16 F) : Out F :=
  let tb := BitVec.ofNat 32 t
  if t < 11 ∨ (t < 491 ∧ 10 ≤ (t - 11) % 16) then lightP E tb (baseOf tb) q
  else if t < 501 then fullP E tb (baseOf tb) (Scalar.addi (baseOf tb) 16#32) q
  else hiP E tb (baseOf tb) (Scalar.addi (baseOf tb) 16#32) q

/-- The query carried into row `t`. -/
def carry (q : V16 F × V16 F) : ℕ → V16 F × V16 F
  | 0 => q
  | t + 1 => ((stepP E t (carry q t)).q0, (stepP E t (carry q t)).q1)

/-- What row `t` stores. -/
def outAt (q : V16 F × V16 F) (t : ℕ) : Out F := stepP E t (carry E q t)

/-- The rows below `n` are those stored. -/
def Rows (q : V16 F × V16 F) (n : ℕ) (O W : S512x32.Idx → F .f32) : Prop :=
  ∀ r : Fin 512, r.val < n → ∀ j : Fin 16,
    O (ix2 r (⟨j.val, by omega⟩ : Fin 32)) = (outAt E q r.val).q0 (ix1 j) ∧ O (ix2 r (⟨j.val + 16, by omega⟩ : Fin 32)) = (outAt E q r.val).q1 (ix1 j)
    ∧ W (ix2 r (⟨j.val, by omega⟩ : Fin 32)) = (outAt E q r.val).w0 (ix1 j) ∧ W (ix2 r (⟨j.val + 16, by omega⟩ : Fin 32)) = (outAt E q r.val).w1 (ix1 j)

theorem setRow_lo (X : S512x32.Idx → F .f32) (t : ℕ) (x0 x1 : V16 F) (r : Fin 512) (h : r.val = t) (j : Fin 16) :
    setRow X t x0 x1 (ix2 r (⟨j.val, by omega⟩ : Fin 32)) = x0 (ix1 j) := by
  unfold setRow setHalf
  rw [dif_neg (by
    rintro ⟨_, h1, _⟩
    have h1 : 16 ≤ j.val := h1
    omega), dif_pos ⟨h, Nat.zero_le _, show j.val < 0 + 16 by omega⟩]
  exact congrArg x0 (congrArg ix1 (Fin.ext rfl))

theorem setRow_hi (X : S512x32.Idx → F .f32) (t : ℕ) (x0 x1 : V16 F) (r : Fin 512) (h : r.val = t) (j : Fin 16) :
    setRow X t x0 x1 (ix2 r (⟨j.val + 16, by omega⟩ : Fin 32)) = x1 (ix1 j) := by
  unfold setRow setHalf
  rw [dif_pos ⟨h, show 16 ≤ j.val + 16 by omega, show j.val + 16 < 16 + 16 by omega⟩]
  exact congrArg x1 (congrArg ix1 (Fin.ext (show j.val + 16 - 16 = j.val by omega)))

theorem setRow_ne (X : S512x32.Idx → F .f32) (t : ℕ) (x0 x1 : V16 F) (r : Fin 512) (h : r.val ≠ t) (c : Fin 32) :
    setRow X t x0 x1 (ix2 r c) = X (ix2 r c) := by
  unfold setRow setHalf
  rw [dif_neg (fun h' => h h'.1), dif_neg (fun h' => h h'.1)]

theorem Rows.step {q : V16 F × V16 F} {n : ℕ} {O W O' W' : S512x32.Idx → F .f32} (hR : Rows E q n O W)
    (hO : O' = setRow O n (outAt E q n).q0 (outAt E q n).q1) (hW : W' = setRow W n (outAt E q n).w0 (outAt E q n).w1) : Rows E q (n + 1) O' W' := by
  subst hO hW
  intro r hr j
  by_cases h : r.val = n
  · rw [setRow_lo _ _ _ _ r h, setRow_hi _ _ _ _ r h, setRow_lo _ _ _ _ r h, setRow_hi _ _ _ _ r h, h]
    exact ⟨rfl, rfl, rfl, rfl⟩
  · rw [setRow_ne _ _ _ _ r h, setRow_ne _ _ _ _ r h, setRow_ne _ _ _ _ r h, setRow_ne _ _ _ _ r h]
    exact hR r (by omega) j

section Wp

variable {defs : Defs nD τ sig (Elt F) Λ₀} (d : Dev nD) (i : grid1.Coords) {Q : V16 F × V16 F → sProp (MM F)}
  (gt : Memref sig .scVector .vmem S32x512 .f32) (vv ov wv : Memref sig .scVector .vmem S512x32 .f32)
  (fg : Buf (Elt F) (gt.view.loc (thr d i))) (fv : Buf (Elt F) (vv.view.loc (thr d i)))
  (fo : Buf (Elt F) (ov.view.loc (thr d i))) (fw : Buf (Elt F) (wv.view.loc (thr d i)))
  (hG : gt.view.read (Elt F) fg = E.G) (hX : vv.view.read (Elt F) fv = E.X)

/-- What a trip storing `o` at row `t` gives its continuation. -/
def After (t : ℕ) (o : Out F) (Q : V16 F × V16 F → sProp (MM F)) : sProp (MM F) :=
  iprop(∀ fo' : Buf (Elt F) (ov.view.loc (thr d i)), ∀ fw' : Buf (Elt F) (wv.view.loc (thr d i)),
    ⌜ov.view.read (Elt F) fo' = setRow (ov.view.read (Elt F) fo) t o.q0 o.q1 ∧ wv.view.read (Elt F) fw' = setRow (wv.view.read (Elt F) fw) t o.w0 o.w1⌝
    -∗ (gt.view.loc (thr d i) ↦{fullShare} fg) -∗ (vv.view.loc (thr d i) ↦{fullShare} fv)
    -∗ (ov.view.loc (thr d i) ↦{fullShare} fo') -∗ (wv.view.loc (thr d i) ↦{fullShare} fw') -∗ Q (o.q0, o.q1))

include hG hX

theorem wp_light (t base : BitVec 32) (ht : t.toNat < 512) (hb : base.toNat ≤ 496) (q : V16 F × V16 F) :
    iprop((gt.view.loc (thr d i) ↦{fullShare} fg) ∗ (vv.view.loc (thr d i) ↦{fullShare} fv) ∗ (ov.view.loc (thr d i) ↦{fullShare} fo) ∗ (wv.view.loc (thr d i) ↦{fullShare} fw)
      ∗ After d i gt vv ov wv fg fv fo fw t.toNat (lightP E t base q) Q)
      ⊢ wp frame (wpE defs 𝒱₀ (thr d i) none) Set.univ (light gt vv ov wv E.ln E.len E.b0 E.b1 E.ninf t base ht hb q) Q := by
  unfold light After lightP
  iintro ⟨Hg, Hv, Ho, Hw, Hk⟩
  iapply (wp_rows d i gt fg (gOs base hb) _) $$ Hg
  iintro Hg
  rw [hG, gOs_map]
  dsimp only
  iapply (wp_put d i wv t ht 0 _ _ _ fw) $$ Hw
  iintro %w1 %hw1 Hw
  iapply (wp_put d i wv t ht 16 _ _ _ w1) $$ Hw
  iintro %w2 %hw2 Hw
  iapply (wp_rows d i vv fv (vOs base hb 0 _) _) $$ Hv
  iintro Hv
  iapply (wp_rows d i vv fv (vOs base hb 16 _) _) $$ Hv
  iintro Hv
  rw [hX, vOs_map, vOs_map]
  dsimp only
  iapply (wp_put d i ov t ht 0 _ _ _ fo) $$ Ho
  iintro %o1 %ho1 Ho
  iapply (wp_put d i ov t ht 16 _ _ _ o1) $$ Ho
  iintro %o2 %ho2 Ho
  rw [wp_ret]
  imodintro
  ispecialize Hk $$ %o2 %w2
  rw [ho1] at ho2
  rw [hw1] at hw2
  iapply Hk $$ %⟨ho2, hw2⟩ Hg Hv Ho Hw

theorem wp_full (t base hi : BitVec 32) (ht : t.toNat < 512) (hb : base.toNat ≤ 496) (hh : hi.toNat ≤ 496) (q : V16 F × V16 F) :
    iprop((gt.view.loc (thr d i) ↦{fullShare} fg) ∗ (vv.view.loc (thr d i) ↦{fullShare} fv) ∗ (ov.view.loc (thr d i) ↦{fullShare} fo) ∗ (wv.view.loc (thr d i) ↦{fullShare} fw)
      ∗ After d i gt vv ov wv fg fv fo fw t.toNat (fullP E t base hi q) Q)
      ⊢ wp frame (wpE defs 𝒱₀ (thr d i) none) Set.univ (full gt vv ov wv E.ln E.len E.b0 E.b1 E.ninf t base hi ht hb hh q) Q := by
  unfold full After fullP
  iintro ⟨Hg, Hv, Ho, Hw, Hk⟩
  iapply (wp_rows d i gt fg (gOs base hb) _) $$ Hg
  iintro Hg
  iapply (wp_rows d i gt fg (gOs hi hh) _) $$ Hg
  iintro Hg
  rw [hG, gOs_map, gOs_map]
  dsimp only
  iapply (wp_put d i wv t ht 0 _ _ _ fw) $$ Hw
  iintro %w1 %hw1 Hw
  iapply (wp_put d i wv t ht 16 _ _ _ w1) $$ Hw
  iintro %w2 %hw2 Hw
  iapply (wp_rows d i vv fv (vOs base hb 0 _) _) $$ Hv
  iintro Hv
  iapply (wp_rows d i vv fv (vOs base hb 16 _) _) $$ Hv
  iintro Hv
  iapply (wp_rows d i vv fv (vOs hi hh 0 _) _) $$ Hv
  iintro Hv
  iapply (wp_rows d i vv fv (vOs hi hh 16 _) _) $$ Hv
  iintro Hv
  rw [hX, vOs_map, vOs_map, vOs_map, vOs_map]
  dsimp only
  iapply (wp_put d i ov t ht 0 _ _ _ fo) $$ Ho
  iintro %o1 %ho1 Ho
  iapply (wp_put d i ov t ht 16 _ _ _ o1) $$ Ho
  iintro %o2 %ho2 Ho
  rw [wp_ret]
  imodintro
  ispecialize Hk $$ %o2 %w2
  rw [ho1] at ho2
  rw [hw1] at hw2
  iapply Hk $$ %⟨ho2, hw2⟩ Hg Hv Ho Hw

theorem wp_hi (t base hi : BitVec 32) (ht : t.toNat < 512) (hh : hi.toNat ≤ 496) (q : V16 F × V16 F) :
    iprop((gt.view.loc (thr d i) ↦{fullShare} fg) ∗ (vv.view.loc (thr d i) ↦{fullShare} fv) ∗ (ov.view.loc (thr d i) ↦{fullShare} fo) ∗ (wv.view.loc (thr d i) ↦{fullShare} fw)
      ∗ After d i gt vv ov wv fg fv fo fw t.toNat (hiP E t base hi q) Q)
      ⊢ wp frame (wpE defs 𝒱₀ (thr d i) none) Set.univ (hionly gt vv ov wv E.ln E.len E.b0 E.b1 E.ninf t base hi ht hh q) Q := by
  unfold hionly After hiP
  iintro ⟨Hg, Hv, Ho, Hw, Hk⟩
  iapply (wp_rows d i gt fg (gOs hi hh) _) $$ Hg
  iintro Hg
  rw [hG, gOs_map]
  dsimp only
  iapply (wp_put d i wv t ht 0 _ _ _ fw) $$ Hw
  iintro %w1 %hw1 Hw
  iapply (wp_put d i wv t ht 16 _ _ _ w1) $$ Hw
  iintro %w2 %hw2 Hw
  iapply (wp_rows d i vv fv (vOs hi hh 0 _) _) $$ Hv
  iintro Hv
  iapply (wp_rows d i vv fv (vOs hi hh 16 _) _) $$ Hv
  iintro Hv
  rw [hX, vOs_map, vOs_map]
  dsimp only
  iapply (wp_put d i ov t ht 0 _ _ _ fo) $$ Ho
  iintro %o1 %ho1 Ho
  iapply (wp_put d i ov t ht 16 _ _ _ o1) $$ Ho
  iintro %o2 %ho2 Ho
  rw [wp_ret]
  imodintro
  ispecialize Hk $$ %o2 %w2
  rw [ho1] at ho2
  rw [hw1] at hw2
  iapply Hk $$ %⟨ho2, hw2⟩ Hg Hv Ho Hw

end Wp

end Cert.Proof
-- ==== Proof.StepEq.lean ====
/- The printed trips are the trips of `Step`. -/
module

public import proofs.«01_k».proof.Proof.Step

@[expose] public section

noncomputable section

namespace Cert.KernelIdeal.Step

open Idealize.ShloMosaic Idealize.SL.Sem
open Cert.KernelIdeal Cert.KernelIdeal.Gen

variable {F : FTy → Type} [FloatOps F]

set_option maxRecDepth 100000 in
set_option maxHeartbeats 4000000 in
theorem t1_eq (i : grid1.Coords) (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1) (v5 : IVec S16 32) (v7 : IVec S16 32) (v9 : FVec F S16 .f32) (v11 : FVec F S16 .f32) (cst_6 : F .f32) (k : Fin (k1_t1_loop).trips) (a b : V16 F) (ht : ((Scf.iv 0#32 1#32 k)).toNat < 512) (hb : ((baseOf (Scf.iv 0#32 1#32 k))).toNat ≤ 496) :
    k1_t1_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 v5 v7 v9 v11 cst_6 k (a, b) = light arg8 arg9 arg12 arg13 v5 v7 v9 v11 cst_6 (Scf.iv 0#32 1#32 k) (baseOf (Scf.iv 0#32 1#32 k)) ht hb (a, b) := rfl

set_option maxRecDepth 100000 in
set_option maxHeartbeats 4000000 in
theorem t3_eq (i : grid1.Coords) (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1) (v5 : IVec S16 32) (v7 : IVec S16 32) (v9 : FVec F S16 .f32) (v11 : FVec F S16 .f32) (cst_9 : F .f32) (k1_t2 : Fin k1_t2_loop.trips) (k : Fin (k1_t3_loop k1_t2).trips) (a b : V16 F) (ht : ((Scf.iv (Scalar.addi 11#32 (Scalar.muli (Scf.iv 0#32 1#32 k1_t2) 16#32)) 1#32 k)).toNat < 512) (hb : ((baseOf (Scf.iv (Scalar.addi 11#32 (Scalar.muli (Scf.iv 0#32 1#32 k1_t2) 16#32)) 1#32 k))).toNat ≤ 496) (hh : ((Scalar.addi (baseOf (Scf.iv (Scalar.addi 11#32 (Scalar.muli (Scf.iv 0#32 1#32 k1_t2) 16#32)) 1#32 k)) 16#32)).toNat ≤ 496) :
    k1_t3_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 v5 v7 v9 v11 cst_9 k1_t2 (Scalar.addi 11#32 (Scalar.muli (Scf.iv 0#32 1#32 k1_t2) 16#32)) k (a, b) = full arg8 arg9 arg12 arg13 v5 v7 v9 v11 cst_9 (Scf.iv (Scalar.addi 11#32 (Scalar.muli (Scf.iv 0#32 1#32 k1_t2) 16#32)) 1#32 k) (baseOf (Scf.iv (Scalar.addi 11#32 (Scalar.muli (Scf.iv 0#32 1#32 k1_t2) 16#32)) 1#32 k)) (Scalar.addi (baseOf (Scf.iv (Scalar.addi 11#32 (Scalar.muli (Scf.iv 0#32 1#32 k1_t2) 16#32)) 1#32 k)) 16#32) ht hb hh (a, b) := rfl

set_option maxRecDepth 100000 in
set_option maxHeartbeats 4000000 in
theorem t5_eq (i : grid1.Coords) (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1) (v5 : IVec S16 32) (v7 : IVec S16 32) (v9 : FVec F S16 .f32) (v11 : FVec F S16 .f32) (cst_9 : F .f32) (k1_t2 : Fin k1_t2_loop.trips) (k : Fin (k1_t5_loop k1_t2).trips) (a b : V16 F) (ht : ((Scf.iv (Scalar.addi (Scalar.addi 11#32 (Scalar.muli (Scf.iv 0#32 1#32 k1_t2) 16#32)) 10#32) 1#32 k)).toNat < 512) (hb : ((baseOf (Scf.iv (Scalar.addi (Scalar.addi 11#32 (Scalar.muli (Scf.iv 0#32 1#32 k1_t2) 16#32)) 10#32) 1#32 k))).toNat ≤ 496) :
    k1_t5_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 v5 v7 v9 v11 cst_9 k1_t2 (Scalar.addi (Scalar.addi 11#32 (Scalar.muli (Scf.iv 0#32 1#32 k1_t2) 16#32)) 10#32) k (a, b) = light arg8 arg9 arg12 arg13 v5 v7 v9 v11 cst_9 (Scf.iv (Scalar.addi (Scalar.addi 11#32 (Scalar.muli (Scf.iv 0#32 1#32 k1_t2) 16#32)) 10#32) 1#32 k) (baseOf (Scf.iv (Scalar.addi (Scalar.addi 11#32 (Scalar.muli (Scf.iv 0#32 1#32 k1_t2) 16#32)) 10#32) 1#32 k)) ht hb (a, b) := rfl

set_option maxRecDepth 100000 in
set_option maxHeartbeats 4000000 in
theorem t7_eq (i : grid1.Coords) (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1) (v5 : IVec S16 32) (v7 : IVec S16 32) (v9 : FVec F S16 .f32) (v11 : FVec F S16 .f32) (cst_13 : F .f32) (k : Fin (k1_t7_loop).trips) (a b : V16 F) (ht : ((Scf.iv 491#32 1#32 k)).toNat < 512) (hb : ((baseOf (Scf.iv 491#32 1#32 k))).toNat ≤ 496) (hh : ((Scalar.addi (baseOf (Scf.iv 491#32 1#32 k)) 16#32)).toNat ≤ 496) :
    k1_t7_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 v5 v7 v9 v11 cst_13 k (a, b) = full arg8 arg9 arg12 arg13 v5 v7 v9 v11 cst_13 (Scf.iv 491#32 1#32 k) (baseOf (Scf.iv 491#32 1#32 k)) (Scalar.addi (baseOf (Scf.iv 491#32 1#32 k)) 16#32) ht hb hh (a, b) := rfl

set_option maxRecDepth 100000 in
set_option maxHeartbeats 4000000 in
theorem t8_eq (i : grid1.Coords) (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1) (v5 : IVec S16 32) (v7 : IVec S16 32) (v9 : FVec F S16 .f32) (v11 : FVec F S16 .f32) (cst_16 : F .f32) (k : Fin (k1_t8_loop).trips) (a b : V16 F) (ht : ((Scf.iv 501#32 1#32 k)).toNat < 512) (hh : ((Scalar.addi (baseOf (Scf.iv 501#32 1#32 k)) 16#32)).toNat ≤ 496) :
    k1_t8_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 v5 v7 v9 v11 cst_16 k (a, b) = hionly arg8 arg9 arg12 arg13 v5 v7 v9 v11 cst_16 (Scf.iv 501#32 1#32 k) (baseOf (Scf.iv 501#32 1#32 k)) (Scalar.addi (baseOf (Scf.iv 501#32 1#32 k)) 16#32) ht hh (a, b) := rfl

end Cert.KernelIdeal.Step
-- ==== Proof.Recur.lean ====
/- The loops over the rows. -/
module

public import proofs.«01_k».proof.Proof.Rec
public import proofs.«01_k».proof.Proof.StepEq

@[expose] public section

noncomputable section

namespace Cert.Proof

open Cert.KernelIdeal Cert.KernelIdeal.Gen Cert.KernelIdeal.Step

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rows and trip counts -/

theorem base_eq : ∀ t : Fin 512, baseOf (BitVec.ofNat 32 t.val) = BitVec.ofNat 32 (min 480 (((t.val - 5) / 16) * 16)) := by decide +kernel
theorem base_le (n : ℕ) (hn : n < 512) : (baseOf (BitVec.ofNat 32 n)).toNat ≤ 496 := by
  rw [base_eq ⟨n, hn⟩, BitVec.toNat_ofNat, Nat.mod_eq_of_lt] <;> simp only <;> omega
theorem hi_eq : ∀ t : Fin 512, (Scalar.addi (baseOf (BitVec.ofNat 32 t.val)) 16#32).toNat = min 480 (((t.val - 5) / 16) * 16) + 16 := by decide +kernel
theorem hi_le (n : ℕ) (hn : n < 512) : (Scalar.addi (baseOf (BitVec.ofNat 32 n)) 16#32).toNat ≤ 496 := by
  rw [hi_eq ⟨n, hn⟩]; simp only; omega
theorem row_lt (n : ℕ) (hn : n < 512) : (BitVec.ofNat 32 n).toNat < 512 := by
  rw [BitVec.toNat_ofNat, Nat.mod_eq_of_lt] <;> omega

theorem t1_trips : k1_t1_loop.trips = 11 := by decide +kernel
theorem t2_trips : k1_t2_loop.trips = 30 := by decide +kernel
theorem t7_trips : k1_t7_loop.trips = 10 := by decide +kernel
theorem t8_trips : k1_t8_loop.trips = 11 := by decide +kernel
theorem t3_trips : ∀ k, (k1_t3_loop k).trips = 10 := by decide +kernel
theorem t4_trips : ∀ k, (k1_t4_loop k).trips = 0 := by decide +kernel
theorem t5_trips : ∀ k, (k1_t5_loop k).trips = 6 := by decide +kernel
theorem t6_trips : ∀ k, (k1_t6_loop k).trips = 0 := by decide +kernel

theorem iv_nat (lb k : ℕ) : Scf.iv (BitVec.ofNat 32 lb) 1#32 k = BitVec.ofNat 32 (lb + k) := by
  rw [Scf.iv, BitVec.mul_one, ← BitVec.ofNat_add]
theorem low_nat (k : ℕ) : Scalar.addi 11#32 (Scalar.muli (Scf.iv 0#32 1#32 k) 16#32) = BitVec.ofNat 32 (11 + k * 16) := by
  rw [iv_nat 0 k, Nat.zero_add]
  show 11#32 + BitVec.ofNat 32 k * 16#32 = _
  rw [← BitVec.ofNat_mul, ← BitVec.ofNat_add]
theorem low10_nat (k : ℕ) : Scalar.addi (Scalar.addi 11#32 (Scalar.muli (Scf.iv 0#32 1#32 k) 16#32)) 10#32 = BitVec.ofNat 32 (11 + k * 16 + 10) := by
  rw [low_nat]
  show BitVec.ofNat 32 _ + 10#32 = _
  rw [← BitVec.ofNat_add]

section Loops

variable (E : Env F) (q0 : V16 F × V16 F)
variable {defs : Defs nD τ sig (Elt F) Λ₀} (d : Dev nD) (i : grid1.Coords)
variable (arg2 : Memref sig .scVector .hbm S32x8192 .f32) (harg2 : arg2.IsWhole) (arg3 : Memref sig .scVector .hbm S8192x32 .f32) (harg3 : arg3.IsWhole) (arg4 : Memref sig .scVector .hbm S16x16 .i32) (harg4 : arg4.IsWhole) (arg5 : Memref sig .scVector .hbm S32 .f32) (harg5 : arg5.IsWhole) (arg6 : Memref sig .scVector .hbm S8192x32 .f32) (harg6 : arg6.IsWhole) (arg7 : Memref sig .scVector .hbm S8192x32 .f32) (harg7 : arg7.IsWhole) (arg8 : Memref sig .scVector .vmem S32x512 .f32) (harg8 : arg8.IsWhole) (arg9 : Memref sig .scVector .vmem S512x32 .f32) (harg9 : arg9.IsWhole) (arg10 : Memref sig .scVector .vmem S16 .i32) (harg10 : arg10.IsWhole) (arg11 : Memref sig .scVector .vmem S32 .f32) (harg11 : arg11.IsWhole) (arg12 : Memref sig .scVector .vmem S512x32 .f32) (harg12 : arg12.IsWhole) (arg13 : Memref sig .scVector .vmem S512x32 .f32) (harg13 : arg13.IsWhole) (v29_r0 : DmaSems sig S_) (v29_r1 : DmaSems sig S_) (v29_r2 : DmaSems sig S_) (v29_r3 : DmaSems sig S_) (v29_r4 : DmaSems sig S_) (v29_r5 : DmaSems sig S_) (k1_h1 : k1_cond1 i = 1#1)
variable (fg : Buf (Elt F) (arg8.view.loc (thr d i))) (fv : Buf (Elt F) (arg9.view.loc (thr d i)))
  (hG : arg8.view.read (Elt F) fg = E.G) (hX : arg9.view.read (Elt F) fv = E.X)

/-- Before row `n`: the rows stored, the query carried. -/
def Inv (n : ℕ) (c : V16 F × V16 F) : sProp (MM F) :=
  iprop((arg8.view.loc (thr d i) ↦{fullShare} fg) ∗ (arg9.view.loc (thr d i) ↦{fullShare} fv)
    ∗ ∃ fo : Buf (Elt F) (arg12.view.loc (thr d i)), ∃ fw : Buf (Elt F) (arg13.view.loc (thr d i)),
      (arg12.view.loc (thr d i) ↦{fullShare} fo) ∗ (arg13.view.loc (thr d i) ↦{fullShare} fw)
      ∗ ⌜c = carry E q0 n ∧ Rows E q0 n (arg12.view.read (Elt F) fo) (arg13.view.read (Elt F) fw)⌝)

include hG hX

theorem inv_light (n : ℕ) (hn : n < 512) (hk : n < 11 ∨ (n < 491 ∧ 10 ≤ (n - 11) % 16)) (t : BitVec 32) (e : t = BitVec.ofNat 32 n) (ht : t.toNat < 512) (hb : (baseOf t).toNat ≤ 496) (c : V16 F × V16 F) :
    Inv E q0 d i arg8 arg9 arg12 arg13 fg fv n c ⊢ wp frame (wpE defs 𝒱₀ (thr d i) none) Set.univ (light arg8 arg9 arg12 arg13 E.ln E.len E.b0 E.b1 E.ninf t (baseOf t) ht hb c) (Inv E q0 d i arg8 arg9 arg12 arg13 fg fv (n + 1)) := by
  subst e
  have ho : outAt E q0 n = lightP E (BitVec.ofNat 32 n) (baseOf (BitVec.ofNat 32 n)) (carry E q0 n) := by
    show (if _ then _ else _) = _
    rw [if_pos hk]
  unfold Inv
  iintro ⟨Hg, Hv, %fo, %fw, Ho, Hw, %hc⟩
  obtain ⟨rfl, hR⟩ := hc
  iapply (wp_light E d i arg8 arg9 arg12 arg13 fg fv fo fw hG hX)
  isplitl [Hg]; · iexact Hg
  isplitl [Hv]; · iexact Hv
  isplitl [Ho]; · iexact Ho
  isplitl [Hw]; · iexact Hw
  unfold After
  iintro %fo' %fw' %h Hg Hv Ho Hw
  isplitl [Hg]; · iexact Hg
  isplitl [Hv]; · iexact Hv
  iexists fo'; iexists fw'
  isplitl [Ho]; · iexact Ho
  isplitl [Hw]; · iexact Hw
  ipureintro
  rw [BitVec.toNat_ofNat, Nat.mod_eq_of_lt (by omega), ← ho] at h
  refine ⟨?_, hR.step E h.1 h.2⟩
  rw [← ho]; rfl

theorem inv_full (n : ℕ) (hn : n < 512) (hk : ¬ (n < 11 ∨ (n < 491 ∧ 10 ≤ (n - 11) % 16)) ∧ n < 501) (t : BitVec 32) (e : t = BitVec.ofNat 32 n) (ht : t.toNat < 512) (hb : (baseOf t).toNat ≤ 496) (hh : (Scalar.addi (baseOf t) 16#32).toNat ≤ 496) (c : V16 F × V16 F) :
    Inv E q0 d i arg8 arg9 arg12 arg13 fg fv n c ⊢ wp frame (wpE defs 𝒱₀ (thr d i) none) Set.univ (full arg8 arg9 arg12 arg13 E.ln E.len E.b0 E.b1 E.ninf t (baseOf t) (Scalar.addi (baseOf t) 16#32) ht hb hh c) (Inv E q0 d i arg8 arg9 arg12 arg13 fg fv (n + 1)) := by
  subst e
  have ho : outAt E q0 n = fullP E (BitVec.ofNat 32 n) (baseOf (BitVec.ofNat 32 n)) (Scalar.addi (baseOf (BitVec.ofNat 32 n)) 16#32) (carry E q0 n) := by
    show (if _ then _ else _) = _
    rw [if_neg hk.1, if_pos hk.2]
  unfold Inv
  iintro ⟨Hg, Hv, %fo, %fw, Ho, Hw, %hc⟩
  obtain ⟨rfl, hR⟩ := hc
  iapply (wp_full E d i arg8 arg9 arg12 arg13 fg fv fo fw hG hX)
  isplitl [Hg]; · iexact Hg
  isplitl [Hv]; · iexact Hv
  isplitl [Ho]; · iexact Ho
  isplitl [Hw]; · iexact Hw
  unfold After
  iintro %fo' %fw' %h Hg Hv Ho Hw
  isplitl [Hg]; · iexact Hg
  isplitl [Hv]; · iexact Hv
  iexists fo'; iexists fw'
  isplitl [Ho]; · iexact Ho
  isplitl [Hw]; · iexact Hw
  ipureintro
  rw [BitVec.toNat_ofNat, Nat.mod_eq_of_lt (by omega), ← ho] at h
  refine ⟨?_, hR.step E h.1 h.2⟩
  rw [← ho]; rfl

theorem inv_hi (n : ℕ) (hn : n < 512) (hk : 501 ≤ n) (t : BitVec 32) (e : t = BitVec.ofNat 32 n) (ht : t.toNat < 512) (hh : (Scalar.addi (baseOf t) 16#32).toNat ≤ 496) (c : V16 F × V16 F) :
    Inv E q0 d i arg8 arg9 arg12 arg13 fg fv n c ⊢ wp frame (wpE defs 𝒱₀ (thr d i) none) Set.univ (hionly arg8 arg9 arg12 arg13 E.ln E.len E.b0 E.b1 E.ninf t (baseOf t) (Scalar.addi (baseOf t) 16#32) ht hh c) (Inv E q0 d i arg8 arg9 arg12 arg13 fg fv (n + 1)) := by
  subst e
  have ho : outAt E q0 n = hiP E (BitVec.ofNat 32 n) (baseOf (BitVec.ofNat 32 n)) (Scalar.addi (baseOf (BitVec.ofNat 32 n)) 16#32) (carry E q0 n) := by
    show (if _ then _ else _) = _
    rw [if_neg (by omega), if_neg (by omega)]
  unfold Inv
  iintro ⟨Hg, Hv, %fo, %fw, Ho, Hw, %hc⟩
  obtain ⟨rfl, hR⟩ := hc
  iapply (wp_hi E d i arg8 arg9 arg12 arg13 fg fv fo fw hG hX)
  isplitl [Hg]; · iexact Hg
  isplitl [Hv]; · iexact Hv
  isplitl [Ho]; · iexact Ho
  isplitl [Hw]; · iexact Hw
  unfold After
  iintro %fo' %fw' %h Hg Hv Ho Hw
  isplitl [Hg]; · iexact Hg
  isplitl [Hv]; · iexact Hv
  iexists fo'; iexists fw'
  isplitl [Ho]; · iexact Ho
  isplitl [Hw]; · iexact Hw
  ipureintro
  rw [BitVec.toNat_ofNat, Nat.mod_eq_of_lt (by omega), ← ho] at h
  refine ⟨?_, hR.step E h.1 h.2⟩
  rw [← ho]; rfl

theorem trip1 (k : Fin (k1_t1_loop).trips) (c : V16 F × V16 F) :
    Inv E q0 d i arg8 arg9 arg12 arg13 fg fv (0 + k.val) c ⊢ wp frame (wpE defs 𝒱₀ (thr d i) none) Set.univ (k1_t1_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k c) (Inv E q0 d i arg8 arg9 arg12 arg13 fg fv (0 + (k.val + 1))) := by
  have hk : k.val < 11 := lt_of_lt_of_eq k.isLt (t1_trips)
  have e : Scf.iv 0#32 1#32 k = BitVec.ofNat 32 (0 + k.val) := by exact iv_nat 0 k.val
  obtain ⟨a, b⟩ := c
  have h := inv_light (defs := defs) E q0 d i arg8 arg9 arg12 arg13 fg fv hG hX (0 + k.val) (by omega) (by omega) _ e (e ▸ row_lt _ (by omega)) (e ▸ base_le _ (by omega)) (a, b)
  rw [← t1_eq i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k a b] at h
  exact h

theorem trip3 (k1_t2 : Fin k1_t2_loop.trips) (k : Fin (k1_t3_loop k1_t2).trips) (c : V16 F × V16 F) :
    Inv E q0 d i arg8 arg9 arg12 arg13 fg fv (11 + k1_t2.val * 16 + k.val) c ⊢ wp frame (wpE defs 𝒱₀ (thr d i) none) Set.univ (k1_t3_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k1_t2 (Scalar.addi 11#32 (Scalar.muli (Scf.iv 0#32 1#32 k1_t2) 16#32)) k c) (Inv E q0 d i arg8 arg9 arg12 arg13 fg fv (11 + k1_t2.val * 16 + (k.val + 1))) := by
  have hk : k.val < 10 := lt_of_lt_of_eq k.isLt (t3_trips k1_t2)
  have hk2 : k1_t2.val < 30 := lt_of_lt_of_eq k1_t2.isLt t2_trips
  have e : Scf.iv (Scalar.addi 11#32 (Scalar.muli (Scf.iv 0#32 1#32 k1_t2) 16#32)) 1#32 k = BitVec.ofNat 32 (11 + k1_t2.val * 16 + k.val) := by rw [low_nat, iv_nat]
  obtain ⟨a, b⟩ := c
  have h := inv_full (defs := defs) E q0 d i arg8 arg9 arg12 arg13 fg fv hG hX (11 + k1_t2.val * 16 + k.val) (by omega) (by omega) _ e (e ▸ row_lt _ (by omega)) (e ▸ base_le _ (by omega)) (e ▸ hi_le _ (by omega)) (a, b)
  rw [← t3_eq i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k1_t2 k a b] at h
  exact h

theorem trip5 (k1_t2 : Fin k1_t2_loop.trips) (k : Fin (k1_t5_loop k1_t2).trips) (c : V16 F × V16 F) :
    Inv E q0 d i arg8 arg9 arg12 arg13 fg fv (11 + k1_t2.val * 16 + 10 + k.val) c ⊢ wp frame (wpE defs 𝒱₀ (thr d i) none) Set.univ (k1_t5_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k1_t2 (Scalar.addi (Scalar.addi 11#32 (Scalar.muli (Scf.iv 0#32 1#32 k1_t2) 16#32)) 10#32) k c) (Inv E q0 d i arg8 arg9 arg12 arg13 fg fv (11 + k1_t2.val * 16 + 10 + (k.val + 1))) := by
  have hk : k.val < 6 := lt_of_lt_of_eq k.isLt (t5_trips k1_t2)
  have hk2 : k1_t2.val < 30 := lt_of_lt_of_eq k1_t2.isLt t2_trips
  have e : Scf.iv (Scalar.addi (Scalar.addi 11#32 (Scalar.muli (Scf.iv 0#32 1#32 k1_t2) 16#32)) 10#32) 1#32 k = BitVec.ofNat 32 (11 + k1_t2.val * 16 + 10 + k.val) := by rw [low10_nat, iv_nat]
  obtain ⟨a, b⟩ := c
  have h := inv_light (defs := defs) E q0 d i arg8 arg9 arg12 arg13 fg fv hG hX (11 + k1_t2.val * 16 + 10 + k.val) (by omega) (by omega) _ e (e ▸ row_lt _ (by omega)) (e ▸ base_le _ (by omega)) (a, b)
  rw [← t5_eq i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k1_t2 k a b] at h
  exact h

theorem trip7 (k : Fin (k1_t7_loop).trips) (c : V16 F × V16 F) :
    Inv E q0 d i arg8 arg9 arg12 arg13 fg fv (491 + k.val) c ⊢ wp frame (wpE defs 𝒱₀ (thr d i) none) Set.univ (k1_t7_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k c) (Inv E q0 d i arg8 arg9 arg12 arg13 fg fv (491 + (k.val + 1))) := by
  have hk : k.val < 10 := lt_of_lt_of_eq k.isLt (t7_trips)
  have e : Scf.iv 491#32 1#32 k = BitVec.ofNat 32 (491 + k.val) := by exact iv_nat 491 k.val
  obtain ⟨a, b⟩ := c
  have h := inv_full (defs := defs) E q0 d i arg8 arg9 arg12 arg13 fg fv hG hX (491 + k.val) (by omega) (by omega) _ e (e ▸ row_lt _ (by omega)) (e ▸ base_le _ (by omega)) (e ▸ hi_le _ (by omega)) (a, b)
  rw [← t7_eq i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k a b] at h
  exact h

theorem trip8 (k : Fin (k1_t8_loop).trips) (c : V16 F × V16 F) :
    Inv E q0 d i arg8 arg9 arg12 arg13 fg fv (501 + k.val) c ⊢ wp frame (wpE defs 𝒱₀ (thr d i) none) Set.univ (k1_t8_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k c) (Inv E q0 d i arg8 arg9 arg12 arg13 fg fv (501 + (k.val + 1))) := by
  have hk : k.val < 11 := lt_of_lt_of_eq k.isLt (t8_trips)
  have e : Scf.iv 501#32 1#32 k = BitVec.ofNat 32 (501 + k.val) := by exact iv_nat 501 k.val
  obtain ⟨a, b⟩ := c
  have h := inv_hi (defs := defs) E q0 d i arg8 arg9 arg12 arg13 fg fv hG hX (501 + k.val) (by omega) (by omega) _ e (e ▸ row_lt _ (by omega)) (e ▸ hi_le _ (by omega)) (a, b)
  rw [← t8_eq i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k a b] at h
  exact h

theorem trip2 (k1_t2 : Fin k1_t2_loop.trips) (c : V16 F × V16 F) :
    Inv E q0 d i arg8 arg9 arg12 arg13 fg fv (11 + k1_t2.val * 16) c ⊢ wp frame (wpE defs 𝒱₀ (thr d i) none) Set.univ (k1_t2_body (F := F) i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 E.ln E.len E.b0 E.b1 E.ninf k1_t2 c) (Inv E q0 d i arg8 arg9 arg12 arg13 fg fv (11 + (k1_t2.val + 1) * 16)) := by
  obtain ⟨a, b⟩ := c
  unfold k1_t2_body
  dsimp only
  iintro HI
  iapply (Scf.wp_for_bind Idealize.ShloMosaic.frame (wpE defs 𝒱₀ (thr d i) none) Set.univ _ _ _ (k1_t3_ok i k1_t2 k1_h1) (a, b) _
    (fun n c => Inv E q0 d i arg8 arg9 arg12 arg13 fg fv (11 + k1_t2.val * 16 + n) c) (fun k c => trip3 (defs := defs) E q0 d i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 fg fv hG hX k1_t2 k c)) $$ HI
  iintro %c HI
  obtain ⟨a, b⟩ := c
  rw [show Scf.trips (k1_t3_loop k1_t2).lb (k1_t3_loop k1_t2).ub (k1_t3_loop k1_t2).st = 10 from t3_trips k1_t2]
  dsimp only
  iapply (Scf.wp_for_bind Idealize.ShloMosaic.frame (wpE defs 𝒱₀ (thr d i) none) Set.univ _ _ _ (k1_t4_ok i k1_t2 k1_h1) (a, b) _
    (fun _ c => Inv E q0 d i arg8 arg9 arg12 arg13 fg fv (11 + k1_t2.val * 16 + 10) c) (fun k c => absurd (lt_of_lt_of_eq k.isLt (t4_trips k1_t2)) (Nat.not_lt_zero _))) $$ HI
  iintro %c HI
  obtain ⟨a, b⟩ := c
  dsimp only
  iapply (Scf.wp_for_bind Idealize.ShloMosaic.frame (wpE defs 𝒱₀ (thr d i) none) Set.univ _ _ _ (k1_t5_ok i k1_t2 k1_h1) (a, b) _
    (fun n c => Inv E q0 d i arg8 arg9 arg12 arg13 fg fv (11 + k1_t2.val * 16 + 10 + n) c) (fun k c => trip5 (defs := defs) E q0 d i arg2 harg2 arg3 harg3 arg4 harg4 arg5 harg5 arg6 harg6 arg7 harg7 arg8 harg8 arg9 harg9 arg10 harg10 arg11 harg11 arg12 harg12 arg13 harg13 v29_r0 v29_r1 v29_r2 v29_r3 v29_r4 v29_r5 k1_h1 fg fv hG hX k1_t2 k c)) $$ HI
  iintro %c HI
  obtain ⟨a, b⟩ := c
  rw [show Scf.trips (k1_t5_loop k1_t2).lb (k1_t5_loop k1_t2).ub (k1_t5_loop k1_t2).st = 6 from t5_trips k1_t2]
  dsimp only
  iapply (Scf.wp_for_bind Idealize.ShloMosaic.frame (wpE defs 𝒱₀ (thr d i) none) Set.univ _ _ _ (k1_t6_ok i k1_t2 k1_h1) (a, b) _
    (fun _ c => Inv E q0 d i arg8 arg9 arg12 arg13 fg fv (11 + k1_t2.val * 16 + 10 + 6) c) (fun k c => absurd (lt_of_lt_of_eq k.isLt (t6_trips k1_t2)) (Nat.not_lt_zero _))) $$ HI
  iintro %c HI
  obtain ⟨a, b⟩ := c
  dsimp only
  rw [show (pure (a, b) : Pr F i (V16 F × V16 F)) = Prog.ret (a, b) from rfl, wp_ret]
  imodintro
  rw [show 11 + (k1_t2.val + 1) * 16 = 11 + k1_t2.val * 16 + 10 + 6 by omega]
  iexact HI

end Loops

end Cert.Proof
-- ==== Proof.Tile.lean ====
/- One tile's run: the copies in, the recurrence, the copies out. -/
module

public import proofs.«01_k».proof.Proof.Recur
public import Idealize.ShloMosaic.Lib.ShareLeaves
public import Idealize.ShloMosaic.Lib.Transfers
public import Idealize.ShloMosaic.Lib.Tactic

@[expose] public section

noncomputable section

namespace Cert.Proof

open Cert.KernelIdeal Cert.KernelIdeal.Gen Cert.KernelIdeal.Step

open Idealize.ShloMosaic Idealize.ShloMosaic.ValueIdx Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev gV : Memref sig .scVector .hbm S32x8192 .f32 := Memref.whole main_v3_0_scv
abbrev vV : Memref sig .scVector .hbm S8192x32 .f32 := Memref.whole main_v3_1_scv
abbrev lV : Memref sig .scVector .hbm S16x16 .i32 := Memref.whole main_v5_scv
abbrev bV : Memref sig .scVector .hbm S32 .f32 := Memref.whole main_v7_scv
abbrev oV : Memref sig .scVector .hbm S8192x32 .f32 := Memref.whole main_v8_0_scv
abbrev wV : Memref sig .scVector .hbm S8192x32 .f32 := Memref.whole main_v8_1_scv
abbrev gS : Memref sig .scVector .vmem S32x512 .f32 := Memref.whole cc1_scratch0
abbrev vS : Memref sig .scVector .vmem S512x32 .f32 := Memref.whole cc1_scratch1
abbrev lS : Memref sig .scVector .vmem S16 .i32 := Memref.whole cc1_scratch2
abbrev bS : Memref sig .scVector .vmem S32 .f32 := Memref.whole cc1_scratch3
abbrev oS : Memref sig .scVector .vmem S512x32 .f32 := Memref.whole cc1_scratch4
abbrev wS : Memref sig .scVector .vmem S512x32 .f32 := Memref.whole cc1_scratch5

abbrev gLoc (d : Dev nD) : Loc nD τ sig := (SparseCore.T d).loc main_v3_0
abbrev vLoc (d : Dev nD) : Loc nD τ sig := (SparseCore.T d).loc main_v3_1
abbrev lLoc (d : Dev nD) : Loc nD τ sig := (SparseCore.T d).loc main_v5
abbrev bLoc (d : Dev nD) : Loc nD τ sig := (SparseCore.T d).loc main_v7
abbrev oLoc (d : Dev nD) : Loc nD τ sig := (SparseCore.T d).loc main_v8_0
abbrev wLoc (d : Dev nD) : Loc nD τ sig := (SparseCore.T d).loc main_v8_1

/-- What the call's four operands hold. -/
structure Arrs (F : FTy → Type) where
  G : S32x8192.Idx → F .f32
  X : S8192x32.Idx → F .f32
  L : S16x16.Idx → BitVec 32
  B : S32.Idx → F .f32

/-- What tile `b` reads. -/
def env (A : Arrs F) (b : Fin 16) : Env F where
  G := fun y => A.G (ix2 (y 0) (⟨512 * b.val + (y 1).val, by have := (y 1).isLt; simp at this; omega⟩ : Fin 8192))
  X := fun y => A.X (ix2 (⟨512 * b.val + (y 0).val, by have := (y 0).isLt; simp at this; omega⟩ : Fin 8192) (y 1))
  ln := iota .scVector S16 32 [0] Facts₀.iota_S16_d0_w32_scVector
  len := fun j => A.L (ix2 b (j 0))
  b0 := fun j => A.B (ix1 (⟨(j 0).val, by have := (j 0).isLt; simp at this; omega⟩ : Fin 32))
  b1 := fun j => A.B (ix1 (⟨16 + (j 0).val, by have := (j 0).isLt; simp at this; omega⟩ : Fin 32))
  ninf := Scalar.ofBits .f32 0xFF800000#32

/-- The query before the first row. -/
def qInit : V16 F × V16 F := (k1_pay1139 (F := F), k1_pay1140 (F := F))

/-- What row `r` of the batches' rows stores. -/
def outRow (A : Arrs F) (r : Fin 8192) : Out F := outAt (env A ⟨r.val / 512, by omega⟩) qInit (r.val % 512)
/-- The two results of the call. -/
def outO (A : Arrs F) : S8192x32.Idx → F .f32 := fun y =>
  if h : (y 1).val < 16 then (outRow A (y 0)).q0 (ix1 (⟨(y 1).val, h⟩ : Fin 16)) else (outRow A (y 0)).q1 (ix1 (⟨(y 1).val - 16, by have := (y 1).isLt; simp at this; omega⟩ : Fin 16))
def outW (A : Arrs F) : S8192x32.Idx → F .f32 := fun y =>
  if h : (y 1).val < 16 then (outRow A (y 0)).w0 (ix1 (⟨(y 1).val, h⟩ : Fin 16)) else (outRow A (y 0)).w1 (ix1 (⟨(y 1).val - 16, by have := (y 1).isLt; simp at this; omega⟩ : Fin 16))

theorem odiv : 16 ∣ S8192x32.size 0 := ⟨512, rfl⟩
abbrev orow (i : Fin 16) : Rect S8192x32 := Rect.part (s := S8192x32) (a₀ := 0) odiv i
abbrev oRowSet (i : Fin 16) : Finset S8192x32.Idx := (orow i).set

/-- Task `i`'s share of what every tile reads. -/
abbrev qs (i : Fin 16) : PosShare TreeShare := ShareLeaves.leaf 4 fullShare i

section Tile

variable (A : Arrs F) (d : Dev nD) (L : grid1.Coords)

theorem bound_one : grid1.bound 1 = 16 := rfl
abbrev jL (L : grid1.Coords) : Fin 16 := Fin.cast bound_one (L 1)

theorem cond_iff : ∀ L : grid1.Coords, k1_cond1 L = 1#1 ↔ (L 0).val = 0 := by
  intro L
  have h : ∀ c : Fin 2, (Scalar.cmpi .ne (Scalar.extui (Scalar.cmpi .eq (BitVec.ofNat 32 c.val) 0#32) : BitVec 32) 0#32 = 1#1 ↔ c.val = 0) := by decide
  exact h (L 0)

variable (h1 : k1_cond1 L = 1#1)

abbrev gK : Memref sig .scVector .hbm S32x512 .f32 := gV.slice (Rect.unit (s := S32x8192) (k1_off1 L) S32x512.size (Facts₀.k1_off1_inb L h1)) (fun _ => rfl)
abbrev vK : Memref sig .scVector .hbm S512x32 .f32 := vV.slice (Rect.unit (s := S8192x32) (k1_off2 L) S512x32.size (Facts₀.k1_off2_inb L h1)) (fun _ => rfl)
abbrev lK : Memref sig .scVector .hbm S16 .i32 := (lV.slice (Rect.unit (s := S16x16) (k1_off3 L) S1x16.size (Facts₀.k1_off3_inb L h1)) (fun _ => rfl)).squeeze S16 Facts₀.squeezes_S1x16_S16
abbrev oK : Memref sig .scVector .hbm S512x32 .f32 := oV.slice (Rect.unit (s := S8192x32) (k1_off2 L) S512x32.size (Facts₀.k1_off2_inb L h1)) (fun _ => rfl)
abbrev wK : Memref sig .scVector .hbm S512x32 .f32 := wV.slice (Rect.unit (s := S8192x32) (k1_off2 L) S512x32.size (Facts₀.k1_off2_inb L h1)) (fun _ => rfl)

theorem orowK_eq : Rect.unit (s := S8192x32) (k1_off2 L) S512x32.size (Facts₀.k1_off2_inb L h1) = orow (jL L) := by
  unfold orow Rect.part Rect.block
  congr 1 <;> funext a
  · rw [k1_off2_eq]
    match a with
    | 0 => simp [Shape.partIx, Shape.partSize]; omega
    | 1 => simp [Shape.partIx, Shape.partSize]
  · match a with
    | 0 => simp [Shape.partSize]
    | 1 => simp [Shape.partSize]

theorem set_oK : (oK L h1).view.set = oRowSet (jL L) := by
  show (oV.view.slice (Rect.unit (s := S8192x32) (k1_off2 L) S512x32.size (Facts₀.k1_off2_inb L h1))).set = _
  rw [orowK_eq L h1, View.set_slice]; exact Finset.map_refl
theorem set_wK : (wK L h1).view.set = oRowSet (jL L) := by
  show (wV.view.slice (Rect.unit (s := S8192x32) (k1_off2 L) S512x32.size (Facts₀.k1_off2_inb L h1))).set = _
  rw [orowK_eq L h1, View.set_slice]; exact Finset.map_refl

/-! ## The copies read their parts of the operands -/

theorem read_gK : (gK L h1).view.read (Elt F) (A.G : Buf (Elt F) (gLoc d)) = (env A (jL L)).G := by
  funext y
  refine congrArg A.G ?_
  funext a
  refine Fin.ext ?_
  show k1_off1 L a + 1 * (y a).val = _
  rw [k1_off1_eq]
  match a with
  | ⟨0, _⟩ => show 0 + 1 * (y 0).val = (y 0).val; omega
  | ⟨1, _⟩ => show 512 * (L 1).val + 1 * (y 1).val = 512 * (L 1).val + (y 1).val; omega

theorem read_vK : (vK L h1).view.read (Elt F) (A.X : Buf (Elt F) (vLoc d)) = (env A (jL L)).X := by
  funext y
  refine congrArg A.X ?_
  funext a
  refine Fin.ext ?_
  show k1_off2 L a + 1 * (y a).val = _
  rw [k1_off2_eq]
  match a with
  | ⟨0, _⟩ => show 512 * (L 1).val + 1 * (y 0).val = 512 * (L 1).val + (y 0).val; omega
  | ⟨1, _⟩ => show 0 + 1 * (y 1).val = (y 1).val; omega

/-- The length vector of tile `b`. -/
def lenOf (A : Arrs F) (b : Fin 16) : S16.Idx → BitVec 32 := fun j => A.L (ix2 b (j 0))

theorem read_lK : (lK L h1).view.read (Elt F) (A.L : Buf (Elt F) (lLoc d)) = lenOf A (jL L) := by
  funext y
  rw [eq_ix1 y]
  refine (shapeCast_1a_a_apply (a := 16) (show (⟨2, ![1, 16]⟩ : Shape).Idx → BitVec 32 from
    fun x => A.L ((Rect.unit (s := S16x16) (k1_off3 L) S1x16.size (Facts₀.k1_off3_inb L h1)).idx x)) (by decide) (y 0)).trans ?_
  refine congrArg A.L ?_
  funext a
  refine Fin.ext ?_
  show k1_off3 L a + 1 * (ix2 (0 : Fin 1) (y 0) a).val = _
  rw [k1_off3_eq]
  match a with
  | ⟨0, _⟩ => show (L 1).val + 1 * 0 = (L 1).val; omega
  | ⟨1, _⟩ => show 0 + 1 * (y 0).val = (y 0).val; omega

/-! ## The subcore's own cells and buffers -/

abbrev cell (k : DmaSem sig) (d : Dev nD) (L : grid1.Coords) : GSem nD τ sig := (thr d L, .dma k)

theorem cell_ne {a b : DmaSem sig} (h : a ≠ b) : cell a d L ≠ cell b d L := fun e => h (by
  have e' := congrArg Prod.snd e
  simpa using e')

theorem ownSems0_V :
    (ownSems0 (thr d L) : sProp (MM F))
      = iprop(semVal (cell cc1_scoped0.sem d L) 0 ∗ semVal (cell cc1_scoped1.sem d L) 0 ∗ semVal (cell cc1_scoped2.sem d L) 0 ∗ semVal (cell cc1_scoped3.sem d L) 0 ∗ semVal (cell cc1_scoped4.sem d L) 0 ∗ semVal (cell cc1_scoped5.sem d L) 0
          ∗ bigSep (((((((ownCells (thr d L)).erase (cell cc1_scoped0.sem d L)).erase (cell cc1_scoped1.sem d L)).erase (cell cc1_scoped2.sem d L)).erase (cell cc1_scoped3.sem d L)).erase (cell cc1_scoped4.sem d L)).erase (cell cc1_scoped5.sem d L)) fun g => semVal g 0) := by
  unfold SparseCore.Cfg.ownSems0
  rw [SparseCore.bigSep_erase' ((mem_ownCells (g := (cell cc1_scoped0.sem d L))).mpr ⟨rfl, by show (SemLoc.dma cc1_scoped0.sem : SemLoc sig).isScoped .scVector = true; decide⟩)]
  rw [SparseCore.bigSep_erase' (Finset.mem_erase.mpr ⟨cell_ne d L (by decide), (mem_ownCells (g := (cell cc1_scoped1.sem d L))).mpr ⟨rfl, by show (SemLoc.dma cc1_scoped1.sem : SemLoc sig).isScoped .scVector = true; decide⟩⟩)]
  rw [SparseCore.bigSep_erase' (Finset.mem_erase.mpr ⟨cell_ne d L (by decide), Finset.mem_erase.mpr ⟨cell_ne d L (by decide), (mem_ownCells (g := (cell cc1_scoped2.sem d L))).mpr ⟨rfl, by show (SemLoc.dma cc1_scoped2.sem : SemLoc sig).isScoped .scVector = true; decide⟩⟩⟩)]
  rw [SparseCore.bigSep_erase' (Finset.mem_erase.mpr ⟨cell_ne d L (by decide), Finset.mem_erase.mpr ⟨cell_ne d L (by decide), Finset.mem_erase.mpr ⟨cell_ne d L (by decide), (mem_ownCells (g := (cell cc1_scoped3.sem d L))).mpr ⟨rfl, by show (SemLoc.dma cc1_scoped3.sem : SemLoc sig).isScoped .scVector = true; decide⟩⟩⟩⟩)]
  rw [SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cell cc1_scoped4.sem d L))).mpr ⟨rfl, by show (SemLoc.dma cc1_scoped4.sem : SemLoc sig).isScoped .scVector = true; decide⟩⟩⟩⟩⟩)]
  rw [SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (cell cc1_scoped5.sem d L))).mpr ⟨rfl, by show (SemLoc.dma cc1_scoped5.sem : SemLoc sig).isScoped .scVector = true; decide⟩⟩⟩⟩⟩⟩)]

theorem ref_ne {a b : Ref sig .scVector} (h : a ≠ b) : (Proc.scVector ((L 0).castLE hcore1) ((L 1).castLE hsub1) : Proc τ).devRef a ≠ (Proc.scVector ((L 0).castLE hcore1) ((L 1).castLE hsub1)).devRef b := fun e => h (Proc.devRef_injective _ e)

theorem ownBufs_V :
    (ownBufs (thr d L) : sProp (MM F))
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f)
          ∗ bigSep (((((((ownRefs (τ := τ) (.scVector ((L 0).castLE hcore1) ((L 1).castLE hsub1))).erase ((Proc.scVector ((L 0).castLE hcore1) ((L 1).castLE hsub1)).devRef cc1_scratch0)).erase ((Proc.scVector ((L 0).castLE hcore1) ((L 1).castLE hsub1)).devRef cc1_scratch1)).erase ((Proc.scVector ((L 0).castLE hcore1) ((L 1).castLE hsub1)).devRef cc1_scratch2)).erase ((Proc.scVector ((L 0).castLE hcore1) ((L 1).castLE hsub1)).devRef cc1_scratch3)).erase ((Proc.scVector ((L 0).castLE hcore1) ((L 1).castLE hsub1)).devRef cc1_scratch4)).erase ((Proc.scVector ((L 0).castLE hcore1) ((L 1).castLE hsub1)).devRef cc1_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore1) ((L 1).castLE hsub1)) (b := ((Proc.scVector ((L 0).castLE hcore1) ((L 1).castLE hsub1)).devRef cc1_scratch0)) rfl)).trans ?_
  rw [SparseCore.bigSep_erase' (Finset.mem_erase.mpr ⟨ref_ne L (by decide), SparseCore.Cfg.mem_ownRefs_of_owner (p := Proc.scVector ((L 0).castLE hcore1) ((L 1).castLE hsub1)) (b := ((Proc.scVector ((L 0).castLE hcore1) ((L 1).castLE hsub1)).devRef cc1_scratch1)) rfl⟩)]
  rw [SparseCore.bigSep_erase' (Finset.mem_erase.mpr ⟨ref_ne L (by decide), Finset.mem_erase.mpr ⟨ref_ne L (by decide), SparseCore.Cfg.mem_ownRefs_of_owner (p := Proc.scVector ((L 0).castLE hcore1) ((L 1).castLE hsub1)) (b := ((Proc.scVector ((L 0).castLE hcore1) ((L 1).castLE hsub1)).devRef cc1_scratch2)) rfl⟩⟩)]
  rw [SparseCore.bigSep_erase' (Finset.mem_erase.mpr ⟨ref_ne L (by decide), Finset.mem_erase.mpr ⟨ref_ne L (by decide), Finset.mem_erase.mpr ⟨ref_ne L (by decide), SparseCore.Cfg.mem_ownRefs_of_owner (p := Proc.scVector ((L 0).castLE hcore1) ((L 1).castLE hsub1)) (b := ((Proc.scVector ((L 0).castLE hcore1) ((L 1).castLE hsub1)).devRef cc1_scratch3)) rfl⟩⟩⟩)]
  rw [SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector ((L 0).castLE hcore1) ((L 1).castLE hsub1)) (b := ((Proc.scVector ((L 0).castLE hcore1) ((L 1).castLE hsub1)).devRef cc1_scratch4)) rfl⟩⟩⟩⟩)]
  rw [SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector ((L 0).castLE hcore1) ((L 1).castLE hsub1)) (b := ((Proc.scVector ((L 0).castLE hcore1) ((L 1).castLE hsub1)).devRef cc1_scratch5)) rfl⟩⟩⟩⟩⟩)]

/-! ## What the copies carry -/

theorem read_gS (f : Buf (Elt F) (gS.view.loc (thr d L))) :
    gS.view.read (Elt F) (View.write (Elt F) gS.view f ((gK L h1).view.read (Elt F) (A.G : Buf (Elt F) (gLoc d))) Finset.univ) = (env A (jL L)).G := by
  rw [View.read_write_univ]; exact read_gK A L h1
theorem read_vS (f : Buf (Elt F) (vS.view.loc (thr d L))) :
    vS.view.read (Elt F) (View.write (Elt F) vS.view f ((vK L h1).view.read (Elt F) (A.X : Buf (Elt F) (vLoc d))) Finset.univ) = (env A (jL L)).X := by
  rw [View.read_write_univ]; exact read_vK A L h1

theorem pay_len (f : Buf (Elt F) (lS.view.loc (thr d L))) :
    k1_pay1136 (lS.view.readAt (Elt F) (Rect.unit (s := S16) ![0] S16.size Facts₀.inb_S16_S16_0).toLoadRect
      (View.write (Elt F) lS.view f ((lK L h1).view.read (Elt F) (A.L : Buf (Elt F) (lLoc d))) Finset.univ)) = (env A (jL L)).len := by
  rw [read_lK A L h1]
  unfold k1_pay1136
  rw [show ∀ x : IVec S16 32, shapeCast S16 x Facts₀.shapeCasts_S16_S16 = x from fun x => shapeCast_self x _]
  funext y
  have e := congrFun (View.read_write_univ (v := lS.view) (Val := Elt F) f (lenOf A (jL L))) ((Rect.unit (s := S16) ![0] S16.size Facts₀.inb_S16_S16_0).idx y)
  refine Eq.trans e ?_
  refine congrArg A.L (congrArg (ix2 (jL L)) (Fin.ext ?_))
  show 0 + 1 * (y 0).val = (y 0).val
  omega

theorem read_bV : bV.view.read (Elt F) (A.B : Buf (Elt F) (bLoc d)) = A.B := rfl

theorem pay_b0 (f : Buf (Elt F) (bS.view.loc (thr d L))) :
    k1_pay1137 (bS.view.readAt (Elt F) (Rect.unit (s := S32) ![0] S16.size Facts₀.inb_S32_S16_0).toLoadRect
      (View.write (Elt F) bS.view f (bV.view.read (Elt F) (A.B : Buf (Elt F) (bLoc d))) Finset.univ)) = (env A (jL L)).b0 := by
  unfold k1_pay1137
  rw [show ∀ x : FVec F S16 .f32, shapeCast S16 x Facts₀.shapeCasts_S16_S16 = x from fun x => shapeCast_self x _]
  funext y
  have e := congrFun (View.read_write_univ (v := bS.view) (Val := Elt F) f A.B) ((Rect.unit (s := S32) ![0] S16.size Facts₀.inb_S32_S16_0).idx y)
  refine Eq.trans e ?_
  refine congrArg A.B ?_
  funext a
  match a with
  | ⟨0, _⟩ => exact Fin.ext (show 0 + 1 * (y 0).val = (y 0).val by omega)

theorem pay_b1 (f : Buf (Elt F) (bS.view.loc (thr d L))) :
    k1_pay1138 (bS.view.readAt (Elt F) (Rect.unit (s := S32) ![16] S16.size Facts₀.inb_S32_S16_16).toLoadRect
      (View.write (Elt F) bS.view f (bV.view.read (Elt F) (A.B : Buf (Elt F) (bLoc d))) Finset.univ)) = (env A (jL L)).b1 := by
  unfold k1_pay1138
  rw [show ∀ x : FVec F S16 .f32, shapeCast S16 x Facts₀.shapeCasts_S16_S16 = x from fun x => shapeCast_self x _]
  funext y
  have e := congrFun (View.read_write_univ (v := bS.view) (Val := Elt F) f A.B) ((Rect.unit (s := S32) ![16] S16.size Facts₀.inb_S32_S16_16).idx y)
  refine Eq.trans e ?_
  refine congrArg A.B ?_
  funext a
  match a with
  | ⟨0, _⟩ => exact Fin.ext (show 16 + 1 * (y 0).val = 16 + (y 0).val by omega)

theorem oK_emb (y : S512x32.Idx) :
    (oK L h1).view.emb y = (ix2 (⟨512 * (jL L).val + (y 0).val, by have := (y 0).isLt; have := (jL L).isLt; simp at *; omega⟩ : Fin 8192) (y 1) : S8192x32.Idx) := by
  funext a
  refine Fin.ext ?_
  show k1_off2 L a + 1 * (y a).val = _
  rw [k1_off2_eq]
  match a with
  | ⟨0, _⟩ => show 512 * (L 1).val + 1 * (y 0).val = 512 * (L 1).val + (y 0).val; omega
  | ⟨1, _⟩ => show 0 + 1 * (y 1).val = (y 1).val; omega

theorem outRow_eq (b : Fin 16) (r : Fin 512) (h : 512 * b.val + r.val < 8192) : outRow A ⟨512 * b.val + r.val, h⟩ = outAt (env A b) qInit r.val := by
  have e1 : (512 * b.val + r.val) / 512 = b.val := by omega
  have e2 : (512 * b.val + r.val) % 512 = r.val := by omega
  unfold outRow
  simp only [e1, e2]

theorem outO_at {O W : S512x32.Idx → F .f32} (h : Rows (env A (jL L)) qInit 512 O W) (y : S512x32.Idx) : O y = outO A ((oK L h1).view.emb y) := by
  rw [oK_emb, eq_ix2 (n0 := 512) (n1 := 32) y]
  unfold outO
  have h0 : (y 0).val < 512 := (y 0).isLt
  have hy1 : (y 1).val < 32 := (y 1).isLt
  by_cases hy : (y 1).val < 16
  · rw [dif_pos (show ((ix2 _ (y 1) : S8192x32.Idx) 1).val < 16 from hy)]
    exact ((h (y 0) h0 ⟨(y 1).val, hy⟩).1).trans (by rw [← outRow_eq A (jL L) (y 0)])
  · rw [dif_neg (show ¬ ((ix2 _ (y 1) : S8192x32.Idx) 1).val < 16 from hy)]
    refine Eq.trans (congrArg O ?_) (((h (y 0) h0 ⟨(y 1).val - 16, by omega⟩).2.1).trans (by rw [← outRow_eq A (jL L) (y 0)]))
    refine congrArg (ix2 (y 0)) (Fin.ext ?_)
    show (y 1).val = (y 1).val - 16 + 16
    omega

theorem outW_at {O W : S512x32.Idx → F .f32} (h : Rows (env A (jL L)) qInit 512 O W) (y : S512x32.Idx) : W y = outW A ((oK L h1).view.emb y) := by
  rw [oK_emb, eq_ix2 (n0 := 512) (n1 := 32) y]
  unfold outW
  have h0 : (y 0).val < 512 := (y 0).isLt
  have hy1 : (y 1).val < 32 := (y 1).isLt
  by_cases hy : (y 1).val < 16
  · rw [dif_pos (show ((ix2 _ (y 1) : S8192x32.Idx) 1).val < 16 from hy)]
    exact ((h (y 0) h0 ⟨(y 1).val, hy⟩).2.2.1).trans (by rw [← outRow_eq A (jL L) (y 0)])
  · rw [dif_neg (show ¬ ((ix2 _ (y 1) : S8192x32.Idx) 1).val < 16 from hy)]
    refine Eq.trans (congrArg W ?_) (((h (y 0) h0 ⟨(y 1).val - 16, by omega⟩).2.2.2).trans (by rw [← outRow_eq A (jL L) (y 0)]))
    refine congrArg (ix2 (y 0)) (Fin.ext ?_)
    show (y 1).val = (y 1).val - 16 + 16
    omega

theorem emb_oK (f : (oK L h1).view.ty.Contents (Elt F)) (w : S512x32.Idx → F .f32) (y : S512x32.Idx) :
    (oK L h1).view.writes (Elt F) f [⟨Rect.whole S512x32, w⟩] ((oK L h1).view.emb y) = w y := by
  have e := congrFun (View.read_writes_whole (Val := Elt F) (oK L h1).view f w) y
  rw [View.read_apply] at e
  exact e

theorem pts_oK (f : Buf (Elt F) (oLoc d)) (w : S512x32.Idx → F .f32) (hw : ∀ y, w y = outO A ((oK L h1).view.emb y)) :
    ((oK L h1).view.loc (thr d L) ↦[(oK L h1).view.set]{fullShare} (oK L h1).view.writes (Elt F) f [⟨Rect.whole S512x32, w⟩] : sProp (MM F))
      = oLoc d ↦[oRowSet (jL L)]{fullShare} (outO A : Buf (Elt F) (oLoc d)) := by
  have key : ∀ x ∈ (oK L h1).view.set, (oK L h1).view.writes (Elt F) f [⟨Rect.whole S512x32, w⟩] x = (outO A : Buf (Elt F) (oLoc d)) x := by
    intro x hx
    obtain ⟨y, -, hy⟩ := Finset.mem_map.mp hx
    rw [← hy, emb_oK]
    exact hw y
  rw [← set_oK L h1]
  exact pointsTo_congr key

theorem emb_wK (f : (wK L h1).view.ty.Contents (Elt F)) (w : S512x32.Idx → F .f32) (y : S512x32.Idx) :
    (wK L h1).view.writes (Elt F) f [⟨Rect.whole S512x32, w⟩] ((wK L h1).view.emb y) = w y := by
  have e := congrFun (View.read_writes_whole (Val := Elt F) (wK L h1).view f w) y
  rw [View.read_apply] at e
  exact e

theorem pts_wK (f : Buf (Elt F) (wLoc d)) (w : S512x32.Idx → F .f32) (hw : ∀ y, w y = outW A ((wK L h1).view.emb y)) :
    ((wK L h1).view.loc (thr d L) ↦[(wK L h1).view.set]{fullShare} (wK L h1).view.writes (Elt F) f [⟨Rect.whole S512x32, w⟩] : sProp (MM F))
      = wLoc d ↦[oRowSet (jL L)]{fullShare} (outW A : Buf (Elt F) (wLoc d)) := by
  have key : ∀ x ∈ (wK L h1).view.set, (wK L h1).view.writes (Elt F) f [⟨Rect.whole S512x32, w⟩] x = (outW A : Buf (Elt F) (wLoc d)) x := by
    intro x hx
    obtain ⟨y, -, hy⟩ := Finset.mem_map.mp hx
    rw [← hy, emb_wK]
    exact hw y
  rw [← set_wK L h1]
  exact pointsTo_congr key

/-! ## The tile -/

/-- What a tile of core 0 is given besides the shares it reads: its rows of the two results. -/
abbrev inPts (i : Fin 16) : sProp (MM F) := iprop((gLoc d ↦{qs i} (A.G : Buf (Elt F) (gLoc d))) ∗ (vLoc d ↦{qs i} (A.X : Buf (Elt F) (vLoc d)))
  ∗ (lLoc d ↦{qs i} (A.L : Buf (Elt F) (lLoc d))) ∗ (bLoc d ↦{qs i} (A.B : Buf (Elt F) (bLoc d))))

include h1
set_option maxHeartbeats 4000000 in
theorem tile_body (hF : (K (F := F)).Facts) (fo : Buf (Elt F) (oLoc d)) (fw : Buf (Elt F) (wLoc d))
    (O : CellTallies nD τ sig (HIx 1)) (W : Waits sig (HIx 1)) (hO : ∀ g, O g none = 0) :
    iprop(levAts (K (F := F)).L (K (F := F)).lev
        ∗ (inPts A d (jL L) ∗ (oLoc d ↦[oRowSet (jL L)]{fullShare} fo) ∗ (wLoc d ↦[oRowSet (jL L)]{fullShare} fw))
        ∗ scopedBufs (thr d L) ∗ scopedSems0 (thr d L) ∗ owes (thr d L) O W)
      ⊢ (wp Idealize.ShloMosaic.frame (wpE (defs₀ (F := F)) 𝒱₀ (thr d L) none) Set.univ
          (cc1__sc_recur_body L gV (Memref.isWhole_whole _) vV (Memref.isWhole_whole _) lV (Memref.isWhole_whole _) bV (Memref.isWhole_whole _)
            oV (Memref.isWhole_whole _) wV (Memref.isWhole_whole _) gS (Memref.isWhole_whole _) vS (Memref.isWhole_whole _) lS (Memref.isWhole_whole _)
            bS (Memref.isWhole_whole _) oS (Memref.isWhole_whole _) wS (Memref.isWhole_whole _)
            cc1_scoped0 cc1_scoped1 cc1_scoped2 cc1_scoped3 cc1_scoped4 cc1_scoped5)
          fun _ => iprop((inPts A d (jL L) ∗ (oLoc d ↦[oRowSet (jL L)]{fullShare} (outO A : Buf (Elt F) (oLoc d))) ∗ (wLoc d ↦[oRowSet (jL L)]{fullShare} (outW A : Buf (Elt F) (wLoc d))))
            ∗ scopedBufs (thr d L) ∗ scopedSems0 (thr d L)
            ∗ ∃ W', ⌜∀ p ∈ W', p ∈ W ∨ p.2 = none⌝ ∗ owes (thr d L) O W') : sProp (MM F)) := by
  simp only [cc1__sc_recur_body_eq_skeleton]; unfold cc1__sc_recur_body_skel
  simp only [dif_pos h1, k1_part115_eq_skeleton]; unfold k1_part115_skel
  rw [(K (F := F)).scopedBufs_V hF d ((L 0).castLE hcore1) ((L 1).castLE hsub1), SparseCore.Cfg.scopedSems0_V (Val := Elt F) d ((L 0).castLE hcore1) ((L 1).castLE hsub1), ownSems0_V, ownBufs_V]
  iintro ⟨#Hlv, ⟨⟨Hg, Hv, Hl, Hb⟩, Ho, Hw⟩, ⟨⟨%f0, H0⟩, ⟨%f1, H1⟩, ⟨%f2, H2⟩, ⟨%f3, H3⟩, ⟨%f4, H4⟩, ⟨%f5, H5⟩, Hbufs⟩, ⟨HsA, HsB, HsC, HsD, HsE, HsF, Hsems⟩, HO⟩
  ihave Hmw := (show levAts (K (F := F)).L (K (F := F)).lev ⊢ Transfers.MayWaits (thr d L) (default : HIx 1) O from
    (K (F := F)).mayWaits_none (thr := thr d L) hO) $$ Hlv
  ihave Hgs := (pointsTo_split_subset (q := qs (jL L)) (f := (A.G : Buf (Elt F) (gLoc d))) (S := Finset.univ) (Finset.subset_univ (gK L h1).view.set)).1 $$ Hg
  icases Hgs with ⟨Hg, Hgr⟩
  ihave Hvs := (pointsTo_split_subset (q := qs (jL L)) (f := (A.X : Buf (Elt F) (vLoc d))) (S := Finset.univ) (Finset.subset_univ (vK L h1).view.set)).1 $$ Hv
  icases Hvs with ⟨Hv, Hvr⟩
  ihave Hls := (pointsTo_split_subset (q := qs (jL L)) (f := (A.L : Buf (Elt F) (lLoc d))) (S := Finset.univ) (Finset.subset_univ (lK L h1).view.set)).1 $$ Hl
  icases Hls with ⟨Hl, Hlr⟩
  ihave Hg' := (Entails.of_eq (show (gLoc d ↦[(gK L h1).view.set]{qs (jL L)} (A.G : Buf (Elt F) (gLoc d)) : sProp (MM F)) = (gK L h1).view.loc (thr d L) ↦[(gK L h1).view.set]{qs (jL L)} (A.G : Buf (Elt F) (gLoc d)) from rfl)) $$ Hg
  ihave Hv' := (Entails.of_eq (show (vLoc d ↦[(vK L h1).view.set]{qs (jL L)} (A.X : Buf (Elt F) (vLoc d)) : sProp (MM F)) = (vK L h1).view.loc (thr d L) ↦[(vK L h1).view.set]{qs (jL L)} (A.X : Buf (Elt F) (vLoc d)) from rfl)) $$ Hv
  ihave Hl' := (Entails.of_eq (show (lLoc d ↦[(lK L h1).view.set]{qs (jL L)} (A.L : Buf (Elt F) (lLoc d)) : sProp (MM F)) = (lK L h1).view.loc (thr d L) ↦[(lK L h1).view.set]{qs (jL L)} (A.L : Buf (Elt F) (lLoc d)) from rfl)) $$ Hl
  ihave Hb' := (Entails.of_eq (show (bLoc d ↦{qs (jL L)} (A.B : Buf (Elt F) (bLoc d)) : sProp (MM F)) = bV.view.loc (thr d L) ↦{qs (jL L)} (A.B : Buf (Elt F) (bLoc d)) from rfl)) $$ Hb
  ihave H0' := (Entails.of_eq (show ((thr d L).loc cc1_scratch0 ↦{fullShare} f0 : sProp (MM F)) = gS.view.loc (thr d L) ↦{fullShare} f0 from rfl)) $$ H0
  ihave H1' := (Entails.of_eq (show ((thr d L).loc cc1_scratch1 ↦{fullShare} f1 : sProp (MM F)) = vS.view.loc (thr d L) ↦{fullShare} f1 from rfl)) $$ H1
  ihave H2' := (Entails.of_eq (show ((thr d L).loc cc1_scratch2 ↦{fullShare} f2 : sProp (MM F)) = lS.view.loc (thr d L) ↦{fullShare} f2 from rfl)) $$ H2
  ihave H3' := (Entails.of_eq (show ((thr d L).loc cc1_scratch3 ↦{fullShare} f3 : sProp (MM F)) = bS.view.loc (thr d L) ↦{fullShare} f3 from rfl)) $$ H3
  ihave H4' := (Entails.of_eq (show ((thr d L).loc cc1_scratch4 ↦{fullShare} f4 : sProp (MM F)) = oS.view.loc (thr d L) ↦{fullShare} f4 from rfl)) $$ H4
  ihave H5' := (Entails.of_eq (show ((thr d L).loc cc1_scratch5 ↦{fullShare} f5 : sProp (MM F)) = wS.view.loc (thr d L) ↦{fullShare} f5 from rfl)) $$ H5
  sl_exec
  have e2 : k1_pay1136 (lS.view.readAt (Elt F) (Rect.unit (s := S16) ![0] S16.size Facts₀.inb_S16_S16_0).toLoadRect
      (View.write (Elt F) lS.view f2 (tile_body.sl.dma0_2 A L h1) Finset.univ)) = (env A (jL L)).len := pay_len A d L h1 f2
  have e3 : k1_pay1137 (bS.view.readAt (Elt F) (Rect.unit (s := S32) ![0] S16.size Facts₀.inb_S32_S16_0).toLoadRect
      (View.write (Elt F) bS.view f3 (tile_body.sl.dma0_3 A) Finset.univ)) = (env A (jL L)).b0 := pay_b0 A d L f3
  have e4 : k1_pay1138 (bS.view.readAt (Elt F) (Rect.unit (s := S32) ![16] S16.size Facts₀.inb_S32_S16_16).toLoadRect
      (View.write (Elt F) bS.view f3 (tile_body.sl.dma0_3 A) Finset.univ)) = (env A (jL L)).b1 := pay_b1 A d L f3
  simp only [e2, e3, e4]
  obtain ⟨fg, hfg⟩ : ∃ fg : Buf (Elt F) (gS.view.loc (thr d L)), fg = (View.write (Elt F) gS.view f0 ((gK L h1).view.read (Elt F) (A.G : Buf (Elt F) (gLoc d))) Finset.univ) := ⟨_, rfl⟩
  obtain ⟨fv, hfv⟩ : ∃ fv : Buf (Elt F) (vS.view.loc (thr d L)), fv = (View.write (Elt F) vS.view f1 ((vK L h1).view.read (Elt F) (A.X : Buf (Elt F) (vLoc d))) Finset.univ) := ⟨_, rfl⟩
  have hG : gS.view.read (Elt F) fg = (env A (jL L)).G := hfg ▸ read_gS A d L h1 f0
  have hX : vS.view.read (Elt F) fv = (env A (jL L)).X := hfv ▸ read_vS A d L h1 f1
  ihave HI := (show iprop((gS.view.loc (thr d L) ↦{fullShare} (View.write (Elt F) gS.view f0 ((gK L h1).view.read (Elt F) (A.G : Buf (Elt F) (gLoc d))) Finset.univ)) ∗ (vS.view.loc (thr d L) ↦{fullShare} (View.write (Elt F) vS.view f1 ((vK L h1).view.read (Elt F) (A.X : Buf (Elt F) (vLoc d))) Finset.univ))
      ∗ (oS.view.loc (thr d L) ↦{fullShare} f4) ∗ (wS.view.loc (thr d L) ↦{fullShare} f5)) ⊢ (Inv (env A (jL L)) qInit d L gS vS oS wS fg fv (0 + 0) (k1_pay1139 (F := F), k1_pay1140 (F := F)) : sProp (MM F)) from by
    rw [hfg, hfv]; unfold Inv
    iintro ⟨HA, HB, HC, HD⟩
    isplitl [HA]; · iexact HA
    isplitl [HB]; · iexact HB
    iexists _; iexists _
    isplitl [HC]; · iexact HC
    isplitl [HD]; · iexact HD
    ipureintro
    exact ⟨rfl, fun r hr => absurd hr (Nat.not_lt_zero _)⟩) $$ [H0' H1' H4' H5']
  · isplitl [H0']; · iexact H0'
    isplitl [H1']; · iexact H1'
    isplitl [H4']; · iexact H4'
    iexact H5'
  iapply (Scf.wp_for_bind Idealize.ShloMosaic.frame (wpE (defs₀ (F := F)) 𝒱₀ (thr d L) none) Set.univ _ _ _ (k1_t1_ok L h1) (k1_pay1139, k1_pay1140) _
    (fun n c => Inv (env A (jL L)) qInit d L gS vS oS wS fg fv (0 + n) c)
    (fun k c => trip1 (defs := defs₀ (F := F)) (env A (jL L)) qInit d L gV (Memref.isWhole_whole _) vV (Memref.isWhole_whole _) lV (Memref.isWhole_whole _) bV (Memref.isWhole_whole _) oV (Memref.isWhole_whole _) wV (Memref.isWhole_whole _) gS (Memref.isWhole_whole _) vS (Memref.isWhole_whole _) lS (Memref.isWhole_whole _) bS (Memref.isWhole_whole _) oS (Memref.isWhole_whole _) wS (Memref.isWhole_whole _) cc1_scoped0 cc1_scoped1 cc1_scoped2 cc1_scoped3 cc1_scoped4 cc1_scoped5 h1 fg fv hG hX k c)) $$ HI
  iintro %c HI
  obtain ⟨qa, qb⟩ := c
  rw [show Scf.trips (k1_t1_loop).lb (k1_t1_loop).ub (k1_t1_loop).st = 11 from t1_trips]
  dsimp only
  iapply (Scf.wp_for_bind Idealize.ShloMosaic.frame (wpE (defs₀ (F := F)) 𝒱₀ (thr d L) none) Set.univ _ _ _ (k1_t2_ok L h1) (qa, qb) _
    (fun n c => Inv (env A (jL L)) qInit d L gS vS oS wS fg fv (11 + n * 16) c)
    (fun k c => trip2 (defs := defs₀ (F := F)) (env A (jL L)) qInit d L gV (Memref.isWhole_whole _) vV (Memref.isWhole_whole _) lV (Memref.isWhole_whole _) bV (Memref.isWhole_whole _) oV (Memref.isWhole_whole _) wV (Memref.isWhole_whole _) gS (Memref.isWhole_whole _) vS (Memref.isWhole_whole _) lS (Memref.isWhole_whole _) bS (Memref.isWhole_whole _) oS (Memref.isWhole_whole _) wS (Memref.isWhole_whole _) cc1_scoped0 cc1_scoped1 cc1_scoped2 cc1_scoped3 cc1_scoped4 cc1_scoped5 h1 fg fv hG hX k c)) $$ HI
  iintro %c HI
  obtain ⟨qa, qb⟩ := c
  rw [show Scf.trips (k1_t2_loop).lb (k1_t2_loop).ub (k1_t2_loop).st = 30 from t2_trips]
  dsimp only
  iapply (Scf.wp_for_bind Idealize.ShloMosaic.frame (wpE (defs₀ (F := F)) 𝒱₀ (thr d L) none) Set.univ _ _ _ (k1_t7_ok L h1) (qa, qb) _
    (fun n c => Inv (env A (jL L)) qInit d L gS vS oS wS fg fv (491 + n) c)
    (fun k c => trip7 (defs := defs₀ (F := F)) (env A (jL L)) qInit d L gV (Memref.isWhole_whole _) vV (Memref.isWhole_whole _) lV (Memref.isWhole_whole _) bV (Memref.isWhole_whole _) oV (Memref.isWhole_whole _) wV (Memref.isWhole_whole _) gS (Memref.isWhole_whole _) vS (Memref.isWhole_whole _) lS (Memref.isWhole_whole _) bS (Memref.isWhole_whole _) oS (Memref.isWhole_whole _) wS (Memref.isWhole_whole _) cc1_scoped0 cc1_scoped1 cc1_scoped2 cc1_scoped3 cc1_scoped4 cc1_scoped5 h1 fg fv hG hX k c)) $$ HI
  iintro %c HI
  obtain ⟨qa, qb⟩ := c
  rw [show Scf.trips (k1_t7_loop).lb (k1_t7_loop).ub (k1_t7_loop).st = 10 from t7_trips]
  dsimp only
  iapply (Scf.wp_for_bind Idealize.ShloMosaic.frame (wpE (defs₀ (F := F)) 𝒱₀ (thr d L) none) Set.univ _ _ _ (k1_t8_ok L h1) (qa, qb) _
    (fun n c => Inv (env A (jL L)) qInit d L gS vS oS wS fg fv (501 + n) c)
    (fun k c => trip8 (defs := defs₀ (F := F)) (env A (jL L)) qInit d L gV (Memref.isWhole_whole _) vV (Memref.isWhole_whole _) lV (Memref.isWhole_whole _) bV (Memref.isWhole_whole _) oV (Memref.isWhole_whole _) wV (Memref.isWhole_whole _) gS (Memref.isWhole_whole _) vS (Memref.isWhole_whole _) lS (Memref.isWhole_whole _) bS (Memref.isWhole_whole _) oS (Memref.isWhole_whole _) wS (Memref.isWhole_whole _) cc1_scoped0 cc1_scoped1 cc1_scoped2 cc1_scoped3 cc1_scoped4 cc1_scoped5 h1 fg fv hG hX k c)) $$ HI
  iintro %c HI
  obtain ⟨qa, qb⟩ := c
  rw [show Scf.trips (k1_t8_loop).lb (k1_t8_loop).ub (k1_t8_loop).st = 11 from t8_trips]
  dsimp only
  unfold Inv
  icases HI with ⟨H0', H1', %fo', %fw', H4', H5', %hR⟩
  obtain ⟨-, hR⟩ := hR
  ihave Ho' := (Entails.of_eq (show (oLoc d ↦[oRowSet (jL L)]{fullShare} fo : sProp (MM F)) = (oK L h1).view.loc (thr d L) ↦[(oK L h1).view.set]{fullShare} fo by rw [set_oK])) $$ Ho
  ihave Hw' := (Entails.of_eq (show (wLoc d ↦[oRowSet (jL L)]{fullShare} fw : sProp (MM F)) = (wK L h1).view.loc (thr d L) ↦[(wK L h1).view.set]{fullShare} fw by rw [set_wK])) $$ Hw
  sl_exec
  sl_step
  isplitl [Hgr Hvr Hlr Hb' Ho' Hw']
  · isplitl [Hgr Hvr Hlr Hb']
    · isplitl [Hgr]; · iexact Hgr
      isplitl [Hvr]; · iexact Hvr
      isplitl [Hlr]; · iexact Hlr
      iexact Hb'
    isplitl [Ho']
    · iapply (Entails.of_eq (pts_oK (F := F) A d L h1 fo (tile_body.sl.dma0_4 d L fo') (outO_at A L h1 hR))); iexact Ho'
    · iapply (Entails.of_eq (pts_wK (F := F) A d L h1 fw (tile_body.sl.dma0_5 d L fw') (outW_at A L h1 hR))); iexact Hw'
  isplitl [H0' H1' H2' H3' H4' H5' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    iexact Hbufs
  isplitl [HsA HsB HsC HsD HsE HsF Hsems]
  · isplitl [HsA]; · iexact HsA
    isplitl [HsB]; · iexact HsB
    isplitl [HsC]; · iexact HsC
    isplitl [HsD]; · iexact HsD
    isplitl [HsE]; · iexact HsE
    isplitl [HsF]; · iexact HsF
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof
-- ==== Proof.Deal.lean ====
/- The SparseCore call: what its cores and their tiles are handed, what they hand back. -/
module

public import proofs.«01_k».proof.Proof.Tile

@[expose] public section

noncomputable section

namespace Cert.Proof

open Cert.KernelIdeal Cert.KernelIdeal.Gen Cert.KernelIdeal.Step

open Idealize.ShloMosaic Idealize.ShloMosaic.ValueIdx Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (A : Dev nD → Arrs F)

/-- The four operands, whole. -/
abbrev opPts (d : Dev nD) : sProp (MM F) := iprop((gLoc d ↦{fullShare} ((A d).G : Buf (Elt F) (gLoc d))) ∗ (vLoc d ↦{fullShare} ((A d).X : Buf (Elt F) (vLoc d)))
  ∗ (lLoc d ↦{fullShare} ((A d).L : Buf (Elt F) (lLoc d))) ∗ (bLoc d ↦{fullShare} ((A d).B : Buf (Elt F) (bLoc d))))
abbrev resPts (d : Dev nD) (o : Buf (Elt F) (oLoc d)) (w : Buf (Elt F) (wLoc d)) : sProp (MM F) := iprop((oLoc d ↦{fullShare} o) ∗ (wLoc d ↦{fullShare} w))

/-- Core 0 gets everything, core 1 nothing. -/
def stP (d : Dev nD) : ℕ → sProp (MM F)
  | 0 => iprop(opPts A d ∗ resPts d (m (oLoc d)) (m (wLoc d)))
  | _ + 1 => iprop(emp)
def dnP (d : Dev nD) : ℕ → sProp (MM F)
  | 0 => iprop(opPts A d ∗ resPts d (outO (A d) : Buf (Elt F) (oLoc d)) (outW (A d) : Buf (Elt F) (wLoc d)))
  | _ + 1 => iprop(emp)
def goP (d : Dev nD) : ℕ → Fin 16 → sProp (MM F)
  | 0, i => iprop(inPts (A d) d i ∗ (oLoc d ↦[oRowSet i]{fullShare} m (oLoc d)) ∗ (wLoc d ↦[oRowSet i]{fullShare} m (wLoc d)))
  | _ + 1, _ => iprop(emp)
def tdP (d : Dev nD) : ℕ → Fin 16 → sProp (MM F)
  | 0, i => iprop(inPts (A d) d i ∗ (oLoc d ↦[oRowSet i]{fullShare} (outO (A d) : Buf (Elt F) (oLoc d))) ∗ (wLoc d ↦[oRowSet i]{fullShare} (outW (A d) : Buf (Elt F) (wLoc d))))
  | _ + 1, _ => iprop(emp)

instance stP_storable (d : Dev nD) (c : ℕ) : BI.Storable (upEmb : UEmb _ (MM F)) (stP m A d c) := by cases c <;> unfold stP <;> infer_instance
instance dnP_storable (d : Dev nD) (c : ℕ) : BI.Storable (upEmb : UEmb _ (MM F)) (dnP A d c) := by cases c <;> unfold dnP <;> infer_instance
instance goP_storable (d : Dev nD) (c : ℕ) (i : Fin 16) : BI.Storable (upEmb : UEmb _ (MM F)) (goP m A d c i) := by cases c <;> unfold goP <;> infer_instance
instance tdP_storable (d : Dev nD) (c : ℕ) (i : Fin 16) : BI.Storable (upEmb : UEmb _ (MM F)) (tdP A d c i) := by cases c <;> unfold tdP <;> infer_instance

def P : (K (F := F)).Pay (nD := nD) (Val := Elt F) (Name := ℕ) (U := UU) where
  st := fun q d c => match q with | 0 => stP m A d c.val
  dn := fun q d c => match q with | 0 => dnP A d c.val
  go := fun q d c i => match q with | 0 => goP m A d c.val (Fin.cast nSub_zero i)
  td := fun q d c i => match q with | 0 => tdP A d c.val (Fin.cast nSub_zero i)
  x := fun _ _ => iprop(emp)

instance P_storable : (P (F := F) m A).IsStorable where
  st q d c := match q with | 0 => stP_storable m A d c.val
  dn q d c := match q with | 0 => dnP_storable A d c.val
  go q d c i := match q with | 0 => goP_storable m A d c.val (Fin.cast nSub_zero i)
  td q d c i := match q with | 0 => tdP_storable A d c.val (Fin.cast nSub_zero i)

/-! ## A tile of core 1 does nothing -/

theorem tile_idle (d : Dev nD) (L : grid1.Coords) (h1 : ¬ k1_cond1 L = 1#1) (O : CellTallies nD τ sig (HIx 1)) (W : Waits sig (HIx 1)) :
    iprop(scopedBufs (thr d L) ∗ scopedSems0 (thr d L) ∗ owes (thr d L) O W)
      ⊢ (wp Idealize.ShloMosaic.frame (wpE (defs₀ (F := F)) 𝒱₀ (thr d L) none) Set.univ
          (cc1__sc_recur_body L gV (Memref.isWhole_whole _) vV (Memref.isWhole_whole _) lV (Memref.isWhole_whole _) bV (Memref.isWhole_whole _)
            oV (Memref.isWhole_whole _) wV (Memref.isWhole_whole _) gS (Memref.isWhole_whole _) vS (Memref.isWhole_whole _) lS (Memref.isWhole_whole _)
            bS (Memref.isWhole_whole _) oS (Memref.isWhole_whole _) wS (Memref.isWhole_whole _)
            cc1_scoped0 cc1_scoped1 cc1_scoped2 cc1_scoped3 cc1_scoped4 cc1_scoped5)
          fun _ => iprop(emp ∗ scopedBufs (thr d L) ∗ scopedSems0 (thr d L)
            ∗ ∃ W', ⌜∀ p ∈ W', p ∈ W ∨ p.2 = none⌝ ∗ owes (thr d L) O W') : sProp (MM F)) := by
  simp only [cc1__sc_recur_body_eq_skeleton]; unfold cc1__sc_recur_body_skel
  simp only [dif_neg h1]
  iintro ⟨Hb, Hs, HO⟩
  sl_exec
  try sl_step
  isplitr; · iempintro
  isplitl [Hb]; · iexact Hb
  isplitl [Hs]; · iexact Hs
  iexists _; isplitr
  swap; · iexact HO
  ipureintro; exact fun p hp => Or.inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_recur_body (coordsV c s)
          gV (Memref.isWhole_whole _) vV (Memref.isWhole_whole _) lV (Memref.isWhole_whole _) bV (Memref.isWhole_whole _)
            oV (Memref.isWhole_whole _) wV (Memref.isWhole_whole _) gS (Memref.isWhole_whole _) vS (Memref.isWhole_whole _) lS (Memref.isWhole_whole _)
            bS (Memref.isWhole_whole _) oS (Memref.isWhole_whole _) wS (Memref.isWhole_whole _)
            cc1_scoped0 cc1_scoped1 cc1_scoped2 cc1_scoped3 cc1_scoped4 cc1_scoped5) ⟨⟩ c s := rfl

theorem obl_post {t : Thread nD τ} {X Y Z : sProp (MM F)} {O : CellTallies nD τ sig (HIx 1)} {W : Waits sig (HIx 1)} {q : Fin 1} :
    iprop(X ∗ Y ∗ Z ∗ ∃ W', ⌜∀ p ∈ W', p ∈ W ∨ p.2 = none⌝ ∗ owes t O W')
      ⊢ iprop(X ∗ Y ∗ Z ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_any (hF : (K (F := F)).Facts) (d : Dev nD) (L : grid1.Coords) (O : CellTallies nD τ sig (HIx 1)) (W : Waits sig (HIx 1)) (hO : ∀ g, O g none = 0) :
    iprop(levAts (K (F := F)).L (K (F := F)).lev ∗ emp ∗ goP m A d (L 0).val (jL L)
        ∗ scopedBufs (thr d L) ∗ scopedSems0 (thr d L) ∗ owes (thr d L) O W)
      ⊢ (wp Idealize.ShloMosaic.frame (wpE (defs₀ (F := F)) 𝒱₀ (thr d L) none) Set.univ
          (cc1__sc_recur_body L gV (Memref.isWhole_whole _) vV (Memref.isWhole_whole _) lV (Memref.isWhole_whole _) bV (Memref.isWhole_whole _)
            oV (Memref.isWhole_whole _) wV (Memref.isWhole_whole _) gS (Memref.isWhole_whole _) vS (Memref.isWhole_whole _) lS (Memref.isWhole_whole _)
            bS (Memref.isWhole_whole _) oS (Memref.isWhole_whole _) wS (Memref.isWhole_whole _)
            cc1_scoped0 cc1_scoped1 cc1_scoped2 cc1_scoped3 cc1_scoped4 cc1_scoped5)
          fun _ => iprop(tdP A d (L 0).val (jL L) ∗ scopedBufs (thr d L) ∗ scopedSems0 (thr d L)
            ∗ ∃ W', ⌜∀ p ∈ W', p ∈ W ∨ p.2 = none⌝ ∗ owes (thr d L) O W') : sProp (MM F)) := by
  by_cases h0 : (L 0).val = 0
  · rw [h0]
    iintro ⟨Hlv, -, Hg', Hb, Hs, HO⟩
    ihave Hg := (Entails.of_eq (show goP m A d 0 (jL L) = iprop(inPts (A d) d (jL L) ∗ (oLoc d ↦[oRowSet (jL L)]{fullShare} m (oLoc d))
      ∗ (wLoc d ↦[oRowSet (jL L)]{fullShare} m (wLoc d))) from rfl)) $$ Hg'
    iapply (tile_body (A d) d L ((cond_iff L).mpr h0) hF (m (oLoc d)) (m (wLoc d)) O W hO)
    isplitl [Hlv]; · iexact Hlv
    isplitl [Hg]; · iexact Hg
    isplitl [Hb]; · iexact Hb
    isplitl [Hs]; · iexact Hs
    iexact HO
  · obtain ⟨n, hn⟩ : ∃ n, (L 0).val = n + 1 := ⟨(L 0).val - 1, by omega⟩
    rw [hn]
    iintro ⟨-, -, -, Hb, Hs, HO⟩
    iapply (tile_idle d L (fun h => h0 ((cond_iff L).mp h)) O W)
    isplitl [Hb]; · iexact Hb
    isplitl [Hs]; · iexact Hs
    iexact HO

set_option maxRecDepth 16384 in
theorem tileObl (hF : (K (F := F)).Facts) : (K (F := F)).TileObl (D (F := F)) 𝒱 (P m A) v₀ 0 := by
  intro d c i O W hO _ _
  simp only [show (P m A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_any m A hF d (coordsV ⟨_, hci.1⟩ ⟨_, hci.2⟩) O W hO).trans (wp_mono frame _ _ fun _ => obl_post)

/-! ## Splitting and joining -/

theorem orows_disjoint : ∀ i ∈ (Finset.univ : Finset (Fin 16)), ∀ j ∈ (Finset.univ : Finset (Fin 16)), i ≠ j → Disjoint (oRowSet i) (oRowSet j) :=
  fun i _ j _ h => Rect.part_disjoint odiv h
theorem orows_cover : (Finset.univ : Finset (Fin 16)).biUnion oRowSet = Finset.univ := Rect.biUnion_part odiv

theorem oPts_rows (d : Dev nD) (f : Buf (Elt F) (oLoc d)) :
    (oLoc d ↦{fullShare} f : sProp (MM F)) = bigSep Finset.univ fun i : Fin 16 => oLoc d ↦[oRowSet i]{fullShare} f := by
  rw [← pointsTo_biUnion Finset.univ (ℓ := oLoc d) oRowSet orows_disjoint, orows_cover]; try rfl
theorem wPts_rows (d : Dev nD) (f : Buf (Elt F) (wLoc d)) :
    (wLoc d ↦{fullShare} f : sProp (MM F)) = bigSep Finset.univ fun i : Fin 16 => wLoc d ↦[oRowSet i]{fullShare} f := by
  rw [← pointsTo_biUnion Finset.univ (ℓ := wLoc d) oRowSet orows_disjoint, orows_cover]; try rfl
theorem pts_shares (ℓ : Loc nD τ sig) (f : Buf (Elt F) ℓ) :
    (ℓ ↦{fullShare} f : sProp (MM F)) = bigSep Finset.univ fun i : Fin 16 => ℓ ↦{qs i} f :=
  ShareLeaves.pointsTo_leaves Finset.univ f 4 fullShare

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem bigSep_emp' {I : Type} (s : Finset I) : (bigSep s fun _ => iprop(emp)) = (iprop(emp) : sProp (MM F)) := bigSep_emp_const s

theorem go_eq (d : Dev nD) : (bigSep Finset.univ fun i : Fin 16 => goP m A d 0 i) = stP m A d 0 := by
  unfold goP stP inPts opPts resPts
  simp only [bigSep_sep']
  rw [pts_shares (gLoc d), pts_shares (vLoc d), pts_shares (lLoc d), pts_shares (bLoc d), oPts_rows, wPts_rows]
theorem td_eq (d : Dev nD) : (bigSep Finset.univ fun i : Fin 16 => tdP A d 0 i) = dnP A d 0 := by
  unfold tdP dnP inPts opPts resPts
  simp only [bigSep_sep']
  rw [pts_shares (gLoc d), pts_shares (vLoc d), pts_shares (lLoc d), pts_shares (bLoc d), oPts_rows, wPts_rows]

theorem vecSplit : (K (F := F)).VecSplit' (P m A) 0 := by
  intro d c
  show stP m A d c.val ⊢ |={Set.univ}=> iprop(
      (bigSep Finset.univ fun i : Fin ((K (F := F)).nSub 0) => goP m A d c.val (Fin.cast nSub_zero i))
      ∗ ((bigSep Finset.univ fun i : Fin ((K (F := F)).nSub 0) => tdP A d c.val (Fin.cast nSub_zero i)) -∗ dnP A d c.val))
  rw [bigSep_tasks (F := F) (fun i => goP m A d c.val i), bigSep_tasks (F := F) (fun i => tdP A d c.val i)]
  generalize c.val = n
  cases n with
  | zero =>
    rw [go_eq, td_eq]
    iintro H; imodintro
    isplitl [H]; · iexact H
    iintro H; iexact H
  | succ n =>
    iintro -; imodintro
    isplitr
    · rw [show (fun i => goP m A d (n + 1) i) = (fun _ => iprop(emp)) from rfl, bigSep_emp']; iempintro
    iintro -
    iempintro

theorem st0_eq (d : Dev nD) : (bigSep Finset.univ fun c : Fin ((K (F := F)).nCore 0) => (P m A).st 0 d c) = stP m A d 0 := by
  show (bigSep Finset.univ fun c : Fin 2 => stP m A d c.val) = _
  rw [show (Finset.univ : Finset (Fin 2)) = {0, 1} by decide, SparseCore.bigSep_insert' (by decide), bigSep_singleton]
  show iprop(stP m A d 0 ∗ emp) = _
  exact sep_emp_eq _
theorem dn0_eq (d : Dev nD) : (bigSep Finset.univ fun c : Fin ((K (F := F)).nCore 0) => (P m A).dn 0 d c) = dnP A d 0 := by
  show (bigSep Finset.univ fun c : Fin 2 => dnP A d c.val) = _
  rw [show (Finset.univ : Finset (Fin 2)) = {0, 1} by decide, SparseCore.bigSep_insert' (by decide), bigSep_singleton]
  show iprop(dnP A d 0 ∗ emp) = _
  exact sep_emp_eq _

end Cert.Proof
-- ==== Proof.Region.lean ====
/- A TensorCore call beside the SparseCore launch: its region over the unscoped buffers and what the core still owes. -/
module

public import proofs.«01_k».proof.Proof.Base
public import Idealize.ShloMosaic.Lib.Pipeline.RegionsLoop
public import Idealize.ShloMosaic.Lib.Pipeline.ValueKit.Basic

@[expose] public section

noncomputable section

namespace Cert.Proof

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp (MM F) :=
  M.view.loc (c : Thread nD τ) ↦{fullShare} f
abbrev rd (c : Dev nD) {sp : Space} {S : Shape} {e : EltTy} (M : Memref sig .tc sp S e) (f : Bf F c M) : S.Idx → Elt F e := M.view.read (Elt F) f
abbrev holds (c : Dev nD) {sp : Space} {S : Shape} {e : EltTy} (M : Memref sig .tc sp S e) (x : S.Idx → Elt F e) : sProp (MM F) :=
  iprop(∃ f : Bf F c M, ⌜rd c M f = x⌝ ∗ pt c M f)

theorem owns_holds (c : Dev nD) {sp : Space} {S : Shape} {e : EltTy} (M : Memref sig .tc sp S e) (h : M.IsWhole) (x : S.Idx → Elt F e) :
    (owns (c : Thread nD τ) M fullShare x : sProp (MM F)) = holds c M x := by
  unfold owns; rw [h.set_eq_univ]

/-- A store through the whole shape leaves its payload. -/
theorem read_writes_unit {sp : Space} {S : Shape} {e : EltTy} (v : View sig .tc sp S e) (f : v.ty.Contents (Elt F))
    {off : Fin S.rank → Nat} (inb : ∀ a, off a + S.size a ≤ S.size a) (x : S.Idx → Elt F e) (h : ∀ a, off a = 0) :
    v.read (Elt F) (v.writes (Elt F) f [⟨Rect.unit off S.size inb, x⟩]) = x := by
  obtain rfl : off = fun _ => 0 := funext h
  exact View.read_writes_whole (Val := Elt F) v f x

/-- A load through the whole shape reads the contents. -/
theorem readAt_unit {sp : Space} {S : Shape} {e : EltTy} (v : View sig .tc sp S e) (f : v.ty.Contents (Elt F))
    {off : Fin S.rank → Nat} (inb : ∀ a, off a + S.size a ≤ S.size a) (h : ∀ a, off a = 0) :
    v.readAt (Elt F) (Rect.unit off S.size inb).toLoadRect f = v.read (Elt F) f := by
  rw [View.readAt_eq_ld, View.ld_unit_lit inb _ h]

/-- A proof data for a pipeline a region does not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- What the core still owes before SparseCore call `n`, its recorded pairs below that call. -/
abbrev owesN (c : Dev nD) (n : ℕ) : sProp (MM F) :=
  iprop(∃ W, ⌜(K (F := F)).WBelow (T c) W (8 * n)⌝ ∗ owes (T c) ((K (F := F)).Otc c n) W)

variable (adm : (p : Fin 2) → (pcfgs (F := F) p).Adm)

set_option backward.isDefEq.respectTransparency.types false in
/-- The region of pipeline `p` over the unscoped buffers at `V`, left at `Vp`. -/
def reg (p : Fin 2) (pd : (p : Fin 2) → (c : Dev nD) → Dat τ (Elt F) (HIx 1) ℕ UU ℕ (Pipeline.pin (pcfgs (F := F)) adm p) c)
    (hl : Pipeline.LaunchFacts (nD := nD) (τ := τ) cfgs p) (n : ℕ)
    (V Vp : (c : Dev nD) → (b : Ref sig .tc) → Buf (Elt F) ((c : Thread nD τ).loc b))
    (hq : ∀ c w, (pd p c).q w = fullShare)
    (hA : ∀ c w, (pd p c).A w = V c (Pipeline.arrRef (Pipeline.pin (pcfgs (F := F)) adm p).spec w))
    (hbody : ∀ c, BodyObligation (pd p c) (defs₀ (F := F)) 𝒱₀ none Set.univ)
    (howed : ∀ c t, (pd p c).owed t = (K (F := F)).Otc c n)
    (hrec : ∀ c t, (pd p c).recorded t = {x | (K (F := F)).lev (T c, x.1) x.2 ≤ 8 * n})
    (hin : ∀ c, (Pipeline.scopedRest (Ix := HIx 1) (Name := ℕ) (U := UU) (Lvl := ℕ) (Val := Elt F) (Pipeline.pin (pcfgs (F := F)) adm p).spec c : sProp (MM F)) ⊢ (pd p c).Φ 0)
    (hout : ∀ c t, (pd p c).Φ t ⊢ (Pipeline.scopedRest (Ix := HIx 1) (Name := ℕ) (U := UU) (Lvl := ℕ) (Val := Elt F) (Pipeline.pin (pcfgs (F := F)) adm p).spec c : sProp (MM F)))
    (hF : ∀ c w, (pd p c).arrAt w (Pipeline.pin (pcfgs (F := F)) adm p).N = Vp c (Pipeline.arrRef (Pipeline.pin (pcfgs (F := F)) adm p).spec w))
    (hrest : ∀ c b, b ∉ Finset.univ.image (Pipeline.arrRef (Pipeline.pin (pcfgs (F := F)) adm p).spec) → Vp c b = V c b) :
    Pipeline.RegionSeg (pcfgs (F := F)) adm pd none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (hbody c).loose
  hwaits c := Pipeline.cellsWaits_of_cut (Pipeline.pin (pcfgs (F := F)) adm) pd none p c 0 ((K (F := F)).Otc c n) (howed c)
    (fun w s => Finset.mem_univ _)
    (fun w s => le_of_eq rfl) (fun g i h => ⟨Finset.mem_univ _, Nat.lt_of_lt_of_le (Nat.succ_pos _) (SparseCore.Cfg.lev_of_Otc_pos h)⟩)
  pre c := iprop(unscopedBufs c (V c) ∗ owesN c n)
  post c := iprop(unscopedBufs c (Vp c) ∗ owesN c n)
  X _ := BI.emp
  Y _ := BI.emp
  Z c := Pipeline.unscopedRest (Ix := HIx 1) (Name := ℕ) (U := UU) (Lvl := ℕ) (Pipeline.pin (pcfgs (F := F)) adm p).spec c (V c)
  hentry c := by
    rw [Pipeline.ownSems0_none]
    have hsplit := Pipeline.arrays_of_unscopedBufs (p := p) (pcfgs (F := F)) adm pd hl.win hl.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin (pcfgs (F := F) p).pre.K)) = ∅ from Finset.univ_eq_empty_iff.2 (show IsEmpty (Fin 0) from inferInstance), BI.bigSep_empty]; iempintro
    isplitl [HO]
    · unfold Pipeline.Dat.owesAt Pipeline.owesWithin Pipeline.Dat.bound
      rw [howed, hrec]
      icases HO with ⟨%W, %hW, HO⟩; iexists W; isplitr; · ipureintro; exact fun x hx => Or.inl (hW x hx)
      iexact HO
    isplitr; · iempintro
    iexact Hrest
  hin c := by
    iintro ⟨-, -, Hr⟩; iapply (hin c); iexact Hr
  hout c := by
    rw [Pipeline.ownSems0_none]
    iintro Hr
    isplitr; · iempintro
    isplitr; · iempintro
    iapply (hout c _); iexact Hr
  hexit c := by
    have hjoin := Pipeline.unscopedBufs_of_arrays (p := p) (pcfgs (F := F)) adm (Ix := HIx 1) (Name := ℕ) (U := UU) (Lvl := ℕ) hl.win hl.arr_whole c
      pd ((pd p c).share_full (hq c)) (V c) (Vp c) ((pd p c).arrAt · (Pipeline.pin (pcfgs (F := F)) adm p).N) (hF c) (hrest c)
    iintro ⟨Ha, HO, -, Hrest⟩
    imodintro
    isplitl [Ha Hrest]
    · iapply hjoin; isplitl [Ha] <;> iassumption
    unfold Pipeline.Dat.owesAt Pipeline.owesWithin Pipeline.Dat.bound
    rw [howed, hrec]
    icases HO with ⟨%W, %hW, HO⟩; iexists W; isplitr
    · ipureintro; intro x hx
      rcases hW hx with h | ⟨w, s, h⟩
      · exact h
      · rw [h]; exact Nat.zero_le _
    iexact HO

end Cert.Proof

end
-- ==== Proof.Proj.lean ====
/- The first TensorCore call: the projection kernel's run at a grid point. -/
module

public import proofs.«01_k».proof.Proof.Region
public import proofs.«01_k».proof.Proof.Gen.KernelIdeal.Skeleton
public import proofs.«01_k».proof.Proof.Gen.KernelIdeal.Points

@[expose] public section

noncomputable section

namespace Cert.Proof.Proj

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The grid coordinate is zero, as the body tests it. -/
theorem cond_iff (i : grid0.Coords) :
    (Scalar.cmpi .ne (Scalar.extui (Scalar.cmpi .eq (BitVec.ofNat 32 (i 0).val) 0#32) : BitVec 32) 0#32 = 1#1) ↔ (i 0).val = 0 := by
  have : ∀ a : Fin 8, (Scalar.cmpi .ne (Scalar.extui (Scalar.cmpi .eq (BitVec.ofNat 32 a.val) 0#32) : BitVec 32) 0#32 = 1#1) ↔ a.val = 0 := by decide
  exact this (i 0)

/-- The body after the first point: both products from the kept matrix. -/
theorem later (c : Dev nD) (i : grid0.Coords) (hi : (i 0).val ≠ 0) (E : Set ℕ) (Q : PUnit → sProp (MM F))
    (M1 : Memref sig .tc .vmem S1024x2048 .f32) (h1 : M1.IsWhole) (M2 : Memref sig .tc .vmem S2048x768 .f32) (h2 : M2.IsWhole)
    (M3 : Memref sig .tc .vmem S1x768 .f32) (h3 : M3.IsWhole) (M4 : Memref sig .tc .vmem S29x768 .f32) (h4 : M4.IsWhole)
    (M5 : Memref sig .tc .vmem S1x768 .f32) (h5 : M5.IsWhole) (M6 : Memref sig .tc .vmem S768x29 .f32) (h6 : M6.IsWhole)
    (M7 : Memref sig .tc .vmem S32x1024 .f32) (h7 : M7.IsWhole) (M8 : Memref sig .tc .vmem S1024x32 .f32) (h8 : M8.IsWhole)
    (M9 : Memref sig .tc .vmem S2048x64 .f32) (h9 : M9.IsWhole) (M10 : Memref sig .tc .vmem S1x64 .f32) (h10 : M10.IsWhole)
    (f1 : Bf F c M1) (f7 : Bf F c M7) (f8 : Bf F c M8) (f9 : Bf F c M9) (f10 : Bf F c M10) :
    iprop(pt c M1 f1 ∗ pt c M7 f7 ∗ pt c M8 f8 ∗ pt c M9 f9 ∗ pt c M10 f10
      ∗ (iprop(pt c M1 f1 ∗ holds c M7 (k0_pay3 (rd c M1 f1) (rd c M9 f9) (rd c M10 f10)) ∗ holds c M8 (k0_pay4 (rd c M1 f1) (rd c M9 f9) (rd c M10 f10))
          ∗ pt c M9 f9 ∗ pt c M10 f10) -∗ Q ⟨⟩))
      ⊢ wp frame (wpE (defs₀ (F := F)) Variants.none c none) E (cc0__project_kernel i M1 h1 M2 h2 M3 h3 M4 h4 M5 h5 M6 h6 M7 h7 M8 h8 M9 h9 M10 h10) Q := by
  rw [cc0__project_kernel_eq_skeleton]
  unfold cc0__project_kernel_skel
  rw [dif_neg (fun h => hi ((cond_iff i).1 h))]
  iintro ⟨H1, H7, H8, H9, H10, Hk⟩
  sl_exec
  sl_step
  iapply Hk
  isplitl [H1]; · iexact H1
  isplitl [H7]
  · iexists _; isplitr; swap; (· iexact H7); ipureintro
    refine (read_writes_unit (F := F) _ _ _ _ (by decide)).trans ?_
    rw [readAt_unit (F := F) _ _ _ (by decide), readAt_unit (F := F) _ _ _ (by decide), readAt_unit (F := F) _ _ _ (by decide)]
  isplitl [H8]
  · iexists _; isplitr; swap; (· iexact H8); ipureintro
    refine (read_writes_unit (F := F) _ _ _ _ (by decide)).trans ?_
    rw [readAt_unit (F := F) _ _ _ (by decide), readAt_unit (F := F) _ _ _ (by decide), readAt_unit (F := F) _ _ _ (by decide)]
  isplitl [H9]; · iexact H9
  iexact H10

/-- The body at the first point: the matrix and the row computed and kept, then both products from them. -/
theorem first (c : Dev nD) (i : grid0.Coords) (hi : (i 0).val = 0) (E : Set ℕ) (Q : PUnit → sProp (MM F))
    (M1 : Memref sig .tc .vmem S1024x2048 .f32) (h1 : M1.IsWhole) (M2 : Memref sig .tc .vmem S2048x768 .f32) (h2 : M2.IsWhole)
    (M3 : Memref sig .tc .vmem S1x768 .f32) (h3 : M3.IsWhole) (M4 : Memref sig .tc .vmem S29x768 .f32) (h4 : M4.IsWhole)
    (M5 : Memref sig .tc .vmem S1x768 .f32) (h5 : M5.IsWhole) (M6 : Memref sig .tc .vmem S768x29 .f32) (h6 : M6.IsWhole)
    (M7 : Memref sig .tc .vmem S32x1024 .f32) (h7 : M7.IsWhole) (M8 : Memref sig .tc .vmem S1024x32 .f32) (h8 : M8.IsWhole)
    (M9 : Memref sig .tc .vmem S2048x64 .f32) (h9 : M9.IsWhole) (M10 : Memref sig .tc .vmem S1x64 .f32) (h10 : M10.IsWhole)
    (f1 : Bf F c M1) (f2 : Bf F c M2) (f3 : Bf F c M3) (f4 : Bf F c M4) (f5 : Bf F c M5) (f6 : Bf F c M6)
    (f7 : Bf F c M7) (f8 : Bf F c M8) (f9 : Bf F c M9) (f10 : Bf F c M10)
    (A : FVec F S2048x64 .f32) (r : FVec F S1x64 .f32) (hA : A = k0_pay6 (rd c M2 f2) (rd c M4 f4) (rd c M5 f5) (rd c M6 f6))
    (hr : r = k0_pay1 (k0_pay7 (rd c M4 f4) (rd c M5 f5) (rd c M6 f6) (rd c M3 f3))) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
      ∗ (iprop(pt c M1 f1 ∗ pt c M2 f2 ∗ pt c M3 f3 ∗ pt c M4 f4 ∗ pt c M5 f5 ∗ pt c M6 f6
          ∗ holds c M7 (k0_pay3 (rd c M1 f1) A r) ∗ holds c M8 (k0_pay4 (rd c M1 f1) A r)
          ∗ holds c M9 A ∗ holds c M10 r) -∗ Q ⟨⟩))
      ⊢ wp frame (wpE (defs₀ (F := F)) Variants.none c none) E (cc0__project_kernel i M1 h1 M2 h2 M3 h3 M4 h4 M5 h5 M6 h6 M7 h7 M8 h8 M9 h9 M10 h10) Q := by
  rw [cc0__project_kernel_eq_skeleton]
  unfold cc0__project_kernel_skel
  rw [dif_pos ((cond_iff i).2 hi), k0_part1_eq_skeleton]
  unfold k0_part1_skel
  subst hA hr
  iintro ⟨H1, H2, H3, H4, H5, H6, H7, H8, H9, H10, Hk⟩
  sl_exec
  sl_step
  have e5 : first.sl.v5 (F := F) c M2 M4 M5 M6 M9 f2 f4 f5 f6 = k0_pay6 (rd c M2 f2) (rd c M4 f4) (rd c M5 f5) (rd c M6 f6) := by
    refine (View.readCov_unit_lit (Val := Elt F) M9.view _ _ (by decide)).trans ?_
    repeat rw [readAt_unit (F := F) _ _ _ (by decide)]
  have e6 : first.sl.v6 (F := F) c M3 M4 M5 M6 M10 f3 f4 f5 f6 = k0_pay1 (k0_pay7 (rd c M4 f4) (rd c M5 f5) (rd c M6 f6) (rd c M3 f3)) := by
    refine (View.readCov_unit_lit (Val := Elt F) M10.view _ _ (by decide)).trans ?_
    unfold k0_pay1
    repeat rw [readAt_unit (F := F) _ _ _ (by decide)]
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro
    refine (read_writes_unit (F := F) _ _ _ _ (by decide)).trans ?_
    repeat rw [readAt_unit (F := F) _ _ _ (by decide)]
    rw [e5, e6]
  isplitl [H8]
  · iexists _; isplitr; swap; (· iexact H8); ipureintro
    refine (read_writes_unit (F := F) _ _ _ _ (by decide)).trans ?_
    repeat rw [readAt_unit (F := F) _ _ _ (by decide)]
    rw [e5, e6]
  isplitl [H9]
  · iexists _; isplitr; swap; (· iexact H9); ipureintro
    refine (read_writes_unit (F := F) _ _ _ _ (by decide)).trans ?_
    repeat rw [readAt_unit (F := F) _ _ _ (by decide)]
  · iexists _; isplitr; swap; (· iexact H10); ipureintro
    refine (read_writes_unit (F := F) _ _ _ _ (by decide)).trans ?_
    unfold k0_pay1
    repeat rw [readAt_unit (F := F) _ _ _ (by decide)]

/-! ## The proof data, at an entry valuation -/

theorem coords_val (t : Fin cfg0.N) : (grid0.coords t 0).val = t.val := by
  rcases fin_N0 t with rfl | rfl | rfl | rfl | rfl | rfl | rfl | rfl <;> decide

variable (n : ℕ) (V : (c : Dev nD) → (b : Ref sig .tc) → Buf (Elt F) ((c : Thread nD τ).loc b))

/-- The windows' blocks of their arrays at point `t`. -/
abbrev blk0 (c : Dev nD) (t : Fin cfg0.N) : S1024x2048.Idx → Elt F .f32 := ((cfg0.win 0).blk t).view.read (Elt F) (V c (Pipeline.arrRef spec0 0))
abbrev blk1 (c : Dev nD) (t : Fin cfg0.N) : S2048x768.Idx → Elt F .f32 := ((cfg0.win 1).blk t).view.read (Elt F) (V c (Pipeline.arrRef spec0 1))
abbrev blk2 (c : Dev nD) (t : Fin cfg0.N) : S1x768.Idx → Elt F .f32 := ((cfg0.win 2).blk t).view.read (Elt F) (V c (Pipeline.arrRef spec0 2))
abbrev blk3 (c : Dev nD) (t : Fin cfg0.N) : S29x768.Idx → Elt F .f32 := ((cfg0.win 3).blk t).view.read (Elt F) (V c (Pipeline.arrRef spec0 3))
abbrev blk4 (c : Dev nD) (t : Fin cfg0.N) : S1x768.Idx → Elt F .f32 := ((cfg0.win 4).blk t).view.read (Elt F) (V c (Pipeline.arrRef spec0 4))
abbrev blk5 (c : Dev nD) (t : Fin cfg0.N) : S768x29.Idx → Elt F .f32 := ((cfg0.win 5).blk t).view.read (Elt F) (V c (Pipeline.arrRef spec0 5))

/-- The matrix and the row the first point computes and keeps. -/
def combA (c : Dev nD) : FVec F S2048x64 .f32 := k0_pay6 (blk1 V c t0_0) (blk3 V c t0_0) (blk4 V c t0_0) (blk5 V c t0_0)
def combC (c : Dev nD) : FVec F S1x64 .f32 := k0_pay1 (k0_pay7 (blk3 V c t0_0) (blk4 V c t0_0) (blk5 V c t0_0) (blk2 V c t0_0))

abbrev scrA : Memref sig .tc .vmem S2048x64 .f32 := Memref.whole cc0_scratch0
abbrev scrC : Memref sig .tc .vmem S1x64 .f32 := Memref.whole cc0_scratch1

abbrev restP (c : Dev nD) : sProp (MM F) := Pipeline.scopedRest (Ix := HIx 1) (Name := ℕ) (U := UU) (Lvl := ℕ) (Val := Elt F) spec0 c
abbrev butP (c : Dev nD) : sProp (MM F) := Pipeline.scopedRestBut (Ix := HIx 1) (Name := ℕ) (U := UU) (Lvl := ℕ) (Val := Elt F) spec0 c [cc0_scratch0, cc0_scratch1]
abbrev keptP (c : Dev nD) : sProp (MM F) := iprop(holds c scrA (combA V c) ∗ holds c scrC (combC V c) ∗ butP c)

theorem rest_split (c : Dev nD) :
    (restP c : sProp (MM F)) = iprop(((∃ f : Bf F c scrA, pt c scrA f) ∗ (∃ f : Bf F c scrC, pt c scrC f)) ∗ butP c) :=
  Pipeline.scopedRest_split_of_list spec0 c [cc0_scratch0, cc0_scratch1] (by decide) (by decide)

theorem rest_of_kept (c : Dev nD) : keptP V c ⊢ restP c := by
  rw [rest_split]
  iintro ⟨⟨%f, -, H⟩, ⟨%g, -, H'⟩, Hb⟩
  isplitl [H H']
  · isplitl [H]; · iexists f; iexact H
    iexists g; iexact H'
  iexact Hb

/-- Before the first point the scoped buffers at anything; after it the kept matrix and row. -/
def inv (c : Dev nD) (t : Fin (cfg0.N + 1)) : sProp (MM F) := if t.val = 0 then restP c else keptP V c

theorem inv_rest (c : Dev nD) (t : Fin (cfg0.N + 1)) : inv V c t ⊢ restP c := by
  unfold inv
  split
  · exact .rfl
  · exact rest_of_kept V c

def dat (c : Dev nD) : Dat τ (Elt F) (HIx 1) ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => k0_pay3 (blk0 V c t) (combA V c) (combC V c)
    | ⟨7, _⟩ => k0_pay4 (blk0 V c t) (combA V c) (combC V c)
  Φ t := inv V c t
  q _ := fullShare
  owed _ := (K (F := F)).Otc c n
  recorded _ := {x | (K (F := F)).lev (T c, x.1) x.2 ≤ 8 * n}

theorem before0 (c : Dev nD) (t : Fin cfg0.N) (d) : (dat n V c).before 0 t d = blk0 V c t :=
  (dat n V c).before_in_eq_fetched 0 rfl (fun _ => rfl) (fun _ _ _ => rfl) (fun _ => rfl) t d
theorem before1 (c : Dev nD) (t : Fin cfg0.N) (d) : (dat n V c).before 1 t d = blk1 V c t :=
  (dat n V c).before_in_eq_fetched 1 rfl (fun _ => rfl) (fun _ _ _ => rfl) (fun _ => rfl) t d
theorem before2 (c : Dev nD) (t : Fin cfg0.N) (d) : (dat n V c).before 2 t d = blk2 V c t :=
  (dat n V c).before_in_eq_fetched 2 rfl (fun _ => rfl) (fun _ _ _ => rfl) (fun _ => rfl) t d
theorem before3 (c : Dev nD) (t : Fin cfg0.N) (d) : (dat n V c).before 3 t d = blk3 V c t :=
  (dat n V c).before_in_eq_fetched 3 rfl (fun _ => rfl) (fun _ _ _ => rfl) (fun _ => rfl) t d
theorem before4 (c : Dev nD) (t : Fin cfg0.N) (d) : (dat n V c).before 4 t d = blk4 V c t :=
  (dat n V c).before_in_eq_fetched 4 rfl (fun _ => rfl) (fun _ _ _ => rfl) (fun _ => rfl) t d
theorem before5 (c : Dev nD) (t : Fin cfg0.N) (d) : (dat n V c).before 5 t d = blk5 V c t :=
  (dat n V c).before_in_eq_fetched 5 rfl (fun _ => rfl) (fun _ _ _ => rfl) (fun _ => rfl) t d

theorem body_obligation (c : Dev nD) : BodyObligation (dat n V c) (defs₀ (F := F)) 𝒱₀ none Set.univ := fun t => by
  have hs : inv V c t.succ = keptP V c := by unfold inv; exact if_neg (Nat.succ_ne_zero t.val)
  rw [bigSep_W0, bigSep_W0]
  simp only [owns_holds (F := F) c (stage0_0 (cfg0.slots t 0)) (hstage0_0 ((cfg0.slots t 0).cast nbuf0_0)),
    owns_holds (F := F) c (stage0_1 (cfg0.slots t 1)) (hstage0_1 ((cfg0.slots t 1).cast nbuf0_1)),
    owns_holds (F := F) c (stage0_2 (cfg0.slots t 2)) (hstage0_2 ((cfg0.slots t 2).cast nbuf0_2)),
    owns_holds (F := F) c (stage0_3 (cfg0.slots t 3)) (hstage0_3 ((cfg0.slots t 3).cast nbuf0_3)),
    owns_holds (F := F) c (stage0_4 (cfg0.slots t 4)) (hstage0_4 ((cfg0.slots t 4).cast nbuf0_4)),
    owns_holds (F := F) c (stage0_5 (cfg0.slots t 5)) (hstage0_5 ((cfg0.slots t 5).cast nbuf0_5)),
    owns_holds (F := F) c (stage0_6 (cfg0.slots t 6)) (hstage0_6 ((cfg0.slots t 6).cast nbuf0_6)),
    owns_holds (F := F) c (stage0_7 (cfg0.slots t 7)) (hstage0_7 ((cfg0.slots t 7).cast nbuf0_7))]
  rw [show (dat n V c).Φ t.castSucc = inv V c t.castSucc from rfl, show (dat n V c).Φ t.succ = inv V c t.succ from rfl, hs,
    show (dat n V c).owesAt none t.succ = (dat n V c).owesAt none t.castSucc from rfl]
  by_cases ht : t.val = 0
  · obtain rfl : t = t0_0 := Fin.ext ht
    rw [show inv V c (t0_0 : Fin cfg0.N).castSucc = restP c from if_pos rfl, rest_split]
    show _ ⊢ wp frame (wpE (defs₀ (F := F)) 𝒱₀ c none) Set.univ (bodyAt0 t0_0) _
    iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩,
      ⟨%d6, %f6, -, H6⟩, ⟨%d7, %f7, -, H7⟩⟩
    replace e0 := e0.trans (before0 n V c _ d0)
    replace e1 := e1.trans (before1 n V c _ d1)
    replace e2 := e2.trans (before2 n V c _ d2)
    replace e3 := e3.trans (before3 n V c _ d3)
    replace e4 := e4.trans (before4 n V c _ d4)
    replace e5 := e5.trans (before5 n V c _ d5)
    icases HΦ with ⟨⟨⟨%f9, H9⟩, ⟨%f10, H10⟩⟩, Hb⟩
    iapply (first c (grid0.coords t0_0) (coords_val t0_0) Set.univ _ (st0_0 t0_0) (hstage0_0 ((cfg0.slots t0_0 0).cast nbuf0_0)) (st0_1 t0_0) (hstage0_1 ((cfg0.slots t0_0 1).cast nbuf0_1))
      (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4))
      (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7))
      scrA (Memref.isWhole_whole _) scrC (Memref.isWhole_whole _)
      f0 f1 f2 f3 f4 f5 f6 f7 f9 f10 (combA V c) (combC V c) (by rw [e1, e3, e4, e5]; rfl) (by rw [e2, e3, e4, e5]; rfl))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    iintro ⟨H0, H1, H2, H3, H4, H5, ⟨%g6, %e6, H6⟩, ⟨%g7, %e7, H7⟩, H9, H10⟩
    isplitl [H9 H10 Hb]
    · isplitl [H9]; · iexact H9
      isplitl [H10]; · iexact H10
      iexact Hb
    isplitl [Howes]; · iexact Howes
    isplitl [H0]; · iexists _; isplitr; swap; (· iexact H0); ipureintro; exact e0
    isplitl [H1]; · iexists _; isplitr; swap; (· iexact H1); ipureintro; exact e1
    isplitl [H2]; · iexists _; isplitr; swap; (· iexact H2); ipureintro; exact e2
    isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6.trans (by rw [e0]; rfl)
    iexists _; isplitr; swap; (· iexact H7); ipureintro; exact e7.trans (by rw [e0]; rfl)
  · rw [show inv V c t.castSucc = keptP V c from if_neg ht]
    show _ ⊢ wp frame (wpE (defs₀ (F := F)) 𝒱₀ c none) Set.univ (bodyAt0 t) _
    iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩,
      ⟨%d6, %f6, -, H6⟩, ⟨%d7, %f7, -, H7⟩⟩
    replace e0 := e0.trans (before0 n V c _ d0)
    replace e1 := e1.trans (before1 n V c _ d1)
    replace e2 := e2.trans (before2 n V c _ d2)
    replace e3 := e3.trans (before3 n V c _ d3)
    replace e4 := e4.trans (before4 n V c _ d4)
    replace e5 := e5.trans (before5 n V c _ d5)
    icases HΦ with ⟨⟨%f9, %e9, H9⟩, ⟨%f10, %e10, H10⟩, Hb⟩
    iapply (later c (grid0.coords t) (fun h => ht ((coords_val t).symm.trans h)) Set.univ _ (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (st0_7 t) (hstage0_7 ((cfg0.slots t 7).cast nbuf0_7))
      scrA (Memref.isWhole_whole _) scrC (Memref.isWhole_whole _)
      f0 f6 f7 f9 f10)
    isplitl [H0]; · iexact H0
    isplitl [H6]; · iexact H6
    isplitl [H7]; · iexact H7
    isplitl [H9]; · iexact H9
    isplitl [H10]; · iexact H10
    iintro ⟨H0, ⟨%g6, %e6, H6⟩, ⟨%g7, %e7, H7⟩, H9, H10⟩
    rw [e9, e10] at e6 e7
    isplitl [H9 H10 Hb]
    · isplitl [H9]; · iexists f9; isplitr; · ipureintro; exact e9
                      iexact H9
      isplitl [H10]; · iexists f10; isplitr; · ipureintro; exact e10
                       iexact H10
      iexact Hb
    isplitl [Howes]; · iexact Howes
    isplitl [H0]; · iexists _; isplitr; swap; (· iexact H0); ipureintro; exact e0
    isplitl [H1]; · iexists _; isplitr; swap; (· iexact H1); ipureintro; exact e1
    isplitl [H2]; · iexists _; isplitr; swap; (· iexact H2); ipureintro; exact e2
    isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6.trans (by rw [e0]; rfl)
    iexists _; isplitr; swap; (· iexact H7); ipureintro; exact e7.trans (by rw [e0]; rfl)

variable (adm : (p : Fin 2) → (pcfgs (F := F) p).Adm)

def pd : (p : Fin 2) → (c : Dev nD) → Dat τ (Elt F) (HIx 1) ℕ UU ℕ (Pipeline.pin (pcfgs (F := F)) adm p) c
  | ⟨0, _⟩ => fun c => dat n V c
  | ⟨1, _⟩ => fun c => junkDat c

/-- What the call leaves in its two results. -/
def outG (c : Dev nD) : Buf (Elt F) ((c : Thread nD τ).loc main_v3_0) := (dat n V c).arrAt 6 cfg0.N
def outV (c : Dev nD) : Buf (Elt F) ((c : Thread nD τ).loc main_v3_1) := (dat n V c).arrAt 7 cfg0.N

variable (Vp : (c : Dev nD) → (b : Ref sig .tc) → Buf (Elt F) ((c : Thread nD τ).loc b))

set_option backward.isDefEq.respectTransparency.types false in
/-- The call's region. -/
def region (hG : ∀ c, Vp c main_v3_0 = outG n V c) (hV : ∀ c, Vp c main_v3_1 = outV n V c)
    (hne : ∀ c (b : Ref sig .tc), b ≠ main_v3_0 → b ≠ main_v3_1 → Vp c b = V c b) :
    Pipeline.RegionSeg (pcfgs (F := F)) adm (pd n V adm) none defs₀ 𝒱₀ (K (F := F)).L (K (F := F)).lev 0 :=
  reg adm 0 (pd n V adm) launch0 n V Vp (fun _ _ => rfl) (fun _ _ => rfl) (body_obligation n V) (fun _ _ => rfl) (fun _ _ => rfl)
    (fun c => Entails.of_eq (show restP c = inv V c 0 from (if_pos rfl).symm))
    (fun c t => inv_rest V c t)
    (fun c w => by
      fin_cases w
      · exact ((dat n V c).arrAt_in 0 rfl _).trans (hne c main_v0 (by decide) (by decide)).symm
      · exact ((dat n V c).arrAt_in 1 rfl _).trans (hne c main_arg3 (by decide) (by decide)).symm
      · exact ((dat n V c).arrAt_in 2 rfl _).trans (hne c main_v1 (by decide) (by decide)).symm
      · exact ((dat n V c).arrAt_in 3 rfl _).trans (hne c main_arg5 (by decide) (by decide)).symm
      · exact ((dat n V c).arrAt_in 4 rfl _).trans (hne c main_v2 (by decide) (by decide)).symm
      · exact ((dat n V c).arrAt_in 5 rfl _).trans (hne c main_arg7 (by decide) (by decide)).symm
      · exact (hG c).symm
      · exact (hV c).symm)
    (fun c b hb => hne c b (fun h => hb (h ▸ Finset.mem_image.mpr ⟨6, Finset.mem_univ _, rfl⟩)) (fun h => hb (h ▸ Finset.mem_image.mpr ⟨7, Finset.mem_univ _, rfl⟩)))

end Cert.Proof.Proj

end
-- ==== Proof.Post.lean ====
/- The second TensorCore call: the finishing kernel's run at a grid point. -/
module

public import proofs.«01_k».proof.Proof.Region
public import proofs.«01_k».proof.Proof.Gen.KernelIdeal.Skeleton
public import proofs.«01_k».proof.Proof.Gen.KernelIdeal.Points
public import proofs.«01_k».proof.Proof.Gen.KernelIdeal
public import Idealize.ShloMosaic.Lib.WritesUnit

@[expose] public section

noncomputable section

namespace Cert.Proof.Post

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The window base of a row, as the body computes it. -/
def wbase (i : grid2.Coords) (t : Fin k2_t1_loop.trips) : BitVec 32 :=
  let v41 : BitVec 32 := Scalar.subi (Scalar.addi (Scalar.muli (BitVec.ofNat 32 (i 0).val) 64#32) (Scf.iv 0#32 1#32 t)) 5#32
  Scalar.minsi 480#32 (Scalar.maxsi 0#32 (Scalar.muli
    (Scalar.select (Scalar.andi
        (Scalar.cmpi .ne (Scalar.subi (Scalar.extui (Scalar.cmpi .sgt v41 0#32) : BitVec 32) (Scalar.extui (Scalar.cmpi .slt v41 0#32)))
          (Scalar.subi (Scalar.extui (Scalar.cmpi .sgt 16#32 0#32) : BitVec 32) (Scalar.extui (Scalar.cmpi .slt 16#32 0#32))))
        (Scalar.cmpi .ne (Scalar.remsi v41 16#32) 0#32))
      (Scalar.subi (Scalar.divsi v41 16#32) 1#32) (Scalar.divsi v41 16#32)) 16#32))

/-- The row of weights that trip `t` stores. -/
def trow (i : grid2.Coords) (x3 : Vec F S16x1 .i32) (x2 : S16x64x32.Idx → Elt F .f32) (t : Fin k2_t1_loop.trips) : FVec F S16x1x256 .f32 :=
  k2_pay1 (wbase i t)
    (k2_pay2 (BitVec.ofNat 32 (i 0).val) (k2_pay3 x3) 0#32 1#32 t
      (View.ld x2 (Rect.unit (s := S16x64x32) (k2_off1 t) S16x1x32.size (k2_off1_inb t))))
    128#32 (Scalar.divsi (wbase i t) 128#32)
    (Scalar.subi (Scalar.extui (Scalar.cmpi .sgt (wbase i t) 0#32) : BitVec 32) (Scalar.extui (Scalar.cmpi .slt (wbase i t) 0#32)))
    (Scalar.extui (Scalar.cmpi .sgt 128#32 0#32))

/-- The block of weights after `k` trips. -/
def acc (i : grid2.Coords) (x3 : Vec F S16x1 .i32) (x2 : S16x64x32.Idx → Elt F .f32) : ℕ → S16x64x512.Idx → Elt F .f32
  | 0 => k2_pay5
  | k + 1 => fun y => if hk : k < k2_t1_loop.trips then
      (if h : ∀ a, k2_off2 i ⟨k, hk⟩ a ≤ (y a).val ∧ (y a).val < k2_off2 i ⟨k, hk⟩ a + S16x1x256.size a then
        trow i x3 x2 ⟨k, hk⟩ (Rect.unitLocal (s := S16x64x512) (off := k2_off2 i ⟨k, hk⟩) (size := S16x1x256.size) y h)
      else acc i x3 x2 k y) else acc i x3 x2 k y

theorem trip (c : Dev nD) (i : grid2.Coords) (E : Set ℕ)
    (M1 : Memref sig .tc .vmem S16x64x32 .f32) (h1 : M1.IsWhole) (M2 : Memref sig .tc .vmem S16x64x32 .f32) (h2 : M2.IsWhole)
    (M3 : Memref sig .tc .vmem S16x1 .i32) (h3 : M3.IsWhole) (M4 : Memref sig .tc .vmem S16x64x29 .f32) (h4 : M4.IsWhole)
    (M5 : Memref sig .tc .vmem S16x64x512 .f32) (h5 : M5.IsWhole) (x3 : Vec F S16x1 .i32) (f2 : Bf F c M2)
    (t : Fin k2_t1_loop.trips) (u : PUnit) :
    iprop(pt c M2 f2 ∗ holds c M5 (acc i x3 (rd c M2 f2) t.val))
      ⊢ wp frame (wpE (defs₀ (F := F)) Variants.none c none) E
          (k2_t1_body (F := F) i M1 h1 M2 h2 M3 h3 M4 h4 M5 h5 (BitVec.ofNat 32 (i 0).val) (k2_pay3 x3) t u)
          (fun _ => iprop(pt c M2 f2 ∗ holds c M5 (acc i x3 (rd c M2 f2) (t.val + 1)))) := by
  unfold k2_t1_body
  rw [k2_part1_eq_skeleton]
  unfold k2_part1_skel
  iintro ⟨H2, ⟨%f5, %e5, H5⟩⟩
  sl_exec
  sl_step
  isplitl [H2]; · iexact H2
  iexists _; isplitr; swap; (· iexact H5); ipureintro
  funext y
  refine (View.read_writes_cons_unit (off' := k2_off2 i t) M5.view f5 _ _ _ y rfl).trans ?_
  unfold acc
  rw [dif_pos t.isLt]
  by_cases h : ∀ a, k2_off2 i t a ≤ (y a).val ∧ (y a).val < k2_off2 i t a + S16x1x256.size a
  · rw [dif_pos h]
    refine Eq.trans ?_ (dif_pos h).symm
    rfl
  · rw [dif_neg h]
    refine Eq.trans ?_ (dif_neg h).symm
    exact congrFun e5 y

/-- The body at a grid point. -/
theorem run (c : Dev nD) (i : grid2.Coords) (E : Set ℕ) (Q : PUnit → sProp (MM F))
    (M1 : Memref sig .tc .vmem S16x64x32 .f32) (h1 : M1.IsWhole) (M2 : Memref sig .tc .vmem S16x64x32 .f32) (h2 : M2.IsWhole)
    (M3 : Memref sig .tc .vmem S16x1 .i32) (h3 : M3.IsWhole) (M4 : Memref sig .tc .vmem S16x64x29 .f32) (h4 : M4.IsWhole)
    (M5 : Memref sig .tc .vmem S16x64x512 .f32) (h5 : M5.IsWhole)
    (f1 : Bf F c M1) (f2 : Bf F c M2) (f3 : Bf F c M3) (f4 : Bf F c M4) (f5 : Bf F c M5) :
    iprop(pt c M1 f1 ∗ pt c M2 f2 ∗ pt c M3 f3 ∗ pt c M4 f4 ∗ pt c M5 f5
      ∗ (iprop(pt c M1 f1 ∗ pt c M2 f2 ∗ pt c M3 f3 ∗ holds c M4 (k2_pay4 i (rd c M1 f1) (rd c M3 f3))
          ∗ holds c M5 (acc i (rd c M3 f3) (rd c M2 f2) k2_t1_loop.trips)) -∗ Q ⟨⟩))
      ⊢ wp frame (wpE (defs₀ (F := F)) Variants.none c none) E (cc2__post_kernel i M1 h1 M2 h2 M3 h3 M4 h4 M5 h5) Q := by
  rw [cc2__post_kernel_eq_skeleton]
  unfold cc2__post_kernel_skel
  rw [k2_part2_eq_skeleton]
  unfold k2_part2_skel
  iintro ⟨H1, H2, H3, H4, H5, Hk⟩
  sl_exec
  rw [readAt_unit (F := F) M3.view f3 _ (by decide)]
  iapply (Scf.wp_for_bind Idealize.ShloMosaic.frame (wpE (defs₀ (F := F)) Variants.none c none) E _ _ _ k2_t1_ok PUnit.unit _
    (fun n _ => iprop(pt c M2 f2 ∗ holds c M5 (acc i (rd c M3 f3) (rd c M2 f2) n)))
    (fun t u => trip c i E M1 h1 M2 h2 M3 h3 M4 h4 M5 h5 (rd c M3 f3) f2 t u)) $$ [H2 H5]
  · isplitl [H2]; · iexact H2
    iexists _; isplitr; swap; (· iexact H5); ipureintro
    exact read_writes_unit (F := F) _ _ _ _ (by decide)
  iintro %u ⟨H2, H5⟩
  sl_step
  iapply Hk
  isplitl [H1]; · iexact H1
  isplitl [H2]; · iexact H2
  isplitl [H3]; · iexact H3
  isplitl [H4]
  · iexists _; isplitr; swap; (· iexact H4); ipureintro
    refine (read_writes_unit (F := F) _ _ _ _ (by decide)).trans ?_
    rw [readAt_unit (F := F) M3.view f3 _ (by decide), readAt_unit (F := F) M1.view f1 _ (by decide)]
  iexact H5

/-! ## The proof data, at an entry valuation -/

variable (n : ℕ) (V : (c : Dev nD) → (b : Ref sig .tc) → Buf (Elt F) ((c : Thread nD τ).loc b))

/-- The windows' blocks of their arrays at point `t`. -/
abbrev blk0 (c : Dev nD) (t : Fin cfg2.N) : S16x64x32.Idx → Elt F .f32 := ((cfg2.win 0).blk t).view.read (Elt F) (V c (Pipeline.arrRef spec2 0))
abbrev blk1 (c : Dev nD) (t : Fin cfg2.N) : S16x64x32.Idx → Elt F .f32 := ((cfg2.win 1).blk t).view.read (Elt F) (V c (Pipeline.arrRef spec2 1))
abbrev blk2 (c : Dev nD) (t : Fin cfg2.N) : S16x1.Idx → Elt F .i32 := ((cfg2.win 2).blk t).view.read (Elt F) (V c (Pipeline.arrRef spec2 2))

abbrev restP (c : Dev nD) : sProp (MM F) := Pipeline.scopedRest (Ix := HIx 1) (Name := ℕ) (U := UU) (Lvl := ℕ) (Val := Elt F) spec2 c

def dat (c : Dev nD) : Dat τ (Elt F) (HIx 1) ℕ UU ℕ cfg2 c where
  A w := V c (Pipeline.arrRef spec2 w)
  after w t := match w with
    | ⟨0, _⟩ => blk0 V c t
    | ⟨1, _⟩ => blk1 V c t
    | ⟨2, _⟩ => blk2 V c t
    | ⟨3, _⟩ => k2_pay4 (grid2.coords t) (blk0 V c t) (blk2 V c t)
    | ⟨4, _⟩ => acc (grid2.coords t) (blk2 V c t) (blk1 V c t) k2_t1_loop.trips
  Φ _ := restP c
  q _ := fullShare
  owed _ := (K (F := F)).Otc c n
  recorded _ := {x | (K (F := F)).lev (T c, x.1) x.2 ≤ 8 * n}

theorem before0 (c : Dev nD) (t : Fin cfg2.N) (d) : (dat n V c).before 0 t d = blk0 V c t :=
  (dat n V c).before_in_eq_fetched 0 rfl (fun _ => rfl) (fun _ _ _ => rfl) (fun _ => rfl) t d
theorem before1 (c : Dev nD) (t : Fin cfg2.N) (d) : (dat n V c).before 1 t d = blk1 V c t :=
  (dat n V c).before_in_eq_fetched 1 rfl (fun _ => rfl) (fun _ _ _ => rfl) (fun _ => rfl) t d
theorem before2 (c : Dev nD) (t : Fin cfg2.N) (d) : (dat n V c).before 2 t d = blk2 V c t :=
  (dat n V c).before_in_eq_fetched 2 rfl (fun _ => rfl) (fun _ _ _ => rfl) (fun _ => rfl) t d

theorem phi_rest (c : Dev nD) (t : Fin (cfg2.N + 1)) : (dat n V c).Φ t ⊢ restP c := by
  show restP c ⊢ restP c
  exact .rfl
theorem rest_phi (c : Dev nD) : (restP c ⊢ (dat n V c).Φ 0) ∧ True := by
  refine ⟨?_, trivial⟩
  show restP c ⊢ restP c
  exact .rfl

theorem body_obligation (c : Dev nD) : BodyObligation (dat n V c) (defs₀ (F := F)) 𝒱₀ none Set.univ := fun t => by
  rw [bigSep_W2, bigSep_W2]
  simp only [owns_holds (F := F) c (stage2_0 (cfg2.slots t 0)) (hstage2_0 ((cfg2.slots t 0).cast nbuf2_0)),
    owns_holds (F := F) c (stage2_1 (cfg2.slots t 1)) (hstage2_1 ((cfg2.slots t 1).cast nbuf2_1)),
    owns_holds (F := F) c (stage2_2 (cfg2.slots t 2)) (hstage2_2 ((cfg2.slots t 2).cast nbuf2_2)),
    owns_holds (F := F) c (stage2_3 (cfg2.slots t 3)) (hstage2_3 ((cfg2.slots t 3).cast nbuf2_3)),
    owns_holds (F := F) c (stage2_4 (cfg2.slots t 4)) (hstage2_4 ((cfg2.slots t 4).cast nbuf2_4))]
  rw [show (dat n V c).Φ t.castSucc = restP c from rfl, show (dat n V c).Φ t.succ = restP c from rfl,
    show (dat n V c).owesAt none t.succ = (dat n V c).owesAt none t.castSucc from rfl]
  show _ ⊢ wp frame (wpE (defs₀ (F := F)) 𝒱₀ c none) Set.univ (bodyAt2 t) _
  iintro ⟨HΦ, Howes, ⟨%d0, %f0, %e0, H0⟩, ⟨%d1, %f1, %e1, H1⟩, ⟨%d2, %f2, %e2, H2⟩, ⟨%d3, %f3, -, H3⟩, ⟨%d4, %f4, -, H4⟩⟩
  replace e0 := e0.trans (before0 n V c _ d0)
  replace e1 := e1.trans (before1 n V c _ d1)
  replace e2 := e2.trans (before2 n V c _ d2)
  iapply (run c (grid2.coords t) Set.univ _ (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4))
    f0 f1 f2 f3 f4)
  isplitl [H0]; · iexact H0
  isplitl [H1]; · iexact H1
  isplitl [H2]; · iexact H2
  isplitl [H3]; · iexact H3
  isplitl [H4]; · iexact H4
  iintro ⟨H0, H1, H2, ⟨%g3, %e3, H3⟩, ⟨%g4, %e4, H4⟩⟩
  isplitl [HΦ]; · iexact HΦ
  isplitl [Howes]; · iexact Howes
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3.trans (by rw [e0, e2]; rfl)
  iexists _; isplitr; swap; (· iexact H4); ipureintro; exact e4.trans (by rw [e1, e2]; rfl)

variable (adm : (p : Fin 2) → (pcfgs (F := F) p).Adm)

def pd : (p : Fin 2) → (c : Dev nD) → Dat τ (Elt F) (HIx 1) ℕ UU ℕ (Pipeline.pin (pcfgs (F := F)) adm p) c
  | ⟨0, _⟩ => fun c => junkDat c
  | ⟨1, _⟩ => fun c => dat n V c

/-- What the call leaves in its two results. -/
def outL (c : Dev nD) : Buf (Elt F) ((c : Thread nD τ).loc main_v12_0) := (dat n V c).arrAt 3 cfg2.N
def outT (c : Dev nD) : Buf (Elt F) ((c : Thread nD τ).loc main_v12_1) := (dat n V c).arrAt 4 cfg2.N

variable (Vp : (c : Dev nD) → (b : Ref sig .tc) → Buf (Elt F) ((c : Thread nD τ).loc b))

set_option backward.isDefEq.respectTransparency.types false in
/-- The call's region. -/
def region (hL : ∀ c, Vp c main_v12_0 = outL n V c) (hT : ∀ c, Vp c main_v12_1 = outT n V c)
    (hne : ∀ c (b : Ref sig .tc), b ≠ main_v12_0 → b ≠ main_v12_1 → Vp c b = V c b) :
    Pipeline.RegionSeg (pcfgs (F := F)) adm (pd n V adm) none defs₀ 𝒱₀ (K (F := F)).L (K (F := F)).lev 1 :=
  reg adm 1 (pd n V adm) launch2 n V Vp (fun _ _ => rfl) (fun _ _ => rfl) (body_obligation n V) (fun _ _ => rfl) (fun _ _ => rfl)
    (fun c => (rest_phi n V c).1)
    (fun c t => (phi_rest n V c t))
    (fun c w => by
      fin_cases w
      · exact ((dat n V c).arrAt_in 0 rfl _).trans (hne c main_v10 (by decide) (by decide)).symm
      · exact ((dat n V c).arrAt_in 1 rfl _).trans (hne c main_v11 (by decide) (by decide)).symm
      · exact ((dat n V c).arrAt_in 2 rfl _).trans (hne c main_v9 (by decide) (by decide)).symm
      · exact (hL c).symm
      · exact (hT c).symm)
    (fun c b hb => hne c b (fun h => hb (h ▸ Finset.mem_image.mpr ⟨3, Finset.mem_univ _, rfl⟩)) (fun h => hb (h ▸ Finset.mem_image.mpr ⟨4, Finset.mem_univ _, rfl⟩)))

end Cert.Proof.Post

end
-- ==== Proof.Run.lean ====
/- The program's run: the host operations, the first TensorCore call, the SparseCore call, the second TensorCore call. -/
module

public import proofs.«01_k».proof.Proof.Deal
public import proofs.«01_k».proof.Proof.Proj
public import proofs.«01_k».proof.Proof.Post
public import Idealize.ShloMosaic.Lib.Pipeline.RegionArrays

@[expose] public section

noncomputable section

namespace Cert.Proof

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.ShloMosaic.StableHlo (held held_split held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

/-! ## The arrays' contents along the program -/

abbrev op0 : HloOp τ sig (Elt F) := StableHlo.reshape main_arg0 main_v0 (rfl : (.f32 : EltTy) = .f32) shapeCasts_S16x512x2048_S8192x2048
abbrev op1 : HloOp τ sig (Elt F) := StableHlo.reshape main_arg4 main_v1 (rfl : (.f32 : EltTy) = .f32) shapeCasts_S768_S1x768
abbrev op2 : HloOp τ sig (Elt F) := StableHlo.reshape main_arg6 main_v2 (rfl : (.f32 : EltTy) = .f32) shapeCasts_S768_S1x768
abbrev op4 : HloOp τ sig (Elt F) := StableHlo.reshape main_arg1 main_v4 (rfl : (.i32 : EltTy) = .i32) shapeCasts_S16_S16x1
abbrev op5 : HloOp τ sig (Elt F) := StableHlo.unary main_v4 main_v5 (broadcastInDim S16x16 ![0, 1] bcast_S16x1_S16x16_0_1 : (⟨S16x1, .i32⟩ : BufTy).Contents (Elt F) → (⟨S16x16, .i32⟩ : BufTy).Contents (Elt F))
abbrev opc : HloOp τ sig (Elt F) := StableHlo.nullary main_cst (constant S_ .f32 0x00000000#32)
abbrev op6 : HloOp τ sig (Elt F) := StableHlo.unary main_cst main_v6 (broadcastInDim S3 ![] bcast_S_S3 : (⟨S_, .f32⟩ : BufTy).Contents (Elt F) → (⟨S3, .f32⟩ : BufTy).Contents (Elt F))
abbrev op7 : HloOp τ sig (Elt F) := StableHlo.binary main_arg8 main_v6 main_v7 ((fun a b => concatenate S32 0 [⟨S29, a⟩, ⟨S3, b⟩] concatenates_S29_S3_S32_d0) : (⟨S29, .f32⟩ : BufTy).Contents (Elt F) → (⟨S3, .f32⟩ : BufTy).Contents (Elt F) → (⟨S32, .f32⟩ : BufTy).Contents (Elt F))
abbrev op9 : HloOp τ sig (Elt F) := StableHlo.reshape main_arg1 main_v9 (rfl : (.i32 : EltTy) = .i32) shapeCasts_S16_S16x1
abbrev op10 : HloOp τ sig (Elt F) := StableHlo.reshape main_v8_0 main_v10 (rfl : (.f32 : EltTy) = .f32) shapeCasts_S8192x32_S16x512x32
abbrev op11 : HloOp τ sig (Elt F) := StableHlo.reshape main_v8_1 main_v11 (rfl : (.f32 : EltTy) = .f32) shapeCasts_S8192x32_S16x512x32

abbrev adm : (p : Fin 2) → (pcfgs (F := F) p).Adm := fun p => (cfgs p).toPCfg_adm

variable (m : (ℓ : Loc nD τ sig) → Buf (Elt F) ℓ) (ρ : Dev nD → PrngReg)

/-- A valuation read at a core's references. -/
abbrev at_ (W : Dev nD → Valuation τ sig (Elt F)) : (c : Dev nD) → (b : Ref sig .tc) → Buf (Elt F) ((c : Thread nD τ).loc b) := fun c b => W c b

def W0 (d : Dev nD) : Valuation τ sig (Elt F) := fun b => m ⟨d, b⟩
def W1 (d : Dev nD) : Valuation τ sig (Elt F) := (op2 (F := F)).result ((op1 (F := F)).result ((op0 (F := F)).result (W0 m d)))
def W2 (d : Dev nD) : Valuation τ sig (Elt F) :=
  Function.update (Function.update (W1 m d) (main_v3_0 : DevRef τ sig) (Proj.outG 0 (at_ (W1 m)) d)) (main_v3_1 : DevRef τ sig) (Proj.outV 0 (at_ (W1 m)) d)
def W3 (d : Dev nD) : Valuation τ sig (Elt F) :=
  (op7 (F := F)).result ((op6 (F := F)).result ((opc (F := F)).result ((op5 (F := F)).result ((op4 (F := F)).result (W2 m d)))))
def arrs (d : Dev nD) : Arrs F := ⟨W3 m d (main_v3_0 : DevRef τ sig), W3 m d (main_v3_1 : DevRef τ sig), W3 m d (main_v5 : DevRef τ sig), W3 m d (main_v7 : DevRef τ sig)⟩
def W4 (d : Dev nD) : Valuation τ sig (Elt F) :=
  Function.update (Function.update (W3 m d) (main_v8_0 : DevRef τ sig) (outO (arrs m d))) (main_v8_1 : DevRef τ sig) (outW (arrs m d))
def W5 (d : Dev nD) : Valuation τ sig (Elt F) := (op11 (F := F)).result ((op10 (F := F)).result ((op9 (F := F)).result (W4 m d)))
def W6 (d : Dev nD) : Valuation τ sig (Elt F) :=
  Function.update (Function.update (W5 m d) (main_v12_0 : DevRef τ sig) (Post.outL 1 (at_ (W5 m)) d)) (main_v12_1 : DevRef τ sig) (Post.outT 1 (at_ (W5 m)) d)

theorem unscopedBufs_held (c : Dev nD) (W : Valuation τ sig (Elt F)) :
    (unscopedBufs c (fun b => W b) : sProp (MM F)) = held (c : Thread nD τ) (ucRefs τ sig) W := by
  unfold unscopedBufs StableHlo.held ucRefs StableHlo.tcRefs
  rw [Finset.filter_map, bigSep_map]
  rfl

theorem ne_dev {a b : Ref sig .tc} (h : a ≠ b) : (a : DevRef τ sig) ≠ (b : DevRef τ sig) := fun e => h (Proc.devRef_injective _ e)

theorem W2_ne (c : Dev nD) (b : Ref sig .tc) (h0 : b ≠ main_v3_0) (h1 : b ≠ main_v3_1) : at_ (W2 m) c b = at_ (W1 m) c b := by
  show W2 m c b = W1 m c b
  unfold W2
  rw [Function.update_of_ne (ne_dev h1), Function.update_of_ne (ne_dev h0)]
theorem W6_ne (c : Dev nD) (b : Ref sig .tc) (h0 : b ≠ main_v12_0) (h1 : b ≠ main_v12_1) : at_ (W6 m) c b = at_ (W5 m) c b := by
  show W6 m c b = W5 m c b
  unfold W6
  rw [Function.update_of_ne (ne_dev h1), Function.update_of_ne (ne_dev h0)]
theorem W2_G (c : Dev nD) : at_ (W2 m) c main_v3_0 = Proj.outG 0 (at_ (W1 m)) c := by
  show W2 m c (main_v3_0 : DevRef τ sig) = _
  unfold W2
  rw [Function.update_of_ne (ne_dev (by decide)), Function.update_self]
theorem W2_V (c : Dev nD) : at_ (W2 m) c main_v3_1 = Proj.outV 0 (at_ (W1 m)) c := by
  show W2 m c (main_v3_1 : DevRef τ sig) = _
  unfold W2
  rw [Function.update_self]
theorem W6_L (c : Dev nD) : at_ (W6 m) c main_v12_0 = Post.outL 1 (at_ (W5 m)) c := by
  show W6 m c (main_v12_0 : DevRef τ sig) = _
  unfold W6
  rw [Function.update_of_ne (ne_dev (by decide)), Function.update_self]
theorem W6_T (c : Dev nD) : at_ (W6 m) c main_v12_1 = Post.outT 1 (at_ (W5 m)) c := by
  show W6 m c (main_v12_1 : DevRef τ sig) = _
  unfold W6
  rw [Function.update_self]

/-- The six arrays of the SparseCore call. -/
def S6 : Finset (DevRef τ sig) := {(main_v3_0 : DevRef τ sig), (main_v3_1 : DevRef τ sig), (main_v5 : DevRef τ sig), (main_v7 : DevRef τ sig), (main_v8_0 : DevRef τ sig), (main_v8_1 : DevRef τ sig)}

theorem S6_sub : S6 ⊆ ucRefs τ sig := by decide

theorem held_S6 (d : Dev nD) (W : Valuation τ sig (Elt F)) : (held (T d) S6 W : sProp (MM F)) =
    iprop((gLoc d ↦{fullShare} W (main_v3_0 : DevRef τ sig)) ∗ (vLoc d ↦{fullShare} W (main_v3_1 : DevRef τ sig)) ∗ (lLoc d ↦{fullShare} W (main_v5 : DevRef τ sig))
      ∗ (bLoc d ↦{fullShare} W (main_v7 : DevRef τ sig)) ∗ (oLoc d ↦{fullShare} W (main_v8_0 : DevRef τ sig)) ∗ (wLoc d ↦{fullShare} W (main_v8_1 : DevRef τ sig))) := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem held_rest (d : Dev nD) : (held (T d) (ucRefs τ sig \ S6) (W4 m d) : sProp (MM F)) = held (T d) (ucRefs τ sig \ S6) (W3 m d) := by
  unfold held
  refine bigSep_congr fun b hb => ?_
  have hb' := (Finset.mem_sdiff.mp hb).2
  have h0 : b ≠ (main_v8_0 : DevRef τ sig) := fun e => hb' (e ▸ (by decide))
  have h1 : b ≠ (main_v8_1 : DevRef τ sig) := fun e => hb' (e ▸ (by decide))
  rw [show W4 m d b = W3 m d b from by unfold W4; rw [Function.update_of_ne h1, Function.update_of_ne h0]]

theorem W3_o (d : Dev nD) : W3 m d (main_v8_0 : DevRef τ sig) = m (oLoc d) := by
  show _ = W0 m d (main_v8_0 : DevRef τ sig)
  unfold W3 W2 W1
  after_results_simp
  rw [Function.update_of_ne (ne_dev (by decide)), Function.update_of_ne (ne_dev (by decide))]
  after_results_simp
theorem W3_w (d : Dev nD) : W3 m d (main_v8_1 : DevRef τ sig) = m (wLoc d) := by
  show _ = W0 m d (main_v8_1 : DevRef τ sig)
  unfold W3 W2 W1
  after_results_simp
  rw [Function.update_of_ne (ne_dev (by decide)), Function.update_of_ne (ne_dev (by decide))]
  after_results_simp

theorem start_of_held (d : Dev nD) : (held (T d) S6 (W3 m d) : sProp (MM F)) ⊢ stP m (arrs m) d 0 := by
  rw [held_S6, W3_o, W3_w]
  show _ ⊢ iprop(opPts (arrs m) d ∗ resPts d (m (oLoc d)) (m (wLoc d)))
  iintro ⟨H1, H2, H3, H4, H5, H6⟩
  isplitl [H1 H2 H3 H4]
  · isplitl [H1]; · iexact H1
    isplitl [H2]; · iexact H2
    isplitl [H3]; · iexact H3
    iexact H4
  isplitl [H5]; · iexact H5
  iexact H6

theorem W4_ne (d : Dev nD) (b : Ref sig .tc) (h0 : b ≠ main_v8_0) (h1 : b ≠ main_v8_1) : W4 m d b = W3 m d b := by
  unfold W4
  rw [Function.update_of_ne (ne_dev h1), Function.update_of_ne (ne_dev h0)]
theorem W4_o (d : Dev nD) : W4 m d (main_v8_0 : DevRef τ sig) = outO (arrs m d) := by
  unfold W4
  rw [Function.update_of_ne (ne_dev (by decide)), Function.update_self]
theorem W4_w (d : Dev nD) : W4 m d (main_v8_1 : DevRef τ sig) = outW (arrs m d) := by
  unfold W4
  rw [Function.update_self]

theorem held_of_done (d : Dev nD) : dnP (arrs m) d 0 ⊢ (held (T d) S6 (W4 m d) : sProp (MM F)) := by
  rw [held_S6, W4_o, W4_w, W4_ne m d main_v3_0 (by decide) (by decide), W4_ne m d main_v3_1 (by decide) (by decide),
    W4_ne m d main_v5 (by decide) (by decide), W4_ne m d main_v7 (by decide) (by decide)]
  show iprop(opPts (arrs m) d ∗ resPts d (outO (arrs m d)) (outW (arrs m d))) ⊢ _
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

/-! ## The two TensorCore calls -/

abbrev ghostP (p : Fin 2) (d : Dev nD) : sProp (MM F) := iprop(Pipeline.cellsGhost cfgs EP p d ∗ Pipeline.toksInit cfgs EP p d)

theorem wp_region [∀ e, Nonempty (Elt F e)] {p : Fin 2} {pd : (p : Fin 2) → (c : Dev nD) → Pipeline.Dat τ (Elt F) (HIx 1) ℕ UU ℕ (Pipeline.pin (pcfgs (F := F)) adm p) c}
    (R : Pipeline.RegionSeg (pcfgs (F := F)) adm pd none defs₀ 𝒱₀ (K (F := F)).L (K (F := F)).lev p) (d : Dev nD) (Q : PUnit → sProp (MM F)) :
    iprop((iprop(boundary (T d) ∗ R.post d) -∗ Q ⟨⟩) ∗ boundary (T d) ∗ R.pre d ∗ levAts (K (F := F)).L (K (F := F)).lev ∗ ghostP p d)
      ⊢ wp frame (wpE ((K (F := F)).defs (D (F := F))) 𝒱 (T d) none) Set.univ (Prog.lift (.customCall (SparseCore.inner (Pipeline.entry p)) ())) Q := by
  have h := Pipeline.RegionSeg.wp (pcfgs (F := F)) adm pd none cellOf_inj EP defs₀ 𝒱₀ (K (F := F)).L (K (F := F)).lev R d none (by simp) .ret Q
  refine BIBase.Entails.trans ?_ (h.trans ((K (F := F)).wp_liftProg (D (F := F)) 𝒱 (T d) Set.univ none _ Q))
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

theorem wp_proj [∀ e, Nonempty (Elt F e)] (d : Dev nD) (Q : PUnit → sProp (MM F)) :
    iprop((iprop(boundary (SparseCore.T d) ∗ unscopedBufs d (fun b => W2 m d b) ∗ owesN d 0) -∗ Q ⟨⟩)
        ∗ boundary (SparseCore.T d) ∗ (unscopedBufs d (fun b => W1 m d b) ∗ owesN d 0) ∗ levAts (K (F := F)).L (K (F := F)).lev ∗ ghostP 0 d)
      ⊢ wp frame (wpE ((K (F := F)).defs (D (F := F))) 𝒱 (SparseCore.T d) none) Set.univ (Prog.lift (.customCall (SparseCore.inner (Pipeline.entry 0)) ())) Q :=
  wp_region (Proj.region 0 (at_ (W1 m)) adm (at_ (W2 m)) (W2_G m) (W2_V m) (W2_ne m)) d Q

theorem wp_post [∀ e, Nonempty (Elt F e)] (d : Dev nD) (Q : PUnit → sProp (MM F)) :
    iprop((iprop(boundary (SparseCore.T d) ∗ unscopedBufs d (fun b => W6 m d b) ∗ owesN d 1) -∗ Q ⟨⟩)
        ∗ boundary (SparseCore.T d) ∗ (unscopedBufs d (fun b => W5 m d b) ∗ owesN d 1) ∗ levAts (K (F := F)).L (K (F := F)).lev ∗ ghostP 1 d)
      ⊢ wp frame (wpE ((K (F := F)).defs (D (F := F))) 𝒱 (SparseCore.T d) none) Set.univ (Prog.lift (.customCall (SparseCore.inner (Pipeline.entry 1)) ())) Q :=
  wp_region (Post.region 1 (at_ (W5 m)) adm (at_ (W6 m)) (W6_L m) (W6_T m) (W6_ne m)) d Q

/-! ## The launch state -/

def u₀ : UU := (initOf (K (F := F)).hsCells (K (F := F)).hsToks, (initOf (Pipeline.cells cfgs cellOf_inj) (Pipeline.launchToks cfgs cellOf_inj), 1))

abbrev G (d : Dev nD) : sProp (MM F) := iprop(ghostP 0 d ∗ ghostP 1 d)

theorem ghost_split : iprop((bigSep Finset.univ fun c : Dev nD => bigSep Finset.univ fun p => Pipeline.cellsGhost cfgs EP p c)
          ∗ (bigSep Finset.univ fun c : Dev nD => bigSep Finset.univ fun p => (Pipeline.toksInit cfgs EP p c : sProp (MM F)))) ⊢ bigSep Finset.univ (G (F := F)) := by
  rw [← bigSep_sep']
  refine Entails.of_eq (bigSep_congr fun c _ => ?_)
  rw [← bigSep_sep', show (Finset.univ : Finset (Fin 2)) = {0, 1} by decide, SparseCore.bigSep_insert' (by decide), bigSep_singleton]

theorem own_EP (x : UP) : (BI.own (((Emb.inl : Emb UP (UP × Counters)).trans (embR : Emb (UP × Counters) (MM F))) x) : sProp (MM F)) ⊢ BI.own (EP x) := Entails.of_eq rfl

theorem hu₀ : (ownU (u₀ (F := F)) : sProp (MM F))
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m (arrs m)).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb _ (initOf (Pipeline.cells cfgs cellOf_inj) (Pipeline.launchToks cfgs cellOf_inj) : UP) (1 : Counters)) $$ HR
  icases H with ⟨HP, -⟩
  ihave HP := (own_EP (F := F) _) $$ HP
  imod (Pipeline.fund_ghost cfgs (EP (F := F)) cellOf_inj) $$ HP with HG
  imodintro
  isplitl [HH]; · iexact HH
  isplitl [HG]; · iapply ghost_split; iexact HG
  rw [show (bigSep Finset.univ fun thr : Thread nD τ => bigSep Finset.univ fun q : Fin 1 => (P m (arrs m)).x q thr) = bigSep Finset.univ fun _ => iprop(emp) from
    bigSep_congr fun _ _ => bigSep_univ_of_subsingleton (0 : Fin 1), bigSep_emp']
  iempintro

/-! ## @main on the TensorCore -/

abbrev FIN (d : Dev nD) : sProp (MM F) := held (SparseCore.T d) (ucRefs τ sig) (W6 m d)

theorem unscoped_start (d : Dev nD) : (unscopedBufs d (fun b => m ((SparseCore.T d).loc b)) : sProp (MM F)) = held (SparseCore.T d) (ucRefs τ sig) (W0 m d) :=
  (congrArg (fun f => unscopedBufs d f) (funext fun b => rfl)).trans (unscopedBufs_held d (W0 m d))

theorem bufs_op0 : (op0 (F := F)).bufs ⊆ ucRefs τ sig := show ({(main_arg0 : DevRef τ sig), (main_v0 : DevRef τ sig)} : Finset (DevRef τ sig)) ⊆ ucRefs τ sig by decide
theorem bufs_op1 : (op1 (F := F)).bufs ⊆ ucRefs τ sig := show ({(main_arg4 : DevRef τ sig), (main_v1 : DevRef τ sig)} : Finset (DevRef τ sig)) ⊆ ucRefs τ sig by decide
theorem bufs_op2 : (op2 (F := F)).bufs ⊆ ucRefs τ sig := show ({(main_arg6 : DevRef τ sig), (main_v2 : DevRef τ sig)} : Finset (DevRef τ sig)) ⊆ ucRefs τ sig by decide
theorem bufs_op4 : (op4 (F := F)).bufs ⊆ ucRefs τ sig := show ({(main_arg1 : DevRef τ sig), (main_v4 : DevRef τ sig)} : Finset (DevRef τ sig)) ⊆ ucRefs τ sig by decide
theorem bufs_op5 : (op5 (F := F)).bufs ⊆ ucRefs τ sig := show ({(main_v4 : DevRef τ sig), (main_v5 : DevRef τ sig)} : Finset (DevRef τ sig)) ⊆ ucRefs τ sig by decide
theorem bufs_opc : (opc (F := F)).bufs ⊆ ucRefs τ sig := show ({(main_cst : DevRef τ sig)} : Finset (DevRef τ sig)) ⊆ ucRefs τ sig by decide
theorem bufs_op6 : (op6 (F := F)).bufs ⊆ ucRefs τ sig := show ({(main_cst : DevRef τ sig), (main_v6 : DevRef τ sig)} : Finset (DevRef τ sig)) ⊆ ucRefs τ sig by decide
theorem bufs_op7 : (op7 (F := F)).bufs ⊆ ucRefs τ sig := show ({(main_arg8 : DevRef τ sig), (main_v6 : DevRef τ sig), (main_v7 : DevRef τ sig)} : Finset (DevRef τ sig)) ⊆ ucRefs τ sig by decide
theorem bufs_op9 : (op9 (F := F)).bufs ⊆ ucRefs τ sig := show ({(main_arg1 : DevRef τ sig), (main_v9 : DevRef τ sig)} : Finset (DevRef τ sig)) ⊆ ucRefs τ sig by decide
theorem bufs_op10 : (op10 (F := F)).bufs ⊆ ucRefs τ sig := show ({(main_v8_0 : DevRef τ sig), (main_v10 : DevRef τ sig)} : Finset (DevRef τ sig)) ⊆ ucRefs τ sig by decide
theorem bufs_op11 : (op11 (F := F)).bufs ⊆ ucRefs τ sig := show ({(main_v8_1 : DevRef τ sig), (main_v11 : DevRef τ sig)} : Finset (DevRef τ sig)) ⊆ ucRefs τ sig by decide

theorem held_W1 (d : Dev nD) : (held (SparseCore.T d) (ucRefs τ sig) ((op2 (F := F)).result ((op1 (F := F)).result ((op0 (F := F)).result (W0 m d)))) : sProp (MM F)) = unscopedBufs d (fun b => W1 m d b) :=
  (unscopedBufs_held d (W1 m d)).symm
theorem held_W3 (d : Dev nD) : (held (SparseCore.T d) (ucRefs τ sig) ((op7 (F := F)).result ((op6 (F := F)).result ((opc (F := F)).result ((op5 (F := F)).result ((op4 (F := F)).result (W2 m d)))))) : sProp (MM F))
    = iprop(held (SparseCore.T d) S6 (W3 m d) ∗ held (SparseCore.T d) (ucRefs τ sig \ S6) (W3 m d)) :=
  held_sub_split (SparseCore.T d) S6_sub (W3 m d)
theorem held_W5 (d : Dev nD) : (held (SparseCore.T d) (ucRefs τ sig) ((op11 (F := F)).result ((op10 (F := F)).result ((op9 (F := F)).result (W4 m d)))) : sProp (MM F)) = unscopedBufs d (fun b => W5 m d b) :=
  (unscopedBufs_held d (W5 m d)).symm

theorem hmain [∀ e, Nonempty (Elt F e)] (κ : GSem nD τ sig → ℕ) (d : Dev nD) :
    iprop((K (F := F)).ctx EH (P m (arrs m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_start]
  simp only [main, wp_bind, wp_pure]
  iintro ⟨#Hctx, Hst, ⟨Hb, Hheld, Hts, -⟩, ⟨HG0, HG1⟩⟩
  ihave #Hlev := (SparseCore.Cfg.ctx_levAts κ) $$ Hctx
  iapply (wp_hlo_within 𝒱 (SparseCore.T d) none Set.univ (op := op0) (S := ucRefs τ sig) bufs_op0 (V := (W0 m d))) $$ [Hb Hheld]
  · isplitl [Hb] <;> iassumption
  iintro ⟨Hb, Hheld⟩
  rw [wp_ret]; imodintro
  iapply (wp_hlo_within 𝒱 (SparseCore.T d) none Set.univ (op := op1) (S := ucRefs τ sig) bufs_op1 (V := ((op0 (F := F)).result (W0 m d)))) $$ [Hb Hheld]
  · isplitl [Hb] <;> iassumption
  iintro ⟨Hb, Hheld⟩
  rw [wp_ret]; imodintro
  iapply (wp_hlo_within 𝒱 (SparseCore.T d) none Set.univ (op := op2) (S := ucRefs τ sig) bufs_op2 (V := ((op1 (F := F)).result ((op0 (F := F)).result (W0 m d))))) $$ [Hb Hheld]
  · isplitl [Hb] <;> iassumption
  iintro ⟨Hb, Hheld⟩
  rw [wp_ret]; imodintro
  -- the first TensorCore call
  ihave Hub := (Entails.of_eq (held_W1 m d)) $$ Hheld
  unfold SparseCore.Cfg.tcSt
  icases Hst with ⟨HO, Hst⟩
  iapply (wp_proj m d)
  isplitr [Hb Hub HO HG0]
  swap
  · isplitl [Hb]; · iexact Hb
    isplitl [Hub HO]
    · isplitl [Hub]; · iexact Hub
      iexact HO
    isplitr; · iexact Hlev
    iexact HG0
  iintro ⟨Hb, Hub, HO⟩
  ihave Hheld := (Entails.of_eq (unscopedBufs_held d (W2 m d))) $$ Hub
  iapply (wp_hlo_within 𝒱 (SparseCore.T d) none Set.univ (op := op4) (S := ucRefs τ sig) bufs_op4 (V := (W2 m d))) $$ [Hb Hheld]
  · isplitl [Hb] <;> iassumption
  iintro ⟨Hb, Hheld⟩
  rw [wp_ret]; imodintro
  iapply (wp_hlo_within 𝒱 (SparseCore.T d) none Set.univ (op := op5) (S := ucRefs τ sig) bufs_op5 (V := ((op4 (F := F)).result (W2 m d)))) $$ [Hb Hheld]
  · isplitl [Hb] <;> iassumption
  iintro ⟨Hb, Hheld⟩
  rw [wp_ret]; imodintro
  iapply (wp_hlo_within 𝒱 (SparseCore.T d) none Set.univ (op := opc) (S := ucRefs τ sig) bufs_opc (V := ((op5 (F := F)).result ((op4 (F := F)).result (W2 m d))))) $$ [Hb Hheld]
  · isplitl [Hb] <;> iassumption
  iintro ⟨Hb, Hheld⟩
  rw [wp_ret]; imodintro
  iapply (wp_hlo_within 𝒱 (SparseCore.T d) none Set.univ (op := op6) (S := ucRefs τ sig) bufs_op6 (V := ((opc (F := F)).result ((op5 (F := F)).result ((op4 (F := F)).result (W2 m d)))))) $$ [Hb Hheld]
  · isplitl [Hb] <;> iassumption
  iintro ⟨Hb, Hheld⟩
  rw [wp_ret]; imodintro
  iapply (wp_hlo_within 𝒱 (SparseCore.T d) none Set.univ (op := op7) (S := ucRefs τ sig) bufs_op7 (V := ((op6 (F := F)).result ((opc (F := F)).result ((op5 (F := F)).result ((op4 (F := F)).result (W2 m d))))))) $$ [Hb Hheld]
  · isplitl [Hb] <;> iassumption
  iintro ⟨Hb, Hheld⟩
  rw [wp_ret]; imodintro
  -- the SparseCore call
  ihave Hheld' := (Entails.of_eq (held_W3 m d)) $$ Hheld
  icases Hheld' with ⟨H6, Hrest⟩
  ihave H6 := (start_of_held m d) $$ H6
  iapply ((K (F := F)).wp_run (D (F := F)) 𝒱 (EH := EH) (P := P m (arrs m)) κ d 0) $$ [HO Hst H6 Hrest Hb Hts HG1]
  isplitr; · iexact Hctx
  isplitl [HO Hst]
  · unfold SparseCore.Cfg.tcSt
    isplitl [HO]; · iexact HO
    iexact Hst
  isplitl [H6]
  · rw [st0_eq]; iexact H6
  iintro ⟨Hst, Hdn⟩
  ihave Hdn := (Entails.of_eq (dn0_eq m (arrs m) d)) $$ Hdn
  ihave H6 := (held_of_done m d) $$ Hdn
  ihave Hrest := (Entails.of_eq (held_rest m d).symm) $$ Hrest
  ihave Hheld := (Entails.of_eq (held_sub_split (T d) S6_sub (W4 m d)).symm) $$ [H6 Hrest]
  · isplitl [H6] <;> iassumption
  iapply (wp_hlo_within 𝒱 (SparseCore.T d) none Set.univ (op := op9) (S := ucRefs τ sig) bufs_op9 (V := (W4 m d))) $$ [Hb Hheld]
  · isplitl [Hb] <;> iassumption
  iintro ⟨Hb, Hheld⟩
  rw [wp_ret]; imodintro
  iapply (wp_hlo_within 𝒱 (SparseCore.T d) none Set.univ (op := op10) (S := ucRefs τ sig) bufs_op10 (V := ((op9 (F := F)).result (W4 m d)))) $$ [Hb Hheld]
  · isplitl [Hb] <;> iassumption
  iintro ⟨Hb, Hheld⟩
  rw [wp_ret]; imodintro
  iapply (wp_hlo_within 𝒱 (SparseCore.T d) none Set.univ (op := op11) (S := ucRefs τ sig) bufs_op11 (V := ((op10 (F := F)).result ((op9 (F := F)).result (W4 m d))))) $$ [Hb Hheld]
  · isplitl [Hb] <;> iassumption
  iintro ⟨Hb, Hheld⟩
  rw [wp_ret]; imodintro
  -- the second TensorCore call
  ihave Hub := (Entails.of_eq (held_W5 m d)) $$ Hheld
  unfold SparseCore.Cfg.tcSt
  icases Hst with ⟨HO, Hst⟩
  iapply (wp_post m d)
  isplitr [Hb Hub HO HG1]
  swap
  · isplitl [Hb]; · iexact Hb
    isplitl [Hub HO]
    · isplitl [Hub]; · iexact Hub
      iexact HO
    isplitr; · iexact Hlev
    iexact HG1
  iintro ⟨Hb, Hub, HO⟩
  ihave Hheld := (Entails.of_eq (unscopedBufs_held d (W6 m d))) $$ Hub
  imodintro
  isplitl [HO Hst]
  · isplitl [HO]; · iexact HO
    iexact Hst
  isplitl [Hheld]; · iexact Hheld
  isplitl [Hb] <;> iassumption

def fq (d : Dev nD) (s' : Phys nD τ sig (Elt F)) : Prop := ∀ b : Ref sig .tc, (b : DevRef τ sig) ∈ ucRefs τ sig → s'.mem.mem ((SparseCore.T d).loc b) = W6 m d b

theorem hfin (d : Dev nD) (s' : Phys nD τ sig (Elt F)) : iprop(FIN m d ∗ SI s') ⊢ (⌜fq m d s'⌝ : sProp (MM F)) := by
  have key : ∀ b : Ref sig .tc, (b : DevRef τ sig) ∈ ucRefs τ sig → iprop(FIN m d ∗ SI s') ⊢ (⌜s'.mem.mem ((SparseCore.T d).loc b) = W6 m d b⌝ : sProp (MM F)) := by
    intro b hb
    iintro ⟨H, HSI⟩
    ihave H := (show held (SparseCore.T d) (ucRefs τ sig) (W6 m d) ⊢ ((SparseCore.T d).loc b ↦{fullShare} W6 m d b : sProp (MM F)) from
      BI.bigSep_elim (Φ := fun b : DevRef τ sig => ((⟨d, b⟩ : Loc nD τ sig) ↦{fullShare} W6 m d b : sProp (MM F))) hb) $$ H
    ihave H := (SI_pointsTo_agree (st := s') (ℓ := (SparseCore.T d).loc b) (I := Finset.univ) (q := fullShare) (f := W6 m d b)) $$ [HSI H]
    · isplitl [HSI] <;> iassumption
    icases H with %h
    ipureintro; exact funext fun i => h i (Finset.mem_univ i)
  exact (Laws.forall_intro fun b => (Laws.forall_intro fun hb => key b hb).trans Laws.pure_forall.2).trans Laws.pure_forall.2

/-! ## The program's run -/

def QC : PUnit × MemSt nD τ sig (Elt F) → Prop := fun r =>
  (∀ (c : Dev nD) (b : Ref sig .tc), (b : DevRef τ sig) ∈ ucRefs τ sig → r.2.mem ((SparseCore.T c).loc b) = W6 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (arrs m)) (A := ∅) scFacts v₀
    (fun q hq => match q with | 0 => nomatch hq)
    (fun q _ => match q with | 0 => tileObl m (arrs m) scFacts)
    (fun q _ => match q with | 0 => SparseCore.Cfg.VecSplit.of_plain (vecSplit m (arrs m)))
    m ρ main (G (F := F)) (FIN m) (u₀ (F := F)) (sep_elim_left.trans (hu₀ m)) (hmain m ρ) (fq m) (hfin m) (QC m) (fun _ h hz => ⟨h, hz⟩)

end Cert.Proof

end
-- ==== Proof.Same.lean ====
module
public import proofs.«01_k».proof.Proof.Gen.KernelIdeal
public import proofs.«01_k».proof.Defs
public import proofs.«01_k».proof.Proof.Gen.Kernel
@[expose] public section

noncomputable section

namespace Cert.Proof
open Idealize.ShloMosaic

/-! The program and its reading over the reals are one text: their bodies, their tables and their threads agree. -/

attribute [local instance] Cert.Kernel.Gen.facts Cert.KernelIdeal.Gen.facts
set_option maxRecDepth 20000
theorem b0 : @Cert.Kernel.cc0__project_kernel Bits _ _ = @Cert.KernelIdeal.cc0__project_kernel Bits _ _ := rfl
theorem b1 : @Cert.Kernel.cc1__sc_recur_body Bits _ _ = @Cert.KernelIdeal.cc1__sc_recur_body Bits _ _ := rfl
theorem b2 : @Cert.Kernel.cc2__post_kernel Bits _ _ = @Cert.KernelIdeal.cc2__post_kernel Bits _ _ := rfl

set_option maxHeartbeats 1000000
theorem d0 (t) (s) : Cert.Kernel.defs₀ (F := Bits) .tc 0 (t, s) = Cert.KernelIdeal.defs₀ .tc 0 (t, s) := by
  simp only [Cert.Kernel.defs₀]
  rw [b0]
  rfl
theorem d2 (t) (s) : Cert.Kernel.defs₀ (F := Bits) .tc 2 (t, s) = Cert.KernelIdeal.defs₀ .tc 2 (t, s) := by
  simp only [Cert.Kernel.defs₀]
  rw [b2]
  rfl
theorem d1 (c s x) : Cert.Kernel.defs₀ (F := Bits) (.scVector c s) 1 x = Cert.KernelIdeal.defs₀ (.scVector c s) 1 x := by
  simp only [Cert.Kernel.defs₀]
  rw [b1]
  rfl
theorem defs₀_eq : Cert.Kernel.defs₀ (F := Bits) = Cert.KernelIdeal.defs₀ := by
  funext p ℓ a
  match p, ℓ with
  | .tc, 0 => exact d0 a.1 a.2
  | .tc, 1 => rfl
  | .tc, 2 => exact d2 a.1 a.2
  | .scVector c s, 0 => rfl
  | .scVector c s, 1 => exact d1 c s a
  | .scVector c s, 2 => rfl
  | .scScalar c, 0 => rfl
  | .scScalar c, 1 => rfl
  | .scScalar c, 2 => rfl

theorem defs_eq : Cert.Kernel.defs (F := Bits) = Cert.KernelIdeal.defs := by
  show Cert.Kernel.sc.defs (Pipeline.defs Cert.Kernel.pcfgs Cert.Kernel.defs₀) = Cert.KernelIdeal.sc.defs (Pipeline.defs Cert.KernelIdeal.pcfgs Cert.KernelIdeal.defs₀)
  rw [defs₀_eq]
  rfl

theorem threads_eq : Cert.Kernel.threads (F := Bits) = Cert.KernelIdeal.threads := rfl

end Cert.Proof

end
-- ==== Proof.Frames.lean ====
module

public import proofs.«01_k».proof.Proof.Run
public import proofs.«01_k».proof.Proof.Same
public import proofs.«01_k».proof.Defs
public import proofs.«01_k».proof.Proof.Gen.Kernel
public import Idealize.ShloMosaic.Lib.StableHlo.RunLoop

@[expose] public section

noncomputable section

/-! The frames of the program: the nine arguments are written by no operation, so the final valuation has them as at the
    start. The program and its reading over the reals are the same text, hence one run serves both. -/

namespace Cert.Proof

open Idealize.ShloMosaic Idealize.ShloMosaic.TcCoe Idealize.ShloMosaic.StableHlo Idealize.SL.Sem Cert.KernelIdeal

variable {F : FTy → Type} [FloatOps F]

/-- The references the host operations write. -/
abbrev wrote : List (Ref sig .tc) :=
  [main_v0, main_v1, main_v2, main_v4, main_v5, main_cst, main_v6, main_v7, main_v9, main_v10, main_v11]

theorem W1_keep (m : (ℓ : Loc nD τ sig) → Buf (Elt F) ℓ) (c : Dev nD) (b : Ref sig .tc) (h : b ∉ wrote) : W1 m c b = W0 m c b :=
  after_of_writes_sub (W := wrote) [op0, op1, op2] (W0 m c) (by
    simp only [List.Forall]
    refine ⟨?_, ?_, ?_⟩ <;> exact Finset.singleton_subset_iff.mpr (List.mem_toFinset.mpr (List.mem_map_of_mem (by decide)))) h

theorem W3_keep (m : (ℓ : Loc nD τ sig) → Buf (Elt F) ℓ) (c : Dev nD) (b : Ref sig .tc) (h : b ∉ wrote) : W3 m c b = W2 m c b :=
  after_of_writes_sub (W := wrote) [op4, op5, opc, op6, op7] (W2 m c) (by
    simp only [List.Forall]
    refine ⟨?_, ?_, ?_, ?_, ?_⟩ <;> exact Finset.singleton_subset_iff.mpr (List.mem_toFinset.mpr (List.mem_map_of_mem (by decide)))) h

theorem W5_keep (m : (ℓ : Loc nD τ sig) → Buf (Elt F) ℓ) (c : Dev nD) (b : Ref sig .tc) (h : b ∉ wrote) : W5 m c b = W4 m c b :=
  after_of_writes_sub (W := wrote) [op9, op10, op11] (W4 m c) (by
    simp only [List.Forall]
    refine ⟨?_, ?_, ?_⟩ <;> exact Finset.singleton_subset_iff.mpr (List.mem_toFinset.mpr (List.mem_map_of_mem (by decide)))) h

/-- Every other reference the program writes. -/
abbrev wrote' : List (Ref sig .tc) := [main_v3_0, main_v3_1, main_v8_0, main_v8_1, main_v12_0, main_v12_1]

theorem W6_keep (m : (ℓ : Loc nD τ sig) → Buf (Elt F) ℓ) (c : Dev nD) (b : Ref sig .tc) (h : b ∉ wrote) (h' : b ∉ wrote') :
    W6 m c b = m ((SparseCore.T c).loc b) := by
  have ne : ∀ x ∈ wrote', b ≠ x := fun x hx e => h' (e ▸ hx)
  calc W6 m c b = W5 m c b := W6_ne m c b (ne _ (by decide)) (ne _ (by decide))
    _ = W4 m c b := W5_keep m c b h
    _ = W3 m c b := W4_ne m c b (ne _ (by decide)) (ne _ (by decide))
    _ = W2 m c b := W3_keep m c b h
    _ = W1 m c b := W2_ne m c b (ne _ (by decide)) (ne _ (by decide))
    _ = W0 m c b := W1_keep m c b h

theorem kept {m : (ℓ : Loc nD τ sig) → Buf (Elt F) ℓ} {r : PUnit × MemSt nD τ sig (Elt F)} (h : QC m r) (c : Dev nD) (b : Ref sig .tc)
    (hu : (b : DevRef τ sig) ∈ Pipeline.ucRefs τ sig) (h1 : b ∉ wrote) (h2 : b ∉ wrote') :
    r.2.mem ((SparseCore.T c).loc b) = m ((SparseCore.T c).loc b) :=
  (h.1 c b hu).trans (W6_keep m c b h1 h2)

theorem uc (b : Ref sig .tc) (h : (Proc.devRef .tc b : DevRef τ sig).isScoped = false) : (b : DevRef τ sig) ∈ Pipeline.ucRefs τ sig :=
  devRef_mem_ucRefs b h

theorem frames {m : (ℓ : Loc nD τ sig) → Buf (Elt F) ℓ} {r : PUnit × MemSt nD τ sig (Elt F)} (h : QC m r) (c : Dev nD) :
    r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8) :=
  ⟨kept h c main_arg0 (uc _ rfl) (by decide) (by decide), kept h c main_arg1 (uc _ rfl) (by decide) (by decide),
   kept h c main_arg2 (uc _ rfl) (by decide) (by decide), kept h c main_arg3 (uc _ rfl) (by decide) (by decide),
   kept h c main_arg4 (uc _ rfl) (by decide) (by decide), kept h c main_arg5 (uc _ rfl) (by decide) (by decide),
   kept h c main_arg6 (uc _ rfl) (by decide) (by decide), kept h c main_arg7 (uc _ rfl) (by decide) (by decide),
   kept h c main_arg8 (uc _ rfl) (by decide) (by decide)⟩

theorem run_frames [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r =>
      (∀ c : Dev nD, r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)) ∧ r.2.sem = fun _ => 0 :=
  (θ_run Cert.KernelIdeal.defs _ _).mono (fun _ h => ⟨frames h, h.2⟩) (run_main m ρ)

attribute [local instance] Cert.Kernel.Gen.facts Cert.KernelIdeal.Gen.facts

theorem frame_ideal : Cert.quiescent_KernelIdeal := fun m ρ _ => run_frames (F := Ideal) m ρ

theorem frame_kernel : Cert.quiescent_Kernel := fun m ρ _ => by
  rw [defs_eq]
  exact run_frames (F := Bits) m ρ

end Cert.Proof

end
-- ==== Proof.RefRun.lean ====
module

public import proofs.«01_k».proof.Defs
public import proofs.«01_k».proof.Proof.Gen.ReferenceIdeal.Run
public import Idealize.ShloMosaic.Lib.Quiescent

@[expose] public section

noncomputable section

/-! The reference's run: its arguments unchanged, its results as the trips of its loop leave them. -/

namespace Cert.RefRun

open Idealize.ShloMosaic Idealize.ShloMosaic.TcCoe Idealize.ShloMosaic.StableHlo Idealize.SL.Sem Cert.ReferenceIdeal Cert.ReferenceIdeal.Gen Cert.ReferenceIdeal.Value

variable {F : FTy → Type} [FloatOps F]

abbrev bodyW : List (Ref sig .tc) := while0Ops0_W ++ while0Ops0_1_W ++ while0Ops0_2_W ++ while0Ops0_3_W ++ while0Ops0_4_W ++ while0Ops0_5_W
  ++ while0Ops0_6_W ++ while0Ops0_7_W ++ while0Ops0_8_W ++ while0Ops0_9_W ++ condOps_W

theorem body_keep (V : Valuation τ sig (Elt F)) (b : Ref sig .tc) (h : b ∉ bodyW) : afterL bodyI (after condOps V) (Proc.devRef .tc b) = V (Proc.devRef .tc b) := by
  simp only [bodyW, List.mem_append, not_or] at h
  obtain ⟨⟨⟨⟨⟨⟨⟨⟨⟨⟨h0, h1⟩, h2⟩, h3⟩, h4⟩, h5⟩, h6⟩, h7⟩, h8⟩, h9⟩, hc⟩ := h
  simp only [bodyI, afterL_cons, afterL_nil]
  rw [after_of_writes_sub _ _ while0Ops0_9_writes h9, after_of_writes_sub _ _ while0Ops0_8_writes h8, after_of_writes_sub _ _ while0Ops0_7_writes h7,
    after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

variable (m : (ℓ : Loc nD τ sig) → Buf (Elt F) ℓ) (ρ : Dev nD → PrngReg)

theorem atK_keep (c : Dev nD) (b : Ref sig .tc) (h : b ∉ bodyW) : ∀ k, atK m k c (Proc.devRef .tc b) = entryContents preI m c (Proc.devRef .tc b)
  | 0 => rfl
  | k + 1 => (body_keep (atK m k c) b h).trans (atK_keep c b h k)

/-- What the loop leaves. -/
abbrev exit (c : Dev nD) : Valuation τ sig (Elt F) := after condOps (atK m 512 c)

theorem exit_keep (c : Dev nD) (b : Ref sig .tc) (h : b ∉ bodyW) : exit m c (Proc.devRef .tc b) = entryContents preI m c (Proc.devRef .tc b) :=
  (after_of_writes_sub _ _ condOps_writes fun h' => h (List.mem_append_right _ h')).trans (atK_keep m c b h 512)

/-- The references written after the loop. -/
abbrev postW : List (Ref sig .tc) :=
  [main_v13, main_v14, main_v15, main_v16, main_call6_cst, main_call6_v0, main_call6_cst_0, main_call6_v1, main_call6_v2, main_call6_v3, main_call6_v4,
   main_call6_v5, main_call6_v6, main_call6_cst_1, main_call6_v7, main_call6_v8, main_call6_v9, main_call6_v10, main_v17, main_v18, main_v19, main_v20,
   main_v21, main_v22, main_v23, main_cst_4, main_call7_v0, main_call7_v1, main_call7_v2, main_v24]

theorem hostOps0_1_in : (hostOps0_1 : List (HloOp τ sig (Elt F))).Forall fun op => op.writes ⊆ (postW.map (Proc.devRef (τ := τ) .tc)).toFinset := by
  simp only [List.Forall]
  refine ⟨?_, ?_, ?_, ?_⟩ <;> exact Finset.singleton_subset_iff.mpr (List.mem_toFinset.mpr (List.mem_map_of_mem (by decide)))
theorem hostOps0_2_in : (hostOps0_2 : List (HloOp τ sig (Elt F))).Forall fun op => op.writes ⊆ (postW.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
theorem hostOps0_3_in : (hostOps0_3 : List (HloOp τ sig (Elt F))).Forall fun op => op.writes ⊆ (postW.map (Proc.devRef (τ := τ) .tc)).toFinset := by
  simp only [List.Forall]
  refine ⟨?_, ?_, ?_, ?_, ?_, ?_, ?_⟩ <;> exact Finset.singleton_subset_iff.mpr (List.mem_toFinset.mpr (List.mem_map_of_mem (by decide)))
theorem hostOps0_4_in : (hostOps0_4 : List (HloOp τ sig (Elt F))).Forall fun op => op.writes ⊆ (postW.map (Proc.devRef (τ := τ) .tc)).toFinset := by
  simp only [List.Forall]
  refine ⟨?_, ?_, ?_, ?_⟩ <;> exact Finset.singleton_subset_iff.mpr (List.mem_toFinset.mpr (List.mem_map_of_mem (by decide)))

theorem entry_keep (c : Dev nD) (b : Ref sig .tc) (h : b ∉ hostOps0_W) : entryContents preI m c (Proc.devRef .tc b) = m ((c.tc : Thread nD τ).loc b) := by
  simp only [entryContents, afterL_cons, afterL_nil]
  rw [after_of_writes_sub _ _ hostOps0_writes h]

theorem final_arg (c : Dev nD) (b : Ref sig .tc) (h : b ∉ bodyW) (h0 : b ∉ hostOps0_W) (h1 : b ∉ postW) :
    finalContents condOps preI bodyI postI 512 m c (Proc.devRef .tc b) = m ((c.tc : Thread nD τ).loc b) := by
  rw [← entry_keep m c b h0, ← exit_keep m c b h]
  simp only [finalContents, afterL_cons, afterL_nil]
  rw [after_of_writes_sub _ _ hostOps0_4_in h1, after_of_writes_sub _ _ hostOps0_3_in h1, after_of_writes_sub _ _ hostOps0_2_in h1,
    after_of_writes_sub _ _ hostOps0_1_in h1]

theorem final_w (c : Dev nD) : finalContents condOps preI bodyI postI 512 m c (Proc.devRef .tc main_v16)
    = transpose S16x512x512 [1, 0, 2] (shapeCast S512x16x512 (exit m c (Proc.devRef .tc main_v12_12)) shapeCasts_S512x16x1x512_S512x16x512) transposes_S512x16x512_S16x512x512_1_0_2 := by
  simp only [finalContents, afterL_cons, afterL_nil]
  after_results_simp
  rfl

/-- The rows less their greatest entry. -/
def shifted (x : FVec F S16x512x29 .f32) : FVec F S16x512x29 .f32 :=
  subf x (broadcastInDim S16x512x29 ![0, 1, 2] bcast_S16x512x1_S16x512x29_0_1_2 (broadcastInDim S16x512x1 ![0, 1] bcast_S16x512_S16x512x1_0_1
    (maximumf (broadcastInDim S16x512 ![] bcast_S_S16x512 (constant S_ .f32 0xFF800000#32)) (Host.reduce FloatOps.maximumf x (constant S_ .f32 0xFF800000#32) reducesTo_S16x512x29_S16x512_d2 h_S_))))

/-- The rows' logarithms of softmax. -/
def logSoft (x : FVec F S16x512x29 .f32) : FVec F S16x512x29 .f32 :=
  subf (shifted x) (broadcastInDim S16x512x29 ![0, 1, 2] bcast_S16x512x1_S16x512x29_0_1_2 (Host.log (broadcastInDim S16x512x1 ![0, 1] bcast_S16x512_S16x512x1_0_1
    (Host.reduceAdd (Host.exp (shifted x)) (constant S_ .f32 0x00000000#32) reducesTo_S16x512x29_S16x512_d2 h_S_))))

/-- The rows before the sample's end. -/
def alive (p : IVec S512 32) (l : IVec S16 32) : IVec S16x512x29 1 :=
  broadcastInDim S16x512x29 ![0, 1, 2] bcast_S16x512x1_S16x512x29_0_1_2 (broadcastInDim S16x512x1 ![0, 1] bcast_S16x512_S16x512x1_0_1
    (cmpi .slt (broadcastInDim S16x512 ![0, 1] bcast_S1x512_S16x512_0_1 (broadcastInDim S1x512 ![1] bcast_S512_S1x512_1 p))
      (broadcastInDim S16x512 ![0, 1] bcast_S16x1_S16x512_0_1 (broadcastInDim S16x1 ![0] bcast_S16_S16x1_0 l))))

theorem post4 (V : Valuation τ sig (Elt F)) : after hostOps0_4 V (Proc.devRef .tc main_v24)
    = select (broadcastInDim S16x512x29 ![0, 1, 2] bcast_S16x512x1_S16x512x29_0_1_2 (V (Proc.devRef .tc main_v23))) (V (Proc.devRef .tc main_v17))
        (broadcastInDim S16x512x29 ![] bcast_S_S16x512x29 (V (Proc.devRef .tc main_cst_4))) := by
  simp only [hostOps0_4]
  after_results_simp
  rfl

theorem post3 (V : Valuation τ sig (Elt F)) : broadcastInDim S16x512x29 ![0, 1, 2] bcast_S16x512x1_S16x512x29_0_1_2 (after hostOps0_3 V (Proc.devRef .tc main_v23))
    = alive (V (Proc.devRef .tc main_v8)) (V (Proc.devRef .tc main_arg1)) := by
  simp only [hostOps0_3]
  after_results_simp
  rfl

theorem post3c (V : Valuation τ sig (Elt F)) : after hostOps0_3 V (Proc.devRef .tc main_cst_4) = constant S_ .f32 0x00000000#32 := by
  simp only [hostOps0_3]
  after_results_simp

set_option maxRecDepth 8192 in
theorem post2 (V : Valuation τ sig (Elt F)) : after hostOps0_2 V (Proc.devRef .tc main_v17) = logSoft (V (Proc.devRef .tc main_v14)) := by
  unfold logSoft shifted
  after_results_entrywise [cast_eq]

theorem post1 (V : Valuation τ sig (Elt F)) : after hostOps0_1 V (Proc.devRef .tc main_v14)
    = transpose S16x512x29 [1, 0, 2] (shapeCast S512x16x29 (V (Proc.devRef .tc main_v12_11)) shapeCasts_S512x16x1x29_S512x16x29) transposes_S512x16x29_S16x512x29_1_0_2 := by
  simp only [hostOps0_1]
  after_results_simp
  rfl

theorem final_o (c : Dev nD) : finalContents condOps preI bodyI postI 512 m c (Proc.devRef .tc main_v24)
    = select (alive (exit m c (Proc.devRef .tc main_v8)) (exit m c (Proc.devRef .tc main_arg1)))
        (logSoft (transpose S16x512x29 [1, 0, 2] (shapeCast S512x16x29 (exit m c (Proc.devRef .tc main_v12_11)) shapeCasts_S512x16x1x29_S512x16x29) transposes_S512x16x29_S16x512x29_1_0_2))
        (broadcastInDim S16x512x29 ![] bcast_S_S16x512x29 (constant S_ .f32 0x00000000#32)) := by
  have k2 : ∀ (V : Valuation τ sig (Elt F)) (b : Ref sig .tc), b ∉ ([main_call6_cst, main_call6_v0, main_call6_cst_0, main_call6_v1, main_call6_v2, main_call6_v3, main_call6_v4,
      main_call6_v5, main_call6_v6, main_call6_cst_1, main_call6_v7, main_call6_v8, main_call6_v9, main_call6_v10, main_v17] : List (Ref sig .tc)) →
      after hostOps0_2 V (Proc.devRef .tc b) = V (Proc.devRef .tc b) := fun V b hb => after_of_writes_sub _ V (by
    simp only [List.Forall]
    refine ⟨?_, ?_, ?_, ?_, ?_, ?_, ?_, ?_, ?_, ?_, ?_, ?_, ?_, ?_, ?_⟩ <;> exact Finset.singleton_subset_iff.mpr (List.mem_toFinset.mpr (List.mem_map_of_mem (by decide)))) hb
  have k3 : ∀ (V : Valuation τ sig (Elt F)) (b : Ref sig .tc), b ∉ ([main_v18, main_v19, main_v20, main_v21, main_v22, main_v23, main_cst_4] : List (Ref sig .tc)) →
      after hostOps0_3 V (Proc.devRef .tc b) = V (Proc.devRef .tc b) := fun V b hb => after_of_writes_sub _ V (by
    simp only [List.Forall]
    refine ⟨?_, ?_, ?_, ?_, ?_, ?_, ?_⟩ <;> exact Finset.singleton_subset_iff.mpr (List.mem_toFinset.mpr (List.mem_map_of_mem (by decide)))) hb
  simp only [finalContents, afterL_cons, afterL_nil]
  rw [post4, post3, post3c, k3 _ _ (by decide), post2, post1, k2 _ _ (by decide), k2 _ _ (by decide),
    after_of_writes_sub _ _ hostOps0_1_in (by decide), after_of_writes_sub _ _ hostOps0_1_in (by decide)]

set_option maxRecDepth 8192 in
/-- The run: arguments, counters, and both results as the loop's last trip leaves them. -/
theorem run_ref [∀ e, Nonempty (Elt F e)] (ρ : Dev nD → PrngReg) : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ (r.2.sem = fun _ => 0)
    ∧ ∀ c : Dev nD, r.2.mem ((c.tc : Thread nD τ).loc main_v24) = finalContents condOps preI bodyI postI 512 m c (Proc.devRef .tc main_v24)
      ∧ r.2.mem ((c.tc : Thread nD τ).loc main_v16) = finalContents condOps preI bodyI postI 512 m c (Proc.devRef .tc main_v16) :=
  (θ_run (defs (F := F)) _ _).mono (fun r h => ⟨fun c =>
    ⟨(h c main_arg0 rfl).trans (final_arg m c _ (by decide) (by decide) (by decide)), (h c main_arg1 rfl).trans (final_arg m c _ (by decide) (by decide) (by decide)),
     (h c main_arg2 rfl).trans (final_arg m c _ (by decide) (by decide) (by decide)), (h c main_arg3 rfl).trans (final_arg m c _ (by decide) (by decide) (by decide)),
     (h c main_arg4 rfl).trans (final_arg m c _ (by decide) (by decide) (by decide)), (h c main_arg5 rfl).trans (final_arg m c _ (by decide) (by decide) (by decide)),
     (h c main_arg6 rfl).trans (final_arg m c _ (by decide) (by decide) (by decide)), (h c main_arg7 rfl).trans (final_arg m c _ (by decide) (by decide) (by decide)),
     (h c main_arg8 rfl).trans (final_arg m c _ (by decide) (by decide) (by decide))⟩,
    sem_eq_zero_of_no_sems rfl r.2, fun c => ⟨h c main_v24 rfl, h c main_v16 rfl⟩⟩) (run_fold m ρ)

attribute [local instance] Cert.ReferenceIdeal.Gen.facts

theorem frame_reference : Cert.quiescent_ReferenceIdeal := fun m ρ _ =>
  (θ_run (defs (F := Ideal)) _ _).mono (fun _ h => ⟨h.1, h.2.1⟩) (run_ref (F := Ideal) m ρ)

end Cert.RefRun

end
-- ==== Proof.PreMath.lean ====
/- The precondition read back: every float argument is real everywhere, and the window size is five. -/
module

public import proofs.«01_k».proof.Defs
public import Idealize.ShloMosaic.Lib.ReduceAll
public import Idealize.ShloMosaic.PureOps.Ideal.Laws

@[expose] public section

set_option maxRecDepth 16384

noncomputable section

namespace Cert.PreMath

open Idealize.ShloMosaic Cert.Pre_inputs_ok

instance facts : Cert.Pre_inputs_ok.Facts where
  bcast_S_S16x512x2048 := by decide
  reducesTo_S16x512x2048_S_d0_1_2 := by decide
  h_S_ := by decide
  bcast_S_S2048x768 := by decide
  reducesTo_S2048x768_S_d0_1 := by decide
  bcast_S_S768 := by decide
  reducesTo_S768_S_d0 := by decide
  bcast_S_S29x768 := by decide
  reducesTo_S29x768_S_d0_1 := by decide
  bcast_S_S768x29 := by decide
  reducesTo_S768x29_S_d0_1 := by decide
  bcast_S_S29 := by decide
  reducesTo_S29_S_d0 := by decide

instance : Subsingleton S_.Idx := ⟨fun a b => funext fun i => i.elim0⟩

theorem pos_inf : (Ideal.ofBits .f32 0x7F800000#32 : EReal) = ⊤ := by
  unfold Ideal.ofBits Ideal.ieee
  simp only
  rw [if_pos (by decide), if_pos (by decide), if_neg (by decide)]

theorem real_of {s : Shape} (x : FVec Ideal s .f32) (h : S_.BroadcastsInDim s (![] : Fin 0 → Fin s.rank)) (i : s.Idx)
    (e : cmpf (F := Ideal) .olt (Host.absf x) (broadcastInDim s ![] h (constant S_ .f32 0x7F800000#32)) i = 1#1) : ∃ r : ℝ, (x i : EReal) = (r : EReal) := by
  have e' : BitVec.ofBool (decide (max (x i : EReal) (-(x i : EReal)) < (Ideal.ofBits .f32 0x7F800000#32 : EReal))) = 1#1 := e
  rw [pos_inf] at e'
  have l : max (x i : EReal) (-(x i : EReal)) < ⊤ := by
    by_contra hn
    rw [decide_eq_false hn] at e'
    exact absurd e' (by decide)
  have l1 : (x i : EReal) ≠ ⊤ := fun hx => by rw [hx] at l; simp at l
  have l2 : (x i : EReal) ≠ ⊥ := fun hx => by rw [hx] at l; simp at l
  exact ⟨(x i : EReal).toReal, (EReal.coe_toReal l1 l2).symm⟩

/-- What the precondition says. -/
theorem read (a0 : FVec Ideal S16x512x2048 .f32) (a1 : IVec S16 32) (a2 : IVec S_ 32) (a3 : FVec Ideal S2048x768 .f32) (a4 : FVec Ideal S768 .f32)
    (a5 : FVec Ideal S29x768 .f32) (a6 : FVec Ideal S768 .f32) (a7 : FVec Ideal S768x29 .f32) (a8 : FVec Ideal S29 .f32)
    (h : fn (F := Ideal) a0 a1 a2 a3 a4 a5 a6 a7 a8 = fun _ => 1#1) :
    (∀ i, ∃ r : ℝ, (a0 i : EReal) = (r : EReal)) ∧ (∀ i, a2 i = 5#32) ∧ (∀ i, ∃ r : ℝ, (a3 i : EReal) = (r : EReal)) ∧ (∀ i, ∃ r : ℝ, (a4 i : EReal) = (r : EReal))
    ∧ (∀ i, ∃ r : ℝ, (a5 i : EReal) = (r : EReal)) ∧ (∀ i, ∃ r : ℝ, (a6 i : EReal) = (r : EReal)) ∧ (∀ i, ∃ r : ℝ, (a7 i : EReal) = (r : EReal))
    ∧ (∀ i, ∃ r : ℝ, (a8 i : EReal) = (r : EReal)) := by
  have e := fun j => congrFun h j
  have e0 := e (fun i => i.elim0)
  dsimp only [fn, fn_part1, fn_part2] at e0
  obtain ⟨e0, e2⟩ := IntOp.andi_eq_one.1 e0
  obtain ⟨e0, e8⟩ := IntOp.andi_eq_one.1 e0
  obtain ⟨e0, e7⟩ := IntOp.andi_eq_one.1 e0
  obtain ⟨e0, e6⟩ := IntOp.andi_eq_one.1 e0
  obtain ⟨e0, e5⟩ := IntOp.andi_eq_one.1 e0
  obtain ⟨e0, e4⟩ := IntOp.andi_eq_one.1 e0
  obtain ⟨e0, e3⟩ := IntOp.andi_eq_one.1 e0
  exact ⟨fun i => real_of a0 _ i (Host.reduce_andi_all _ _ _ _ _ e0 i), fun i => (congrArg a2 (Subsingleton.elim _ _)).trans (IntOp.cmpi_eq.1 e2),
    fun i => real_of a3 _ i (Host.reduce_andi_all _ _ _ _ _ e3 i), fun i => real_of a4 _ i (Host.reduce_andi_all _ _ _ _ _ e4 i),
    fun i => real_of a5 _ i (Host.reduce_andi_all _ _ _ _ _ e5 i), fun i => real_of a6 _ i (Host.reduce_andi_all _ _ _ _ _ e6 i),
    fun i => real_of a7 _ i (Host.reduce_andi_all _ _ _ _ _ e7 i), fun i => real_of a8 _ i (Host.reduce_andi_all _ _ _ _ _ e8 i)⟩

end Cert.PreMath
-- ==== Proof.Spec.lean ====
/- The recurrence of one batch over the reals, with the facts of sums and words both programs are read by. -/
module

public import Idealize.ShloMosaic.PureOps.Ideal.Laws
public import Mathlib.Algebra.BigOperators.Fin

@[expose] public section

noncomputable section

namespace Cert.Math

open Idealize.ShloMosaic

/-- What one batch computes from: its projected inputs, the weights of the two other projections, the scale of the
scores, and its length. -/
structure Par where
  xp : Fin 512 → Fin 768 → ℝ
  wq : Fin 29 → Fin 768 → ℝ
  bq : Fin 768 → ℝ
  wo : Fin 768 → Fin 29 → ℝ
  bo : Fin 29 → ℝ
  c : ℝ
  len : BitVec 32

namespace Par

variable (P : Par)

/-- The score of position `p` against the query `q`. -/
def sc (q : Fin 29 → ℝ) (p : Fin 512) : ℝ := (∑ e, (∑ o, q o * P.wq o e + P.bq e) * P.xp p e) * P.c
/-- Position `p`, put through the output projection. -/
def vv (p : Fin 512) (o : Fin 29) : ℝ := ∑ e, P.xp p e * P.wo e o
/-- Position `p` is read by row `t`. -/
def ok (t : ℕ) (p : Fin 512) : Prop := p.val ≤ t + 5 ∧ t ≤ p.val + 5 ∧ (p.val : ℤ) < P.len.toInt

open scoped Classical in
/-- The unnormalised weight of a position, the row's normaliser, the weight, and the next query. -/
def ev (q : Fin 29 → ℝ) (t : ℕ) (p : Fin 512) : ℝ := if P.ok t p then Real.exp (P.sc q p) else 0
def tot (q : Fin 29 → ℝ) (t : ℕ) : ℝ := ∑ p, P.ev q t p
def wgt (q : Fin 29 → ℝ) (t : ℕ) (p : Fin 512) : ℝ := P.ev q t p / P.tot q t
def nxt (q : Fin 29 → ℝ) (t : ℕ) (o : Fin 29) : ℝ := P.bo o + ∑ p, P.wgt q t p * P.vv p o

/-- The query before the first row, and into row `t`. -/
def q0 (o : Fin 29) : ℝ := if o.val = 28 then 9 else 1
def qs : ℕ → Fin 29 → ℝ
  | 0 => q0
  | t + 1 => P.nxt (qs t) t

variable {P}

theorem ev_nonneg (q : Fin 29 → ℝ) (t : ℕ) (p : Fin 512) : 0 ≤ P.ev q t p := by
  unfold ev; split
  · exact (Real.exp_pos _).le
  · exact le_rfl

theorem ev_of_not (q : Fin 29 → ℝ) {t : ℕ} {p : Fin 512} (h : ¬ P.ok t p) : P.ev q t p = 0 := if_neg h

/-- A row below the length reads its own position. -/
theorem tot_pos (q : Fin 29 → ℝ) {t : ℕ} (ht : t < 512) (hl : (t : ℤ) < P.len.toInt) : 0 < P.tot q t := by
  refine Finset.sum_pos' (fun p _ => ev_nonneg q t p) ⟨⟨t, ht⟩, Finset.mem_univ _, ?_⟩
  unfold ev
  rw [if_pos ⟨Nat.le_add_right _ _, Nat.le_add_right _ _, hl⟩]
  exact Real.exp_pos _

theorem wgt_of_not (q : Fin 29 → ℝ) {t : ℕ} {p : Fin 512} (h : ¬ P.ok t p) : P.wgt q t p = 0 := by
  unfold wgt; rw [ev_of_not q h, zero_div]

end Par

/-- A sum over all positions whose terms vanish outside `n` positions from `b`. -/
theorem sum_window {M : Type} [AddCommMonoid M] (f : Fin 512 → M) (b n : ℕ) (hb : b + n ≤ 512)
    (h : ∀ p : Fin 512, ¬ (b ≤ p.val ∧ p.val < b + n) → f p = 0) : ∑ p, f p = ∑ j : Fin n, f ⟨b + j.val, by omega⟩ := by
  refine (Fintype.sum_of_injective (fun j : Fin n => (⟨b + j.val, by omega⟩ : Fin 512)) ?_ _ _ ?_ fun _ => rfl).symm
  · intro i j hij
    have := congrArg Fin.val hij
    simp only at this
    exact Fin.ext (by omega)
  · intro p hp
    refine h p fun ⟨h1, h2⟩ => hp ⟨⟨p.val - b, by omega⟩, Fin.ext ?_⟩
    simp only; omega

/-- Real sums and products among the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Words of positions. -/
theorem word_toInt {n : ℕ} (h : n < 1024) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

open scoped Classical in
theorem near_word (t p : ℕ) (ht : t < 512) (hp : p < 512) :
    IntOp.cmpi .sle (IntOp.absi (BitVec.ofNat 32 p - BitVec.ofNat 32 t)) 5#32 = BitVec.ofBool (decide (p ≤ t + 5 ∧ t ≤ p + 5)) := by
  have e : (IntOp.absi (BitVec.ofNat 32 p - BitVec.ofNat 32 t)).toInt = |(p : ℤ) - t| := by
    have d : (BitVec.ofNat 32 p - BitVec.ofNat 32 t).toInt = (p : ℤ) - t := by
      rw [BitVec.toInt_sub, word_toInt (by omega), word_toInt (by omega), Int.bmod_eq_of_le] <;> omega
    unfold IntOp.absi
    rw [BitVec.msb_eq_toInt, d]
    split
    · rename_i h
      have h : (p : ℤ) - t < 0 := by simpa using h
      rw [BitVec.toInt_neg, d, abs_of_neg h, Int.bmod_eq_of_le] <;> omega
    · rename_i h
      have h : 0 ≤ (p : ℤ) - t := by simpa using h
      rw [d, abs_of_nonneg h]
  show BitVec.ofBool (BitVec.sle _ _) = _
  rw [BitVec.sle_eq_decide, e]
  have h5 : (5#32).toInt = 5 := rfl
  rw [h5]
  congr 1
  simp only [decide_eq_decide]
  rw [abs_le]
  constructor <;> (intro h; constructor <;> omega)

theorem lt_word (p : ℕ) (hp : p < 512) (l : BitVec 32) :
    IntOp.cmpi .slt (BitVec.ofNat 32 p) l = BitVec.ofBool (decide ((p : ℤ) < l.toInt)) := by
  show BitVec.ofBool (BitVec.slt _ _) = _
  rw [BitVec.slt_eq_decide, word_toInt (by omega)]

open scoped Classical in
theorem ok_word (P : Par) (t : ℕ) (ht : t < 512) (p : Fin 512) :
    IntOp.andi (IntOp.cmpi .sle (IntOp.absi (BitVec.ofNat 32 p.val - BitVec.ofNat 32 t)) 5#32) (IntOp.cmpi .slt (BitVec.ofNat 32 p.val) P.len)
      = BitVec.ofBool (decide (P.ok t p)) := by
  rw [near_word t p.val ht p.isLt, lt_word p.val p.isLt]
  unfold Par.ok
  by_cases h1 : p.val ≤ t + 5 ∧ t ≤ p.val + 5 <;> by_cases h2 : (p.val : ℤ) < P.len.toInt <;>
    simp [h1, h2, IntOp.andi, ← and_assoc]

end Cert.Math
-- ==== Proof.Data.lean ====
/- What the batches compute from, in terms of the arguments. -/
module

public import proofs.«01_k».proof.Proof.Spec

@[expose] public section

noncomputable section

namespace Cert.Math

/-- The batches' data from real arrays. -/
def mkPar (x : Fin 16 → Fin 512 → Fin 2048 → ℝ) (w : Fin 2048 → Fin 768 → ℝ) (bi : Fin 768 → ℝ) (wq : Fin 29 → Fin 768 → ℝ) (bq : Fin 768 → ℝ)
    (wo : Fin 768 → Fin 29 → ℝ) (bo : Fin 29 → ℝ) (s : ℝ) (len : Fin 16 → BitVec 32) (b : Fin 16) : Par where
  xp p e := ∑ d, x b p d * w d e + bi e
  wq := wq
  bq := bq
  wo := wo
  bo := bo
  c := s
  len := len b

end Cert.Math
-- ==== Proof.KernMath.lean ====
/- The kernel's recurrence over the extended reals: on every row below the batch's length it is the real recurrence. -/
module

public import proofs.«01_k».proof.Proof.Spec
public import proofs.«01_k».proof.Proof.Tile
public import proofs.«01_k».proof.Proof.Recur

@[expose] public section

noncomputable section

namespace Cert.Math

open Cert.KernelIdeal Cert.KernelIdeal.Gen Cert.KernelIdeal.Step Cert.Proof
open Idealize.ShloMosaic Idealize.ShloMosaic.ValueIdx

/-! ## Trees, lanes and rows as sums -/

theorem pair_len {α : Type} (op : α → α → α) : ∀ l : List α, (pair op l).length = (l.length + 1) / 2
  | [] => by simp [pair]
  | [_] => by simp [pair]
  | a :: b :: l => by
    show (pair op l).length + 1 = _
    rw [pair_len op l]; simp only [List.length_cons]; omega

theorem pair_sum {α M : Type} [AddCommMonoid M] (op : α → α → α) (v : α → M) (hv : ∀ a b, v (op a b) = v a + v b) :
    ∀ l : List α, ((pair op l).map v).sum = (l.map v).sum
  | [] => rfl
  | [_] => rfl
  | a :: b :: l => by
    show v (op a b) + ((pair op l).map v).sum = _
    rw [pair_sum op v hv l, hv, List.map_cons, List.map_cons, List.sum_cons, List.sum_cons, add_assoc]

/-- Neighbours joined round after round add up the list. -/
theorem tree_sum {α M : Type} [AddCommMonoid M] (op : α → α → α) (d : α) (v : α → M) (hv : ∀ a b, v (op a b) = v a + v b) :
    ∀ (n : ℕ) (l : List α), 0 < l.length → l.length ≤ 2 ^ n → v (tree op d n l) = (l.map v).sum
  | 0, [a], _, _ => by show v a = _; simp
  | 0, [], h, _ => absurd h (Nat.lt_irrefl 0)
  | 0, _ :: _ :: l, _, h => by simp only [List.length_cons] at h; omega
  | n + 1, l, h, h' => by
    show v (tree op d n (pair op l)) = _
    rw [tree_sum op d v hv n (pair op l) (by rw [pair_len]; omega) (by rw [pair_len]; rw [pow_succ] at h'; omega), pair_sum op v hv]

theorem tree_lane (n : ℕ) (l : List (V16 Ideal)) (h : 0 < l.length) (h' : l.length ≤ 2 ^ n) (i : S16.Idx) :
    (tree addf z16 n l i : EReal) = (l.map fun x => (x i : EReal)).sum :=
  tree_sum (M := EReal) addf z16 (fun x => x i) (fun _ _ => rfl) n l h h'

theorem lane_eq (x : V16 Ideal) (j : Fin 16) : lane x j = x (ix1 j) := by
  unfold lane extractAt extractStridedSlice
  refine congrArg x ?_
  funext a
  match a with
  | ⟨0, _⟩ => exact Fin.ext (Nat.add_zero _)

theorem lanes_eq (x : V16 Ideal) : lanes x = List.ofFn fun j : Fin 16 => x (ix1 j) := by
  unfold lanes
  simp only [lane_eq]
  rfl

theorem scale_map (i : S16.Idx) : ∀ (cs : List (Ideal .f32)) (vs : List (V16 Ideal)),
    (scale cs vs).map (fun x => (x i : EReal)) = List.zipWith (fun (c : Ideal .f32) (v : V16 Ideal) => (c * v i : EReal)) cs vs
  | [], _ => rfl
  | _ :: _, [] => rfl
  | c :: cs, v :: vs => by
    show (_ : EReal) :: _ = _ :: _
    rw [scale_map i cs vs]; rfl

theorem scale_len : ∀ (cs : List (Ideal .f32)) (vs : List (V16 Ideal)), (scale cs vs).length = min cs.length vs.length
  | [], _ => by simp [scale]
  | _ :: _, [] => by simp [scale]
  | c :: cs, v :: vs => by
    show (scale cs vs).length + 1 = _
    rw [scale_len cs vs]; simp only [List.length_cons]; omega

theorem zip_ofFn {α β γ : Type} {n : ℕ} (f : α → β → γ) (a : Fin n → α) (b : Fin n → β) (r : List α) :
    List.zipWith f (List.ofFn a ++ r) (List.ofFn b) = List.ofFn fun i => f (a i) (b i) := by
  refine List.ext_getElem ?_ ?_
  · simp
  · intro k h1 h2
    have hk : k < n := by simpa using h2
    simp [List.getElem_append_left, hk]

/-- Scalars `a` against rows `b`, added up in a lane. -/
theorem scale_sum {n : ℕ} (a : Fin n → Ideal .f32) (b : Fin n → V16 Ideal) (r : List (Ideal .f32)) (i : S16.Idx) :
    ((scale (List.ofFn a ++ r) (List.ofFn b)).map fun x => (x i : EReal)).sum = ∑ k, (a k * b k i : EReal) := by
  rw [scale_map, zip_ofFn, List.sum_ofFn]

theorem lanes_sum (x : V16 Ideal) (i : S16.Idx) : (norm x i : EReal) = ∑ j : Fin 16, (x (ix1 j) : EReal) := by
  show (Ideal.ofBits .f32 0x00000000#32 : EReal) + tree Scalar.addf (Scalar.ofBits .f32 0x00000000#32) 4 (lanes x) = _
  rw [Ideal.ofBits_zero_f32, zero_add, tree_sum (M := EReal) Scalar.addf _ (fun a => a) (fun _ _ => rfl) 4 (lanes x) (by simp [lanes]) (by simp [lanes]),
    lanes_eq, List.map_id', List.sum_ofFn]

theorem gVals_eq (G : S32x512.Idx → Ideal .f32) (c : ℕ) :
    gVals G c = gAt G 29 c :: List.ofFn fun o : Fin 29 => gAt G (⟨o.val, by omega⟩ : Fin 32) c := rfl

theorem vVals_eq (X : S512x32.Idx → Ideal .f32) (b l : ℕ) : vVals X b l = List.ofFn fun j : Fin 16 => vAt X (b + j.val) l := rfl

/-! ## What the tile reads, and what it carries -/

/-- The tile's buffers hold the batch `P`: the first buffer the scores' coefficients, the second the projected rows. -/
structure Fits (E : Env Ideal) (P : Par) (γ : Fin 29 → Fin 512 → ℝ) (δ : Fin 512 → ℝ) : Prop where
  hG : ∀ (o : Fin 29) (p : Fin 512), E.G (ix2 (⟨o.val, by omega⟩ : Fin 32) p) = ((γ o p : ℝ) : EReal)
  hD : ∀ p : Fin 512, E.G (ix2 (29 : Fin 32) p) = ((δ p : ℝ) : EReal)
  hs : ∀ (q : Fin 29 → ℝ) (p : Fin 512), δ p + ∑ o, q o * γ o p = P.sc q p
  hX : ∀ (p : Fin 512) (o : Fin 29), E.X (ix2 p (⟨o.val, by omega⟩ : Fin 32)) = ((P.vv p o : ℝ) : EReal)
  ln : E.ln = iota .scVector S16 32 [0] Facts₀.iota_S16_d0_w32_scVector
  len : E.len = fun _ => P.len
  b0 : ∀ j : Fin 16, E.b0 (ix1 j) = ((P.bo ⟨j.val, by omega⟩ : ℝ) : EReal)
  b1 : ∀ (j : Fin 16) (h : j.val < 13), E.b1 (ix1 j) = ((P.bo ⟨16 + j.val, by omega⟩ : ℝ) : EReal)
  ninf : E.ninf = (⊥ : EReal)

/-- The carried halves hold the query `s`. -/
def Rel (q : V16 Ideal × V16 Ideal) (s : Fin 29 → ℝ) : Prop :=
  (∀ j : Fin 16, q.1 (ix1 j) = ((s ⟨j.val, by omega⟩ : ℝ) : EReal))
    ∧ ∀ (j : Fin 16) (h : j.val < 13), q.2 (ix1 j) = ((s ⟨16 + j.val, by omega⟩ : ℝ) : EReal)

theorem Rel.lanes {q : V16 Ideal × V16 Ideal} {s : Fin 29 → ℝ} (h : Rel q s) :
    Step.lanes q.1 ++ Step.lanes q.2 = List.ofFn (fun o : Fin 29 => ((s o : ℝ) : EReal)) ++ [q.2 (ix1 13), q.2 (ix1 14), q.2 (ix1 15)] := by
  rw [lanes_eq, lanes_eq]
  refine List.ext_getElem (by simp) ?_
  intro k h1 h2
  have hk : k < 32 := by simpa using h1
  by_cases h16 : k < 16
  · rw [List.getElem_append_left (by simpa using h16), List.getElem_append_left (by simpa using (by omega : k < 29)), List.getElem_ofFn, List.getElem_ofFn]
    exact h.1 ⟨k, h16⟩
  · rw [List.getElem_append_right (by simpa using h16), List.getElem_ofFn]
    by_cases h29 : k < 29
    · rw [List.getElem_append_left (by simpa using h29), List.getElem_ofFn]
      refine (h.2 ⟨k - 16, by omega⟩ (by simp only; omega)).trans (congrArg (fun o => ((s o : ℝ) : EReal)) (Fin.ext ?_))
      simp only; omega
    · obtain rfl | rfl | rfl : k = 29 ∨ k = 30 ∨ k = 31 := by omega
      all_goals rfl

variable {E : Env Ideal} {P : Par} {γ : Fin 29 → Fin 512 → ℝ} {δ : Fin 512 → ℝ} (hE : Fits E P γ δ)

include hE

theorem score_eq {q : V16 Ideal × V16 Ideal} {s : Fin 29 → ℝ} (h : Rel q s) (c : ℕ) (hc : c + 16 ≤ 512) (j : Fin 16) :
    score q.1 q.2 (gVals E.G c) (ix1 j) = ((P.sc s ⟨c + j.val, by omega⟩ : ℝ) : EReal) := by
  have g : ∀ r : Fin 32, gAt E.G r c (ix1 j) = E.G (ix2 r (⟨c + j.val, by omega⟩ : Fin 512)) := by
    intro r
    refine congrArg (fun x => E.G (ix2 r x)) (Fin.ext ?_)
    show (c + j.val) % 512 = _
    exact Nat.mod_eq_of_lt (by omega)
  unfold score
  rw [gVals_eq]
  show tree addf z16 5 (_ :: scale _ _) (ix1 j) = _
  rw [tree_lane 5 _ (by simp) (by simp [scale_len, Step.lanes]), List.map_cons, List.sum_cons, h.lanes, scale_sum, g, hE.hD]
  simp only [g, hE.hG]
  rw [← hE.hs, EReal.coe_add, coe_sum]
  simp only [EReal.coe_mul]

/-- The weights of sixteen positions from `c`, before the division. -/
theorem expo_eq {q : V16 Ideal × V16 Ideal} {s : Fin 29 → ℝ} (h : Rel q s) {t : ℕ} (ht : t < 512) (c : ℕ) (hc : c + 16 ≤ 512)
    (pos : IVec S16 32) (hp : ∀ j : Fin 16, pos (ix1 j) = BitVec.ofNat 32 (c + j.val)) (j : Fin 16) :
    expo E.ninf (valid (BitVec.ofNat 32 t) pos E.len) (score q.1 q.2 (gVals E.G c)) (ix1 j) = ((P.ev s t ⟨c + j.val, by omega⟩ : ℝ) : EReal) := by
  classical
  have hv : valid (BitVec.ofNat 32 t) pos E.len (ix1 j) = BitVec.ofBool (decide (P.ok t ⟨c + j.val, by omega⟩)) := by
    rw [hE.len, ← ok_word P t ht, ← hp]; rfl
  show Ideal.exp (Scalar.select (valid (BitVec.ofNat 32 t) pos E.len (ix1 j)) (score q.1 q.2 (gVals E.G c) (ix1 j)) E.ninf) = _
  rw [hv, score_eq hE h c hc, hE.ninf]
  unfold Par.ev
  by_cases ho : P.ok t ⟨c + j.val, by omega⟩
  · rw [if_pos ho, decide_eq_true ho]; rfl
  · rw [if_neg ho, decide_eq_false ho]; rfl

/-- The next query's low lanes from sixteen weights. -/
theorem rows_lo (w : V16 Ideal) (b : ℕ) (hb : b + 16 ≤ 512) (ω : Fin 512 → ℝ) (hw : ∀ j : Fin 16, w (ix1 j) = ((ω ⟨b + j.val, by omega⟩ : ℝ) : EReal)) (i : Fin 16) :
    ((scale (Step.lanes w) (vVals E.X b 0)).map fun x => (x (ix1 i) : EReal)).sum
      = ((∑ j : Fin 16, ω ⟨b + j.val, by omega⟩ * P.vv ⟨b + j.val, by omega⟩ ⟨i.val, by omega⟩ : ℝ) : EReal) := by
  have g : ∀ j : Fin 16, vAt E.X (b + j.val) 0 (ix1 i) = E.X (ix2 (⟨b + j.val, by omega⟩ : Fin 512) (⟨i.val, by omega⟩ : Fin 32)) := by
    intro j
    refine congrArg₂ (fun x y => E.X (ix2 x y)) (Fin.ext ?_) (Fin.ext ?_)
    · show (b + j.val) % 512 = _
      exact Nat.mod_eq_of_lt (by omega)
    · show (0 + i.val) % 32 = i.val
      omega
  have hs := scale_sum (fun j : Fin 16 => w (ix1 j)) (fun j : Fin 16 => vAt E.X (b + j.val) 0) [] (ix1 i)
  rw [List.append_nil] at hs
  rw [lanes_eq, vVals_eq, hs, coe_sum]
  refine Finset.sum_congr rfl fun j _ => ?_
  rw [g, hw, hE.hX _ ⟨i.val, by omega⟩, EReal.coe_mul]

theorem rows_hi (w : V16 Ideal) (b : ℕ) (hb : b + 16 ≤ 512) (ω : Fin 512 → ℝ) (hw : ∀ j : Fin 16, w (ix1 j) = ((ω ⟨b + j.val, by omega⟩ : ℝ) : EReal)) (i : Fin 16) (hi : i.val < 13) :
    ((scale (Step.lanes w) (vVals E.X b 16)).map fun x => (x (ix1 i) : EReal)).sum
      = ((∑ j : Fin 16, ω ⟨b + j.val, by omega⟩ * P.vv ⟨b + j.val, by omega⟩ ⟨16 + i.val, by omega⟩ : ℝ) : EReal) := by
  have g : ∀ j : Fin 16, vAt E.X (b + j.val) 16 (ix1 i) = E.X (ix2 (⟨b + j.val, by omega⟩ : Fin 512) (⟨16 + i.val, by omega⟩ : Fin 32)) := by
    intro j
    refine congrArg₂ (fun x y => E.X (ix2 x y)) (Fin.ext ?_) (Fin.ext ?_)
    · show (b + j.val) % 512 = _
      exact Nat.mod_eq_of_lt (by omega)
    · show (16 + i.val) % 32 = 16 + i.val
      omega
  have hs := scale_sum (fun j : Fin 16 => w (ix1 j)) (fun j : Fin 16 => vAt E.X (b + j.val) 16) [] (ix1 i)
  rw [List.append_nil] at hs
  rw [lanes_eq, vVals_eq, hs, coe_sum]
  refine Finset.sum_congr rfl fun j _ => ?_
  rw [g, hw, hE.hX _ ⟨16 + i.val, by omega⟩, EReal.coe_mul]

omit hE in
/-- Division of a row of weights by its normaliser. -/
theorem divf_eq (e n : V16 Ideal) (a b : ℝ) (i : S16.Idx) (he : e i = ((a : ℝ) : EReal)) (hn : n i = ((b : ℝ) : EReal)) (hb : b ≠ 0) :
    divf e n i = ((a / b : ℝ) : EReal) := by
  show Ideal.div (e i) (n i) = _
  rw [he, hn, div_coe a b hb]

omit hE in
theorem sum_two (f : Fin 512 → ℝ) (b : ℕ) (hb : b + 32 ≤ 512) (h : ∀ p : Fin 512, ¬ (b ≤ p.val ∧ p.val < b + 32) → f p = 0) :
    ∑ p, f p = ∑ j : Fin 16, f ⟨b + j.val, by omega⟩ + ∑ j : Fin 16, f ⟨b + 16 + j.val, by omega⟩ := by
  rw [sum_window f b 32 hb h, Fin.sum_univ_add (a := 16) (b := 16)]
  refine congrArg₂ (· + ·) rfl (Finset.sum_congr rfl fun j _ => congrArg f (Fin.ext ?_))
  show b + (16 + j.val) = b + 16 + j.val
  omega

/-- The window's base at row `t`. -/
def wb (t : ℕ) : ℕ := min 480 ((t - 5) / 16 * 16)

omit hE in
theorem base_nat {t : ℕ} (ht : t < 512) : (baseOf (BitVec.ofNat 32 t)).toNat = wb t := by
  rw [base_eq ⟨t, ht⟩, BitVec.toNat_ofNat, Nat.mod_eq_of_lt]
  · rfl
  · simp only; omega

omit hE in
theorem iota_lane (j : Fin 16) : iota .scVector S16 32 [0] Facts₀.iota_S16_d0_w32_scVector (ix1 j) = BitVec.ofNat 32 j.val := by
  show BitVec.ofNat 32 (0 * 16 + j.val) = _
  rw [Nat.zero_mul, Nat.zero_add]

theorem pos0_eq {t : ℕ} (ht : t < 512) (j : Fin 16) : pos0 (baseOf (BitVec.ofNat 32 t)) E.ln (ix1 j) = BitVec.ofNat 32 (wb t + j.val) := by
  rw [base_eq ⟨t, ht⟩, hE.ln]
  show BitVec.ofNat 32 (wb t) + iota .scVector S16 32 [0] Facts₀.iota_S16_d0_w32_scVector (ix1 j) = _
  rw [iota_lane, BitVec.ofNat_add]

theorem pos1_eq {t : ℕ} (ht : t < 512) (j : Fin 16) : pos1 (baseOf (BitVec.ofNat 32 t)) E.ln (ix1 j) = BitVec.ofNat 32 (wb t + 16 + j.val) := by
  show pos0 (baseOf (BitVec.ofNat 32 t)) E.ln (ix1 j) + BitVec.ofNat 32 16 = _
  rw [pos0_eq hE ht, ← BitVec.ofNat_add]
  congr 1; omega

/-- What a row leaves, against the real recurrence. -/
def Good (P : Par) (s : Fin 29 → ℝ) (t : ℕ) (O : Out Ideal) : Prop :=
  Rel (O.q0, O.q1) (P.nxt s t)
    ∧ ∀ j : Fin 16, (∀ h : wb t + j.val < 512, O.w0 (ix1 j) = ((P.wgt s t ⟨wb t + j.val, h⟩ : ℝ) : EReal))
      ∧ ∀ h : wb t + 16 + j.val < 512, O.w1 (ix1 j) = ((P.wgt s t ⟨wb t + 16 + j.val, h⟩ : ℝ) : EReal)

omit hE in
theorem wb_le (t : ℕ) : wb t + 32 ≤ 512 := by unfold wb; omega

omit hE in
theorem ok_in {t : ℕ} (ht : t < 512) {p : Fin 512} (h : P.ok t p) : wb t ≤ p.val ∧ p.val < wb t + 32 := by
  obtain ⟨h1, h2, -⟩ := h
  unfold wb; omega
omit hE in
theorem ok_light {t : ℕ} (h : t < 11 ∨ (t < 491 ∧ 10 ≤ (t - 11) % 16)) {p : Fin 512} (hp : P.ok t p) : p.val < wb t + 16 := by
  obtain ⟨h1, h2, -⟩ := hp
  unfold wb; omega
omit hE in
theorem ok_hi {t : ℕ} (h : 501 ≤ t) {p : Fin 512} (hp : P.ok t p) : wb t + 16 ≤ p.val := by
  obtain ⟨h1, h2, -⟩ := hp
  unfold wb; omega

/-- The sixteen-row step of the low or the high half alone. -/
theorem half_eq {q : V16 Ideal × V16 Ideal} {s : Fin 29 → ℝ} (h : Rel q s) {t : ℕ} (ht : t < 512) (hl : (t : ℤ) < P.len.toInt)
    (c : ℕ) (hc : c + 16 ≤ 512) (hs : ∀ p : Fin 512, P.ok t p → c ≤ p.val ∧ p.val < c + 16)
    (pos : IVec S16 32) (hp : ∀ j : Fin 16, pos (ix1 j) = BitVec.ofNat 32 (c + j.val)) :
    let e := expo E.ninf (valid (BitVec.ofNat 32 t) pos E.len) (score q.1 q.2 (gVals E.G c))
    let w := divf e (norm e)
    (∀ j : Fin 16, w (ix1 j) = ((P.wgt s t ⟨c + j.val, by omega⟩ : ℝ) : EReal))
      ∧ Rel (tree addf z16 5 (E.b0 :: scale (Step.lanes w) (vVals E.X c 0)), tree addf z16 5 (E.b1 :: scale (Step.lanes w) (vVals E.X c 16))) (P.nxt s t) := by
  intro e w
  have he : ∀ j : Fin 16, e (ix1 j) = ((P.ev s t ⟨c + j.val, by omega⟩ : ℝ) : EReal) := expo_eq hE h ht c hc pos hp
  have hn : ∀ j : Fin 16, norm e (ix1 j) = ((P.tot s t : ℝ) : EReal) := by
    intro j
    rw [lanes_sum]
    unfold Par.tot
    rw [sum_window (P.ev s t) c 16 hc fun p hp => Par.ev_of_not s fun ho => hp (hs p ho), coe_sum]
    exact Finset.sum_congr rfl fun j _ => he j
  have hw : ∀ j : Fin 16, w (ix1 j) = ((P.wgt s t ⟨c + j.val, by omega⟩ : ℝ) : EReal) :=
    fun j => divf_eq e (norm e) _ _ (ix1 j) (he j) (hn j) (Par.tot_pos s ht hl).ne'
  have hz : ∀ o, ∑ p, P.wgt s t p * P.vv p o = ∑ j : Fin 16, P.wgt s t ⟨c + j.val, by omega⟩ * P.vv ⟨c + j.val, by omega⟩ o := fun o =>
    sum_window (fun p => P.wgt s t p * P.vv p o) c 16 hc fun p hp => by rw [Par.wgt_of_not s fun ho => hp (hs p ho), zero_mul]
  refine ⟨hw, fun i => ?_, fun i hi => ?_⟩
  · show tree addf z16 5 _ (ix1 i) = _
    rw [tree_lane 5 _ (by simp) (by simp [scale_len, Step.lanes, vVals]), List.map_cons, List.sum_cons, rows_lo hE w c hc (P.wgt s t) hw, hE.b0,
      ← EReal.coe_add]
    unfold Par.nxt; rw [hz]
  · show tree addf z16 5 _ (ix1 i) = _
    rw [tree_lane 5 _ (by simp) (by simp [scale_len, Step.lanes, vVals]), List.map_cons, List.sum_cons, rows_hi hE w c hc (P.wgt s t) hw i hi, hE.b1 i hi,
      ← EReal.coe_add]
    unfold Par.nxt; rw [hz]

omit hE in
theorem z16_eq (i : S16.Idx) : (z16 : V16 Ideal) i = ((0 : ℝ) : EReal) := by
  show Ideal.ofBits .f32 0x00000000#32 = _
  rw [Ideal.ofBits_zero_f32]; rfl

theorem light_good {q : V16 Ideal × V16 Ideal} {s : Fin 29 → ℝ} (h : Rel q s) {t : ℕ} (ht : t < 512) (hl : (t : ℤ) < P.len.toInt)
    (hk : t < 11 ∨ (t < 491 ∧ 10 ≤ (t - 11) % 16)) : Good P s t (lightP E (BitVec.ofNat 32 t) (baseOf (BitVec.ofNat 32 t)) q) := by
  have hb := wb_le t
  have H := half_eq hE h ht hl (wb t) (by omega) (fun p ho => ⟨(ok_in ht ho).1, ok_light hk ho⟩) _ (pos0_eq hE ht)
  unfold lightP
  rw [base_nat ht]
  refine ⟨H.2, fun j => ⟨fun _ => H.1 j, fun hj => ?_⟩⟩
  rw [Par.wgt_of_not s fun ho => ?_]
  · exact z16_eq (ix1 j)
  · have := ok_light hk ho
    simp only at this; omega

theorem hi_good {q : V16 Ideal × V16 Ideal} {s : Fin 29 → ℝ} (h : Rel q s) {t : ℕ} (ht : t < 512) (hl : (t : ℤ) < P.len.toInt)
    (hk : 501 ≤ t) : Good P s t (hiP E (BitVec.ofNat 32 t) (baseOf (BitVec.ofNat 32 t)) (Scalar.addi (baseOf (BitVec.ofNat 32 t)) 16#32) q) := by
  have hb := wb_le t
  have H := half_eq hE h ht hl (wb t + 16) (by omega) (fun p ho => ⟨ok_hi hk ho, by have := ok_in ht ho; omega⟩) _ (pos1_eq hE ht)
  unfold hiP
  rw [show (Scalar.addi (baseOf (BitVec.ofNat 32 t)) 16#32).toNat = wb t + 16 from hi_eq ⟨t, ht⟩]
  refine ⟨H.2, fun j => ⟨fun hj => ?_, fun _ => H.1 j⟩⟩
  rw [Par.wgt_of_not s fun ho => ?_]
  · exact z16_eq (ix1 j)
  · have := ok_hi hk ho
    simp only at this; omega

theorem full_good {q : V16 Ideal × V16 Ideal} {s : Fin 29 → ℝ} (h : Rel q s) {t : ℕ} (ht : t < 512) (hl : (t : ℤ) < P.len.toInt) :
    Good P s t (fullP E (BitVec.ofNat 32 t) (baseOf (BitVec.ofNat 32 t)) (Scalar.addi (baseOf (BitVec.ofNat 32 t)) 16#32) q) := by
  have hb := wb_le t
  have he0 := expo_eq hE h ht (wb t) (by omega) _ (pos0_eq hE ht)
  have he1 := expo_eq hE h ht (wb t + 16) (by omega) _ (pos1_eq hE ht)
  unfold fullP
  rw [show (Scalar.addi (baseOf (BitVec.ofNat 32 t)) 16#32).toNat = wb t + 16 from hi_eq ⟨t, ht⟩, base_nat ht]
  dsimp only
  generalize expo E.ninf (valid (BitVec.ofNat 32 t) (pos0 (baseOf (BitVec.ofNat 32 t)) E.ln) E.len) (score q.1 q.2 (gVals E.G (wb t))) = e0 at he0 ⊢
  generalize expo E.ninf (valid (BitVec.ofNat 32 t) (pos1 (baseOf (BitVec.ofNat 32 t)) E.ln) E.len) (score q.1 q.2 (gVals E.G (wb t + 16))) = e1 at he1 ⊢
  have hn : ∀ j : Fin 16, norm (addf e0 e1) (ix1 j) = ((P.tot s t : ℝ) : EReal) := by
    intro j
    rw [lanes_sum]
    unfold Par.tot
    rw [sum_two (P.ev s t) (wb t) hb fun p hp => Par.ev_of_not s fun ho => hp (ok_in ht ho), EReal.coe_add, coe_sum, coe_sum, ← Finset.sum_add_distrib]
    refine Finset.sum_congr rfl fun j _ => ?_
    rw [← he0 j, ← he1 j]; rfl
  have hw0 := fun j => divf_eq e0 _ _ _ (ix1 j) (he0 j) (hn j) (Par.tot_pos s ht hl).ne'
  have hw1 := fun j => divf_eq e1 _ _ _ (ix1 j) (he1 j) (hn j) (Par.tot_pos s ht hl).ne'
  generalize divf e0 (norm (addf e0 e1)) = w0 at hw0 ⊢
  generalize divf e1 (norm (addf e0 e1)) = w1 at hw1 ⊢
  have hz : ∀ o, ∑ p, P.wgt s t p * P.vv p o = _ := fun o =>
    sum_two (fun p => P.wgt s t p * P.vv p o) (wb t) hb fun p hp => by rw [Par.wgt_of_not s fun ho => hp (ok_in ht ho), zero_mul]
  refine ⟨⟨fun i => ?_, fun i hi => ?_⟩, fun j => ⟨fun _ => hw0 j, fun _ => hw1 j⟩⟩
  · show tree addf z16 6 _ (ix1 i) = _
    rw [tree_lane 6 _ (by simp) (by simp [scale_len, Step.lanes, vVals]), List.map_cons, List.sum_cons, List.map_append, List.sum_append,
      rows_lo hE w0 (wb t) (by omega) (P.wgt s t) hw0, rows_lo hE w1 (wb t + 16) (by omega) (P.wgt s t) hw1, hE.b0, ← EReal.coe_add, ← EReal.coe_add]
    unfold Par.nxt; rw [hz]
  · show tree addf z16 6 _ (ix1 i) = _
    rw [tree_lane 6 _ (by simp) (by simp [scale_len, Step.lanes, vVals]), List.map_cons, List.sum_cons, List.map_append, List.sum_append,
      rows_hi hE w0 (wb t) (by omega) (P.wgt s t) hw0 i hi, rows_hi hE w1 (wb t + 16) (by omega) (P.wgt s t) hw1 i hi, hE.b1 i hi, ← EReal.coe_add, ← EReal.coe_add]
    unfold Par.nxt; rw [hz]

theorem step_good {q : V16 Ideal × V16 Ideal} {s : Fin 29 → ℝ} (h : Rel q s) {t : ℕ} (ht : t < 512) (hl : (t : ℤ) < P.len.toInt) :
    Good P s t (stepP E t q) := by
  unfold stepP
  simp only
  split
  · rename_i hk; exact light_good hE h ht hl hk
  · split
    · exact full_good hE h ht hl
    · exact hi_good hE h ht hl (by omega)

omit hE in
theorem nine : Ideal.ofBits .f32 0x41100000#32 = ((9 : ℝ) : EReal) := by
  simp [Ideal.ofBits, Ideal.ieee, ← EReal.coe_mul]; norm_num
omit hE in
theorem one : Ideal.ofBits .f32 0x3F800000#32 = ((1 : ℝ) : EReal) := by
  simp [Ideal.ofBits, Ideal.ieee, ← EReal.coe_mul]; norm_cast; norm_num

omit hE in
theorem init_rel : Rel (qInit (F := Ideal)) Par.q0 := by
  refine ⟨fun j => ?_, fun j h => ?_⟩
  · show Ideal.ofBits .f32 0x3F800000#32 = _
    unfold Par.q0
    rw [one, if_neg (by simp only; omega)]
  · show Scalar.select (IntOp.cmpi .eq (iota .scVector S16 32 [0] Facts₀.iota_S16_d0_w32_scVector (ix1 j)) 12#32) (Ideal.ofBits .f32 0x41100000#32) (Ideal.ofBits .f32 0x3F800000#32) = _
    unfold Par.q0
    rw [nine, one, iota_lane]
    by_cases hj : j.val = 12
    · obtain rfl : j = 12 := Fin.ext hj
      rw [if_pos (show 16 + (12 : Fin 16).val = 28 from rfl)]; rfl
    · rw [if_neg (by simp only; omega)]
      have : IntOp.cmpi .eq (BitVec.ofNat 32 j.val) 12#32 = 0#1 := by
        revert hj; revert j; decide
      rw [this]; rfl

/-- Into every row whose earlier rows are below the length, the carried query is the real one. -/
theorem carry_rel : ∀ t : ℕ, t ≤ 512 → (t : ℤ) ≤ P.len.toInt → Rel (carry E qInit t) (P.qs t)
  | 0, _, _ => init_rel
  | t + 1, h, hl => (step_good hE (carry_rel t (by omega) (by omega)) (by omega) (by omega)).1

theorem out_good {t : ℕ} (ht : t < 512) (hl : (t : ℤ) < P.len.toInt) : Good P (P.qs t) t (outAt E qInit t) :=
  step_good hE (carry_rel hE t ht.le hl.le) ht hl

end Cert.Math
-- ==== Proof.ProjMath.lean ====
/- The first kernel's payloads at an index, over the extended reals. -/
module

public import proofs.«01_k».proof.Proof.Spec
public import proofs.«01_k».proof.Proof.Gen.KernelIdeal.Skeleton
public import Idealize.ShloMosaic.Lib.Pointwise

@[expose] public section

noncomputable section

namespace Cert.Math

open Cert.KernelIdeal Cert.KernelIdeal.Gen
open Idealize.ShloMosaic

/-- The scale of the scores, as its word reads. -/
def cS : ℝ := EReal.toReal (Ideal.ofBits .f32 0x3D13CD3A#32)

theorem cS_coe : (Ideal.ofBits .f32 0x3D13CD3A#32 : EReal) = ((cS : ℝ) : EReal) := by
  have h : ∃ r : ℝ, (Ideal.ofBits .f32 0x3D13CD3A#32 : EReal) = (r : EReal) := by
    unfold Ideal.ofBits Ideal.ieee
    simp only
    rw [if_neg (by decide), if_neg (by decide)]
    exact ⟨_, rfl⟩
  unfold cS
  obtain ⟨r, hr⟩ := h
  rw [hr, EReal.toReal_coe]

set_option maxRecDepth 16384

variable (w : Fin 2048 → Fin 768 → ℝ) (wq : Fin 29 → Fin 768 → ℝ) (bq : Fin 768 → ℝ) (wo : Fin 768 → Fin 29 → ℝ) (bi : Fin 768 → ℝ)
  (a1 : Vec Ideal S2048x768 .f32) (a2 : Vec Ideal S1x768 .f32) (a3 : Vec Ideal S29x768 .f32) (a4 : Vec Ideal S1x768 .f32) (a5 : Vec Ideal S768x29 .f32)
  (h1 : ∀ d e, a1 (ix2 d e) = ((w d e : ℝ) : EReal)) (h2 : ∀ e, a2 (ix2 0 e) = ((bi e : ℝ) : EReal))
  (h3 : ∀ o e, a3 (ix2 o e) = ((wq o e : ℝ) : EReal)) (h4 : ∀ e, a4 (ix2 0 e) = ((bq e : ℝ) : EReal)) (h5 : ∀ e o, a5 (ix2 e o) = ((wo e o : ℝ) : EReal))

include h1 h3 in
theorem combA_q (d : Fin 2048) (o : Fin 29) :
    k0_pay6 a1 a3 a4 a5 (ix2 d (⟨o.val, by omega⟩ : Fin 64)) = (((∑ e, w d e * wq o e) * cS : ℝ) : EReal) := by
  pointwise [k0_pay6]
  simp only [h1, h3, cS_coe, ← EReal.coe_mul, ← coe_sum]

include h1 h4 in
theorem combA_b (d : Fin 2048) :
    k0_pay6 a1 a3 a4 a5 (ix2 d (29 : Fin 64)) = (((∑ e, w d e * bq e) * cS : ℝ) : EReal) := by
  pointwise [k0_pay6, k0_pay5]
  simp only [h1, h4, cS_coe, ← EReal.coe_mul, ← coe_sum]

include h1 h5 in
theorem combA_o (d : Fin 2048) (o : Fin 29) :
    k0_pay6 a1 a3 a4 a5 (ix2 d (⟨32 + o.val, by omega⟩ : Fin 64)) = ((∑ e, w d e * wo e o : ℝ) : EReal) := by
  have := o.isLt
  pointwise [k0_pay6]
  rw [dif_neg (by omega), dif_neg (by omega), dif_neg (by omega), dif_pos (by omega)]
  simp only [h1, h5, ← EReal.coe_mul, ← coe_sum]
  refine congrArg _ (Finset.sum_congr rfl fun e _ => congrArg (w d e * wo e ·) (Fin.ext ?_))
  simp only; omega

include h2 h3 in
theorem combC_q (o : Fin 29) :
    k0_pay1 (k0_pay7 a3 a4 a5 a2) (ix2 0 (⟨o.val, by omega⟩ : Fin 64)) = (((∑ e, bi e * wq o e) * cS : ℝ) : EReal) := by
  pointwise [k0_pay1, k0_pay7]
  simp only [h2, h3, cS_coe, ← EReal.coe_mul, ← coe_sum]

include h2 h4 in
theorem combC_b : k0_pay1 (k0_pay7 a3 a4 a5 a2) (ix2 0 (29 : Fin 64)) = (((∑ e, bi e * bq e) * cS : ℝ) : EReal) := by
  pointwise [k0_pay1, k0_pay7, k0_pay5]
  simp only [h2, h4, cS_coe, ← EReal.coe_mul, ← coe_sum]

include h2 h5 in
theorem combC_o (o : Fin 29) :
    k0_pay1 (k0_pay7 a3 a4 a5 a2) (ix2 0 (⟨32 + o.val, by omega⟩ : Fin 64)) = ((∑ e, bi e * wo e o : ℝ) : EReal) := by
  have := o.isLt
  pointwise [k0_pay1, k0_pay7]
  rw [dif_neg (by omega), dif_neg (by omega), dif_neg (by omega), dif_pos (by omega)]
  simp only [h2, h5, ← EReal.coe_mul, ← coe_sum]
  refine congrArg _ (Finset.sum_congr rfl fun e _ => congrArg (bi e * wo e ·) (Fin.ext ?_))
  simp only; omega

variable (x : Fin 1024 → Fin 2048 → ℝ) (a0 : Vec Ideal S1024x2048 .f32) (h0 : ∀ r d, a0 (ix2 r d) = ((x r d : ℝ) : EReal))
  (A : Vec Ideal S2048x64 .f32) (C : Vec Ideal S1x64 .f32)

include h0 in
/-- A block of the first result, from real columns. -/
theorem outG_pt (o : Fin 32) (f : Fin 2048 → ℝ) (g : ℝ) (hA : ∀ d, A (ix2 d (⟨o.val, by omega⟩ : Fin 64)) = ((f d : ℝ) : EReal))
    (hC : C (ix2 0 (⟨o.val, by omega⟩ : Fin 64)) = ((g : ℝ) : EReal)) (r : Fin 1024) :
    k0_pay3 a0 A C (ix2 o r) = ((∑ d, f d * x r d + g : ℝ) : EReal) := by
  pointwise [k0_pay3, k0_pay2]
  simp only [h0, hA, hC, ← EReal.coe_mul, ← coe_sum, ← EReal.coe_add]

include h0 in
/-- A block of the second result, from real columns. -/
theorem outV_pt (o : Fin 32) (f : Fin 2048 → ℝ) (g : ℝ) (hA : ∀ d, A (ix2 d (⟨32 + o.val, by omega⟩ : Fin 64)) = ((f d : ℝ) : EReal))
    (hC : C (ix2 0 (⟨32 + o.val, by omega⟩ : Fin 64)) = ((g : ℝ) : EReal)) (r : Fin 1024) :
    k0_pay4 a0 A C (ix2 r o) = ((∑ d, x r d * f d + g : ℝ) : EReal) := by
  pointwise [k0_pay4, k0_pay2]
  simp only [h0, hA, hC, ← EReal.coe_mul, ← coe_sum, ← EReal.coe_add]

end Cert.Math
-- ==== Proof.ProjArr.lean ====
/- The first call's two results at an index, over the extended reals. -/
module

public import proofs.«01_k».proof.Proof.ProjMath
public import proofs.«01_k».proof.Proof.Proj
public import Idealize.ShloMosaic.Lib.Pipeline.ValueKit

@[expose] public section

set_option maxRecDepth 16384

noncomputable section

namespace Cert.Proof.Proj

open Cert.KernelIdeal Cert.KernelIdeal.Gen Cert.Math
open Idealize.ShloMosaic Idealize.ShloMosaic.TcCoe
open Idealize.ShloMosaic.Pipeline (Dat Cfg Window)

variable (n : ℕ) (V : (c : Dev nD) → (b : Ref sig .tc) → Buf (Elt Ideal) ((c : Thread nD τ).loc b)) (c : Dev nD)

theorem idx6 : ∀ t : Fin cfg0.N, win0_6.index t = ![0, t.val] := by decide +kernel
theorem idx7 : ∀ t : Fin cfg0.N, win0_7.index t = ![t.val, 0] := by decide +kernel
theorem idx0 : ∀ t : Fin cfg0.N, win0_0.index t = ![t.val, 0] := by decide +kernel
theorem idx15 : ∀ t : Fin cfg0.N, win0_1.index t = ![0, 0] ∧ win0_2.index t = ![0, 0] ∧ win0_3.index t = ![0, 0] ∧ win0_4.index t = ![0, 0] ∧ win0_5.index t = ![0, 0] := by decide +kernel

theorem ptlt (k : Fin 8192) : k.val / 1024 < cfg0.N := by
  have h : cfg0.N = 8 := rfl
  omega

theorem blk0_at (t : Fin cfg0.N) (r : Fin 1024) (d : Fin 2048) :
    blk0 V c t (ix2 r d) = V c main_v0 (ix2 (⟨1024 * t.val + r.val, by have h : cfg0.N = 8 := rfl; omega⟩ : Fin 8192) d) := by
  unfold blk0
  blk_ext [idx0 t]
theorem blk1_at (t : Fin cfg0.N) (r : Fin 2048) (d : Fin 768) : blk1 V c t (ix2 r d) = V c main_arg3 (ix2 r d) := by
  unfold blk1
  blk_ext [(idx15 t).1]
theorem blk2_at (t : Fin cfg0.N) (r : Fin 1) (d : Fin 768) : blk2 V c t (ix2 r d) = V c main_v1 (ix2 r d) := by
  unfold blk2
  blk_ext [(idx15 t).2.1]
theorem blk3_at (t : Fin cfg0.N) (r : Fin 29) (d : Fin 768) : blk3 V c t (ix2 r d) = V c main_arg5 (ix2 r d) := by
  unfold blk3
  blk_ext [(idx15 t).2.2.1]
theorem blk4_at (t : Fin cfg0.N) (r : Fin 1) (d : Fin 768) : blk4 V c t (ix2 r d) = V c main_v2 (ix2 r d) := by
  unfold blk4
  blk_ext [(idx15 t).2.2.2.1]
theorem blk5_at (t : Fin cfg0.N) (r : Fin 768) (d : Fin 29) : blk5 V c t (ix2 r d) = V c main_arg7 (ix2 r d) := by
  unfold blk5
  blk_ext [(idx15 t).2.2.2.2]

theorem outG_eq : outG n V c = fun y : S32x8192.Idx =>
    k0_pay3 (blk0 V c ⟨(y 1).val / 1024, ptlt (y 1)⟩) (combA V c) (combC V c) (ix2 (y 0) (⟨(y 1).val % 1024, Nat.mod_lt _ (by decide)⟩ : Fin 1024)) := by
  unfold outG
  refine (dat n V c).arrAt_eq_of_covers 6 _ (by decide +kernel) fun t hf y => ?_
  have y1 : (y 1).val < 1024 := (y 1).isLt
  have e0 : (((cfg0.win 6).blk t).view.emb y 0 : ℕ) = (y 0).val := by blk_simp [idx6 t]
  have e1 : win0_6.index t 1 * 1024 + (y 1).val = t.val * 1024 + (y 1).val := by rw [idx6]; rfl
  blk_simp
  refine congrArg₂ (fun t y => k0_pay3 (blk0 V c t) (combA V c) (combC V c) y) (Fin.ext ?_) ?_
  · show t.val = (win0_6.index t 1 * 1024 + (y 1).val) / 1024
    rw [e1]; omega
  · funext a
    match a with
    | ⟨0, _⟩ => exact Fin.ext e0.symm
    | ⟨1, _⟩ =>
      refine Fin.ext ?_
      show (y 1).val = (win0_6.index t 1 * 1024 + (y 1).val) % 1024
      rw [e1]; omega

theorem outV_eq : outV n V c = fun y : S8192x32.Idx =>
    k0_pay4 (blk0 V c ⟨(y 0).val / 1024, ptlt (y 0)⟩) (combA V c) (combC V c) (ix2 (⟨(y 0).val % 1024, Nat.mod_lt _ (by decide)⟩ : Fin 1024) (y 1)) := by
  unfold outV
  refine (dat n V c).arrAt_eq_of_covers 7 _ (by decide +kernel) fun t hf y => ?_
  have y0 : (y 0).val < 1024 := (y 0).isLt
  have e0 : win0_7.index t 0 * 1024 + (y 0).val = t.val * 1024 + (y 0).val := by rw [idx7]; rfl
  have e1 : (((cfg0.win 7).blk t).view.emb y 1 : ℕ) = (y 1).val := by blk_simp [idx7 t]
  blk_simp
  refine congrArg₂ (fun t y => k0_pay4 (blk0 V c t) (combA V c) (combC V c) y) (Fin.ext ?_) ?_
  · show t.val = (win0_7.index t 0 * 1024 + (y 0).val) / 1024
    rw [e0]; omega
  · funext a
    match a with
    | ⟨1, _⟩ => exact Fin.ext e1.symm
    | ⟨0, _⟩ =>
      refine Fin.ext ?_
      show (y 0).val = (win0_7.index t 0 * 1024 + (y 0).val) % 1024
      rw [e0]; omega

variable (x : Fin 8192 → Fin 2048 → ℝ) (w : Fin 2048 → Fin 768 → ℝ) (wq : Fin 29 → Fin 768 → ℝ) (bq : Fin 768 → ℝ) (wo : Fin 768 → Fin 29 → ℝ) (bi : Fin 768 → ℝ)
  (h0 : ∀ r d, (V c main_v0 : S8192x2048.Idx → Ideal .f32) (ix2 r d) = ((x r d : ℝ) : EReal))
  (h1 : ∀ d e, (V c main_arg3 : S2048x768.Idx → Ideal .f32) (ix2 d e) = ((w d e : ℝ) : EReal))
  (h2 : ∀ e, (V c main_v1 : S1x768.Idx → Ideal .f32) (ix2 0 e) = ((bi e : ℝ) : EReal))
  (h3 : ∀ o e, (V c main_arg5 : S29x768.Idx → Ideal .f32) (ix2 o e) = ((wq o e : ℝ) : EReal))
  (h4 : ∀ e, (V c main_v2 : S1x768.Idx → Ideal .f32) (ix2 0 e) = ((bq e : ℝ) : EReal))
  (h5 : ∀ e o, (V c main_arg7 : S768x29.Idx → Ideal .f32) (ix2 e o) = ((wo e o : ℝ) : EReal))

include h0 in
theorem xs (t : Fin cfg0.N) (r : Fin 1024) (d : Fin 2048) :
    blk0 V c t (ix2 r d) = ((x ⟨1024 * t.val + r.val, by have h : cfg0.N = 8 := rfl; omega⟩ d : ℝ) : EReal) := by
  rw [blk0_at]; exact h0 _ _

theorem back (p : Fin 8192) (h : 1024 * (p.val / 1024) + p.val % 1024 < 8192) : (⟨1024 * (p.val / 1024) + p.val % 1024, h⟩ : Fin 8192) = p :=
  Fin.ext (Nat.div_add_mod p.val 1024)

include h0 h1 h2 h3 in
theorem outG_q (o : Fin 29) (p : Fin 8192) :
    (outG n V c : S32x8192.Idx → Ideal .f32) (ix2 (⟨o.val, by omega⟩ : Fin 32) p)
      = ((∑ d, (∑ e, w d e * wq o e) * cS * x p d + (∑ e, bi e * wq o e) * cS : ℝ) : EReal) := by
  rw [outG_eq]
  have H := outG_pt _ (blk0 V c ⟨p.val / 1024, ptlt p⟩) (xs V c x h0 _) (combA V c) (combC V c) ⟨o.val, by omega⟩ _ _
    (fun d => combA_q w wq _ _ _ _ (fun d e => (blk1_at V c t0_0 d e).trans (h1 d e)) (fun o e => (blk3_at V c t0_0 o e).trans (h3 o e)) d o)
    (combC_q wq bi _ _ _ _ (fun e => (blk2_at V c t0_0 0 e).trans (h2 e)) (fun o e => (blk3_at V c t0_0 o e).trans (h3 o e)) o)
    ⟨p.val % 1024, Nat.mod_lt _ (by decide)⟩
  refine H.trans ?_
  simp only [back p]

include h0 h1 h2 h4 in
theorem outG_b (p : Fin 8192) :
    (outG n V c : S32x8192.Idx → Ideal .f32) (ix2 (29 : Fin 32) p)
      = ((∑ d, (∑ e, w d e * bq e) * cS * x p d + (∑ e, bi e * bq e) * cS : ℝ) : EReal) := by
  rw [outG_eq]
  have H := outG_pt _ (blk0 V c ⟨p.val / 1024, ptlt p⟩) (xs V c x h0 _) (combA V c) (combC V c) 29 _ _
    (fun d => combA_b w bq _ _ _ _ (fun d e => (blk1_at V c t0_0 d e).trans (h1 d e)) (fun e => (blk4_at V c t0_0 0 e).trans (h4 e)) d)
    (combC_b bq bi _ _ _ _ (fun e => (blk2_at V c t0_0 0 e).trans (h2 e)) (fun e => (blk4_at V c t0_0 0 e).trans (h4 e)))
    ⟨p.val % 1024, Nat.mod_lt _ (by decide)⟩
  refine H.trans ?_
  simp only [back p]

include h0 h1 h2 h5 in
theorem outV_o (o : Fin 29) (p : Fin 8192) :
    (outV n V c : S8192x32.Idx → Ideal .f32) (ix2 p (⟨o.val, by omega⟩ : Fin 32))
      = ((∑ d, x p d * (∑ e, w d e * wo e o) + ∑ e, bi e * wo e o : ℝ) : EReal) := by
  rw [outV_eq]
  have H := outV_pt _ (blk0 V c ⟨p.val / 1024, ptlt p⟩) (xs V c x h0 _) (combA V c) (combC V c) ⟨o.val, by omega⟩ _ _
    (fun d => combA_o w wo _ _ _ _ (fun d e => (blk1_at V c t0_0 d e).trans (h1 d e)) (fun e o => (blk5_at V c t0_0 e o).trans (h5 e o)) d o)
    (combC_o wo bi _ _ _ _ (fun e => (blk2_at V c t0_0 0 e).trans (h2 e)) (fun e o => (blk5_at V c t0_0 e o).trans (h5 e o)) o)
    ⟨p.val % 1024, Nat.mod_lt _ (by decide)⟩
  refine H.trans ?_
  simp only [back p]

end Cert.Proof.Proj
-- ==== Proof.PostMath.lean ====
/- The last kernel's rows at an index, over the extended reals. -/
module

public import proofs.«01_k».proof.Proof.KernMath
public import proofs.«01_k».proof.Proof.Post
public import Idealize.ShloMosaic.Lib.Pointwise

@[expose] public section

set_option maxRecDepth 16384

noncomputable section

namespace Cert.Math

open Cert.KernelIdeal Cert.KernelIdeal.Gen
open Idealize.ShloMosaic

/-- The column of the box that holds a window with base `v`, as the body computes it. -/
def boxOf (v : BitVec 32) : BitVec 32 :=
  let q := Scalar.divsi v 128#32
  let sg : BitVec 32 := Scalar.subi (Scalar.extui (Scalar.cmpi .sgt v 0#32)) (Scalar.extui (Scalar.cmpi .slt v 0#32))
  let s8 : BitVec 32 := Scalar.subi (Scalar.extui (Scalar.cmpi .sgt 128#32 0#32)) (Scalar.extui (Scalar.cmpi .slt 128#32 0#32))
  Scalar.muli (Scalar.minsi (Scalar.select (Scalar.andi (Scalar.cmpi .ne sg s8) (Scalar.cmpi .ne (Scalar.remsi v 128#32) 0#32)) (Scalar.subi q 1#32) q) 2#32) 128#32

/-- The column of the box at row `t`. -/
def box (t : ℕ) : ℕ := min 2 (wb t / 128) * 128

theorem box_word : ∀ t : Fin 512, boxOf (BitVec.ofNat 32 (min 480 (((t.val - 5) / 16) * 16))) = BitVec.ofNat 32 (box t.val) := by decide +kernel

theorem row_word (i : grid2.Coords) (t : Fin k2_t1_loop.trips) :
    Scalar.addi (Scalar.muli (BitVec.ofNat 32 (i 0).val) 64#32) (Scf.iv 0#32 1#32 t) = BitVec.ofNat 32 (64 * (i 0).val + t.val) := by
  have h1 : (i 0).val < 8 := (i 0).isLt
  have h2 : t.val < 64 := t.isLt
  have e : Scf.iv 0#32 1#32 t.val = BitVec.ofNat 32 t.val := by
    unfold Scf.iv; simp
  rw [e]
  show BitVec.ofNat 32 (i 0).val * BitVec.ofNat 32 64 + BitVec.ofNat 32 t.val = _
  rw [← BitVec.ofNat_mul, ← BitVec.ofNat_add, Nat.mul_comm]

theorem row_lt' (i : grid2.Coords) (t : Fin k2_t1_loop.trips) : 64 * (i 0).val + t.val < 512 := by
  have h1 : (i 0).val < 8 := (i 0).isLt
  have h2 : t.val < 64 := t.isLt
  omega

theorem wbase_eq (i : grid2.Coords) (t : Fin k2_t1_loop.trips) :
    Proof.Post.wbase i t = BitVec.ofNat 32 (wb (64 * (i 0).val + t.val)) := by
  show Step.baseOf (Scalar.addi (Scalar.muli (BitVec.ofNat 32 (i 0).val) 64#32) (Scf.iv 0#32 1#32 t)) = _
  rw [row_word, Proof.base_eq ⟨_, row_lt' i t⟩]; rfl

theorem off2_eq (i : grid2.Coords) (t : Fin k2_t1_loop.trips) : k2_off2 i t = ![0, t.val, box (64 * (i 0).val + t.val)] := by
  have e : k2_off2 i t = ![0, (Scf.iv 0#32 1#32 t).toNat, (boxOf (Proof.Post.wbase i t)).toNat] := rfl
  have h2 : t.val < 64 := t.isLt
  have e1 : (Scf.iv 0#32 1#32 t.val).toNat = t.val := by
    unfold Scf.iv; simp; omega
  have hb : box (64 * (i 0).val + t.val) < 2 ^ 32 := by unfold box; omega
  rw [e, e1, wbase_eq]
  have := box_word ⟨_, row_lt' i t⟩
  rw [show boxOf (BitVec.ofNat 32 (wb (64 * (i 0).val + t.val))) = _ from this, BitVec.toNat_ofNat, Nat.mod_eq_of_lt hb]

theorem wb_box (t : ℕ) : box t ≤ wb t ∧ wb t + 32 ≤ box t + 256 ∧ box t + 256 ≤ 512 := by
  unfold box wb; omega

/-- A row of the second result: the thirty-two weights at the window's base on a row below the length, zeros elsewhere. -/
def rowT (x3 : Vec Ideal S16x1 .i32) (t : ℕ) (x : Fin 32 → Ideal .f32) (b : Fin 16) (p : ℕ) : EReal :=
  if h : wb t ≤ p ∧ p < wb t + 32 then (if (t : ℤ) < (x3 (ix2 b 0)).toInt then (x ⟨p - wb t, by omega⟩ : EReal) else 0) else 0

theorem off1_eq (t : Fin k2_t1_loop.trips) : k2_off1 t = ![0, t.val, 0] := by
  have e : k2_off1 t = ![0, (Scf.iv 0#32 1#32 t).toNat, 0] := rfl
  have h2 : t.val < 64 := t.isLt
  have e1 : (Scf.iv 0#32 1#32 t.val).toNat = t.val := by
    unfold Scf.iv; simp; omega
  rw [e, e1]

/-- What trip `t` stores, at a lane of the box. -/
theorem trow_at (i : grid2.Coords) (x3 : Vec Ideal S16x1 .i32) (x2 : S16x64x32.Idx → Elt Ideal .f32) (t : Fin k2_t1_loop.trips) (b : Fin 16) (l : Fin 256) :
    (Proof.Post.trow i x3 x2 t (ix3 b 0 l) : EReal)
      = rowT x3 (64 * (i 0).val + t.val) (fun k => x2 (ix3 b (⟨t.val, t.isLt⟩ : Fin 64) k)) b (box (64 * (i 0).val + t.val) + l.val) := by
  have hs : (Scalar.subi (BitVec.ofNat 32 (wb (64 * (i 0).val + t.val))) (boxOf (BitVec.ofNat 32 (wb (64 * (i 0).val + t.val))))).toNat
      = wb (64 * (i 0).val + t.val) - box (64 * (i 0).val + t.val) := by
    have hb := wb_box (64 * (i 0).val + t.val)
    rw [show boxOf (BitVec.ofNat 32 (wb (64 * (i 0).val + t.val))) = _ from box_word ⟨_, row_lt' i t⟩]
    show (BitVec.ofNat 32 _ - BitVec.ofNat 32 _).toNat = _
    rw [BitVec.toNat_sub, BitVec.toNat_ofNat, BitVec.toNat_ofNat]
    simp only
    omega
  unfold Proof.Post.trow
  rw [wbase_eq]
  simp only [boxOf] at hs
  have hb := wb_box (64 * (i 0).val + t.val)
  pointwise [k2_pay1, k2_pay2, k2_pay3]
  simp only [hs, row_word, off1_eq]
  rw [lt_word _ (row_lt' i t)]
  unfold rowT
  have hl := l.isLt
  generalize 64 * (i 0).val + t.val = T at *
  have hm : (wb T - box T) % 256 = wb T - box T := Nat.mod_eq_of_lt (by omega)
  simp only [hm]
  by_cases h : wb T ≤ box T + l.val ∧ box T + l.val < wb T + 32
  · have h' : (l.val + 256 - (wb T - box T)) % 256 = box T + l.val - wb T := by omega
    rw [dif_pos h, dif_pos (by omega)]
    by_cases ht : (T : ℤ) < (x3 (ix2 b 0)).toInt
    · rw [if_pos ht, decide_eq_true ht]
      show (x2 _ : EReal) = x2 _
      refine congrArg x2 ?_
      refine congr (congr (congrArg ix3 (Fin.ext ?_)) (Fin.ext ?_)) (Fin.ext ?_)
      · show 0 + b.val = b.val; omega
      · rfl
      · show 0 + (l.val + 256 - (wb T - box T)) % 256 = _
        simp only; omega
    · rw [if_neg ht, decide_eq_false ht]; rfl
  · rw [dif_neg h, dif_neg (by omega)]

/-- The block of weights after `k` trips: the rows below `k` are stored, the others zero. -/
theorem acc_at (i : grid2.Coords) (x3 : Vec Ideal S16x1 .i32) (x2 : S16x64x32.Idx → Elt Ideal .f32) (b : Fin 16) (r : Fin 64) (p : Fin 512) :
    ∀ k : ℕ, k ≤ 64 → (Proof.Post.acc i x3 x2 k (ix3 b r p) : EReal)
      = if r.val < k then rowT x3 (64 * (i 0).val + r.val) (fun k => x2 (ix3 b r k)) b p.val else 0
  | 0, _ => by
    rw [if_neg (Nat.not_lt_zero _)]
    show (k2_pay5 (F := Ideal) (ix3 b r p) : EReal) = 0
    pointwise [k2_pay5]
  | k + 1, hk => by
    have hk' : k < k2_t1_loop.trips := hk
    unfold Proof.Post.acc
    rw [dif_pos hk']
    have hr := r.isLt
    have hp := p.isLt
    have hbx := wb_box (64 * (i 0).val + r.val)
    split
    · rename_i h
      have h1 := h 1
      have h2 := h 2
      rw [off2_eq] at h1 h2
      have h1 : k ≤ r.val ∧ r.val < k + 1 := h1
      have h2 : box (64 * (i 0).val + k) ≤ p.val ∧ p.val < box (64 * (i 0).val + k) + 256 := h2
      have hrk : r.val = k := by omega
      rw [if_pos (by omega)]
      have H := trow_at i x3 x2 ⟨k, hk'⟩ b ⟨p.val - box (64 * (i 0).val + k), by omega⟩
      refine (Eq.trans (congrArg (Proof.Post.trow i x3 x2 ⟨k, hk'⟩) ?_) H).trans ?_
      · funext a
        match a with
        | ⟨0, _⟩ => refine Fin.ext ?_; show b.val - k2_off2 i ⟨k, hk'⟩ 0 = b.val; rw [off2_eq]; rfl
        | ⟨1, _⟩ => refine Fin.ext ?_; show r.val - k2_off2 i ⟨k, hk'⟩ 1 = 0; rw [off2_eq]; show r.val - k = 0; omega
        | ⟨2, _⟩ => refine Fin.ext ?_; show p.val - k2_off2 i ⟨k, hk'⟩ 2 = p.val - box (64 * (i 0).val + k); rw [off2_eq]; rfl
      · have er : (⟨k, hk⟩ : Fin 64) = r := Fin.ext hrk.symm
        simp only
        rw [er, ← hrk, Nat.add_sub_cancel' (by rw [hrk]; exact h2.1)]
    · rename_i h
      rw [acc_at i x3 x2 b r p k (by omega)]
      by_cases hrk : r.val < k
      · rw [if_pos hrk, if_pos (by omega)]
      · rw [if_neg hrk]
        by_cases hrk' : r.val = k
        · rw [if_pos (by omega)]
          unfold rowT
          rw [dif_neg]
          intro hw
          refine h fun a => ?_
          rw [off2_eq]
          match a with
          | ⟨0, _⟩ => exact ⟨Nat.zero_le _, show b.val < 0 + 16 by omega⟩
          | ⟨1, _⟩ => exact ⟨show k ≤ r.val by omega, show r.val < k + 1 by omega⟩
          | ⟨2, _⟩ =>
            refine ⟨show box (64 * (i 0).val + k) ≤ p.val from ?_, show p.val < box (64 * (i 0).val + k) + 256 from ?_⟩ <;> rw [← hrk'] <;> omega
        · rw [if_neg (by omega)]

end Cert.Math
-- ==== Proof.Soft.lean ====
/- Softmax and its logarithm over the extended reals: subtracting a maximum changes neither. -/
module

public import proofs.«01_k».proof.Proof.Spec
public import Mathlib.Analysis.SpecialFunctions.Log.Basic

@[expose] public section

noncomputable section

namespace Cert.Math

open Idealize.ShloMosaic

theorem neg_inf : (Ideal.ofBits .f32 0xFF800000#32 : EReal) = ⊥ := by
  unfold Ideal.ofBits Ideal.ieee
  simp only
  rw [if_pos (by decide), if_pos (by decide), if_pos (by decide)]

/-- A maximum none of whose terms is the top and one of whose terms is real is real. -/
theorem sup_real {ι : Type} [Fintype ι] (f : ι → EReal) (i₀ : ι) (r₀ : ℝ) (h₀ : f i₀ = (r₀ : EReal)) (h : ∀ i, f i ≠ ⊤) :
    ∃ m : ℝ, Finset.univ.fold max ⊥ f = (m : EReal) := by
  show ∃ m : ℝ, Finset.univ.sup f = (m : EReal)
  obtain ⟨i, -, hi⟩ := Finset.exists_mem_eq_sup Finset.univ ⟨i₀, Finset.mem_univ _⟩ f
  have hb : f i ≠ ⊥ := by
    intro e
    have h1 : f i₀ ≤ Finset.univ.sup f := Finset.le_sup (Finset.mem_univ i₀)
    rw [hi, e, h₀] at h1
    exact absurd (le_bot_iff.mp h1) (EReal.coe_ne_bot r₀)
  exact ⟨(f i).toReal, by rw [hi, EReal.coe_toReal (h i) hb]⟩

theorem exp_real (r : ℝ) : Ideal.exp (r : EReal) = ((Real.exp r : ℝ) : EReal) := rfl
theorem log_real (r : ℝ) (h : 0 < r) : Ideal.log (r : EReal) = ((Real.log r : ℝ) : EReal) := by
  show (if r ≤ 0 then (⊥ : EReal) else _) = _
  rw [if_neg (by linarith)]

/-- The logarithm of the softmax. -/
def lsm (s : Fin 29 → ℝ) (o : Fin 29) : ℝ := s o - Real.log (∑ k, Real.exp (s k))

theorem sum_exp_pos (s : Fin 29 → ℝ) : 0 < ∑ k, Real.exp (s k) :=
  Finset.sum_pos (fun _ _ => Real.exp_pos _) ⟨0, Finset.mem_univ _⟩

theorem lsm_shift (s : Fin 29 → ℝ) (m : ℝ) (o : Fin 29) :
    ((s o : EReal) - (m : EReal)) - Ideal.log (∑ k, Ideal.exp ((s k : EReal) - (m : EReal))) = ((lsm s o : ℝ) : EReal) := by
  have e : (∑ k, Ideal.exp ((s k : EReal) - (m : EReal))) = ((∑ k, Real.exp (s k - m) : ℝ) : EReal) := by
    rw [coe_sum]
    exact Finset.sum_congr rfl fun k _ => by rw [← EReal.coe_sub, exp_real]
  have f : ∑ k, Real.exp (s k - m) = (∑ k, Real.exp (s k)) / Real.exp m := by
    rw [Finset.sum_div]
    exact Finset.sum_congr rfl fun k _ => Real.exp_sub _ _
  rw [e, log_real _ (sum_exp_pos fun k => s k - m), ← EReal.coe_sub, ← EReal.coe_sub, f, Real.log_div (sum_exp_pos s).ne' (Real.exp_pos m).ne', Real.log_exp]
  unfold lsm
  congr 1; ring

theorem sel_ofBool {α : Type} (p : Bool) (a b : α) : Scalar.select (BitVec.ofBool p) a b = if p then a else b := by
  cases p <;> rfl

variable (P : Par)

open scoped Classical in
/-- The score of a position, or nothing where the row does not read it. -/
def msc (q : Fin 29 → ℝ) (t : ℕ) (p : Fin 512) : EReal := if P.ok t p then ((P.sc q p : ℝ) : EReal) else ⊥

variable {P}

theorem msc_real (q : Fin 29 → ℝ) {t : ℕ} (ht : t < 512) (hl : (t : ℤ) < P.len.toInt) :
    ∃ m : ℝ, Finset.univ.fold max ⊥ (msc P q t) = (m : EReal) := by
  refine sup_real _ ⟨t, ht⟩ (P.sc q ⟨t, ht⟩) ?_ fun p => ?_
  · unfold msc
    rw [if_pos ⟨Nat.le_add_right _ _, Nat.le_add_right _ _, hl⟩]
  · unfold msc
    split
    · exact EReal.coe_ne_top _
    · exact bot_ne_top

theorem msc_exp (q : Fin 29 → ℝ) (t : ℕ) (m : ℝ) (p : Fin 512) :
    Ideal.exp (msc P q t p - (m : EReal)) = ((P.ev q t p / Real.exp m : ℝ) : EReal) := by
  unfold msc Par.ev
  split
  · rw [← EReal.coe_sub, exp_real, Real.exp_sub]
  · rw [EReal.bot_sub, zero_div]; rfl

/-- The weights: the shifted exponentials over their sum. -/
theorem msc_wgt (q : Fin 29 → ℝ) {t : ℕ} (ht : t < 512) (hl : (t : ℤ) < P.len.toInt) (m : ℝ) (p : Fin 512) :
    Ideal.div (Ideal.exp (msc P q t p - (m : EReal))) (∑ k, Ideal.exp (msc P q t k - (m : EReal))) = ((P.wgt q t p : ℝ) : EReal) := by
  have hm := (Real.exp_pos m).ne'
  have e : (∑ k, Ideal.exp (msc P q t k - (m : EReal))) = ((P.tot q t / Real.exp m : ℝ) : EReal) := by
    unfold Par.tot
    rw [Finset.sum_div, coe_sum]
    exact Finset.sum_congr rfl fun k _ => msc_exp q t m k
  have ht' := (Par.tot_pos q ht hl).ne'
  rw [e, msc_exp, div_coe _ _ (div_ne_zero ht' hm)]
  unfold Par.wgt
  congr 1; field_simp

end Cert.Math
-- ==== Proof.PostSoft.lean ====
/- The last kernel's first result at an index, and the arrays both of its results fill, over the extended reals. -/
module

public import proofs.«01_k».proof.Proof.PostMath
public import proofs.«01_k».proof.Proof.Soft
public import Idealize.ShloMosaic.Lib.Pointwise
public import Idealize.ShloMosaic.Lib.Pipeline.ValueKit

@[expose] public section

set_option maxRecDepth 16384

noncomputable section

namespace Cert.Math

open Cert.KernelIdeal Cert.KernelIdeal.Gen
open Idealize.ShloMosaic

theorem real_lane : ∀ k : Fin 32, IntOp.cmpi CmpIPredicate.slt (BitVec.ofNat 32 k.val) 29#32 = BitVec.ofBool (decide (k.val < 29)) := by decide

theorem row_addi (i : grid2.Coords) (r : Fin 64) :
    IntOp.addi (Scalar.muli (BitVec.ofNat 32 (i 0).val) 64#32) (BitVec.ofNat 32 r.val) = BitVec.ofNat 32 (64 * (i 0).val + r.val) := by
  have h1 : (i 0).val < 8 := (i 0).isLt
  have h2 := r.isLt
  show BitVec.ofNat 32 (i 0).val * 64#32 + BitVec.ofNat 32 r.val = _
  apply BitVec.eq_of_toNat_eq
  simp [BitVec.toNat_add, BitVec.toNat_mul]
  omega

theorem low_real : ∃ z : ℝ, (Ideal.ofBits .f32 0xF149F2CA#32 : EReal) = (z : EReal) := by
  unfold Ideal.ofBits Ideal.ieee
  simp only
  rw [if_neg (by decide), if_neg (by decide)]
  exact ⟨_, rfl⟩

/-- A sum over thirty-two lanes whose last three are left out. -/
theorem sum_lanes (g : Fin 32 → EReal) :
    (∑ k : Fin 32, if k.val < 29 then g k else 0) = ∑ k : Fin 29, g ⟨k.val, by omega⟩ := by
  have h := @Fin.sum_univ_add EReal _ 29 3 fun k : Fin (29 + 3) => if k.val < 29 then g k else 0
  rw [show (∑ k : Fin 32, if k.val < 29 then g k else 0) = _ from h, Finset.sum_eq_zero (s := (Finset.univ : Finset (Fin 3))), add_zero]
  · exact Finset.sum_congr rfl fun k _ => if_pos k.isLt
  · exact fun k _ => if_neg (by simp)

theorem pay4_off (i : grid2.Coords) (v0 : Vec Ideal S16x64x32 .f32) (v2 : Vec Ideal S16x1 .i32) (b : Fin 16) (r : Fin 64) (o : Fin 29)
    (h : ¬ ((64 * (i 0).val + r.val : ℕ) : ℤ) < (v2 (ix2 b 0)).toInt) :
    (k2_pay4 i v0 v2 (ix3 b r o) : EReal) = 0 := by
  have h1 : (i 0).val < 8 := (i 0).isLt
  pointwise [k2_pay4, k2_pay3]
  rw [row_addi, lt_word _ (by omega), sel_ofBool, if_neg (by simpa using h)]

theorem pay4_on (i : grid2.Coords) (v0 : Vec Ideal S16x64x32 .f32) (v2 : Vec Ideal S16x1 .i32) (b : Fin 16) (r : Fin 64) (o : Fin 29)
    (h : ((64 * (i 0).val + r.val : ℕ) : ℤ) < (v2 (ix2 b 0)).toInt) (s : Fin 29 → ℝ)
    (hs : ∀ k : Fin 29, (v0 (ix3 b r (⟨k.val, by omega⟩ : Fin 32)) : EReal) = ((s k : ℝ) : EReal)) :
    (k2_pay4 i v0 v2 (ix3 b r o) : EReal) = ((lsm s o : ℝ) : EReal) := by
  have h1 : (i 0).val < 8 := (i 0).isLt
  obtain ⟨z, hz⟩ := low_real
  pointwise [k2_pay4, k2_pay3]
  rw [row_addi, lt_word _ (by omega), sel_ofBool, if_pos (by simpa using h)]
  simp only [real_lane, sel_ofBool, decide_eq_true_eq, neg_inf, hz]
  have hm : ∃ m : ℝ, Finset.univ.fold max ⊥ (fun x : Fin 32 => if x.val < 29 then (v0 (ix3 b r x) : EReal) else (z : EReal)) = (m : EReal) := by
    refine sup_real _ 0 (s 0) ?_ fun k => ?_
    · exact hs 0
    · by_cases hk : k.val < 29
      · simp only [if_pos hk]
        rw [show (v0 (ix3 b r k) : EReal) = _ from hs ⟨k.val, hk⟩]
        exact EReal.coe_ne_top _
      · simp only [if_neg hk]
        exact EReal.coe_ne_top _
  obtain ⟨m, hm⟩ := hm
  rw [hm, sum_lanes (fun x => Ideal.exp ((v0 (ix3 b r x) : EReal) - (m : EReal)))]
  simp only [hs]
  exact lsm_shift s m o

end Cert.Math

namespace Cert.Proof.Post

open Cert.KernelIdeal Cert.KernelIdeal.Gen Cert.Math
open Idealize.ShloMosaic Idealize.ShloMosaic.TcCoe
open Idealize.ShloMosaic.Pipeline (Dat Cfg Window)

variable (n : ℕ) (V : (c : Dev nD) → (b : Ref sig .tc) → Buf (Elt Ideal) ((c : Thread nD τ).loc b)) (c : Dev nD)

theorem idx01 : ∀ t : Fin cfg2.N, win2_0.index t = ![0, t.val, 0] ∧ win2_1.index t = ![0, t.val, 0] ∧ win2_2.index t = ![0, 0] := by decide +kernel
theorem idx34 : ∀ t : Fin cfg2.N, win2_3.index t = ![0, t.val, 0] ∧ win2_4.index t = ![0, t.val, 0] := by decide +kernel
theorem co2 : ∀ t : Fin cfg2.N, (grid2.coords t 0).val = t.val := by decide +kernel

theorem ptlt (k : Fin 512) : k.val / 64 < cfg2.N := by
  have h : cfg2.N = 8 := rfl
  omega

theorem blk0_at (t : Fin cfg2.N) (b : Fin 16) (r : Fin 64) (d : Fin 32) :
    blk0 V c t (ix3 b r d) = V c main_v10 (ix3 b (⟨64 * t.val + r.val, by have h : cfg2.N = 8 := rfl; omega⟩ : Fin 512) d) := by
  unfold blk0
  blk_ext [(idx01 t).1]
theorem blk1_at (t : Fin cfg2.N) (b : Fin 16) (r : Fin 64) (d : Fin 32) :
    blk1 V c t (ix3 b r d) = V c main_v11 (ix3 b (⟨64 * t.val + r.val, by have h : cfg2.N = 8 := rfl; omega⟩ : Fin 512) d) := by
  unfold blk1
  blk_ext [(idx01 t).2.1]
theorem blk2_at (t : Fin cfg2.N) (b : Fin 16) : blk2 V c t (ix2 b 0) = V c main_v9 (ix2 b 0) := by
  unfold blk2
  blk_ext [(idx01 t).2.2]

theorem outL_eq : outL n V c = fun y : S16x512x29.Idx =>
    k2_pay4 (grid2.coords ⟨(y 1).val / 64, ptlt (y 1)⟩) (blk0 V c ⟨(y 1).val / 64, ptlt (y 1)⟩) (blk2 V c ⟨(y 1).val / 64, ptlt (y 1)⟩)
      (ix3 (y 0) (⟨(y 1).val % 64, Nat.mod_lt _ (by decide)⟩ : Fin 64) (y 2)) := by
  unfold outL
  refine (dat n V c).arrAt_eq_of_covers 3 _ (by decide +kernel) fun t hf y => ?_
  have y1 : (y 1).val < 64 := (y 1).isLt
  have e0 : (((cfg2.win 3).blk t).view.emb y 0 : ℕ) = (y 0).val := by blk_simp [(idx34 t).1]
  have e2 : (((cfg2.win 3).blk t).view.emb y 2 : ℕ) = (y 2).val := by blk_simp [(idx34 t).1]
  have e1 : win2_3.index t 1 * 64 + (y 1).val = t.val * 64 + (y 1).val := by rw [(idx34 t).1]; rfl
  blk_simp
  refine congrArg₂ (fun t y => k2_pay4 (grid2.coords t) (blk0 V c t) (blk2 V c t) y) (Fin.ext ?_) ?_
  · show t.val = (win2_3.index t 1 * 64 + (y 1).val) / 64
    rw [e1]; omega
  · funext a
    match a with
    | ⟨0, _⟩ => exact Fin.ext e0.symm
    | ⟨2, _⟩ => exact Fin.ext e2.symm
    | ⟨1, _⟩ =>
      refine Fin.ext ?_
      show (y 1).val = (win2_3.index t 1 * 64 + (y 1).val) % 64
      rw [e1]; omega

theorem outT_eq : outT n V c = fun y : S16x512x512.Idx =>
    acc (grid2.coords ⟨(y 1).val / 64, ptlt (y 1)⟩) (blk2 V c ⟨(y 1).val / 64, ptlt (y 1)⟩) (blk1 V c ⟨(y 1).val / 64, ptlt (y 1)⟩) k2_t1_loop.trips
      (ix3 (y 0) (⟨(y 1).val % 64, Nat.mod_lt _ (by decide)⟩ : Fin 64) (y 2)) := by
  unfold outT
  refine (dat n V c).arrAt_eq_of_covers 4 _ (by decide +kernel) fun t hf y => ?_
  have y1 : (y 1).val < 64 := (y 1).isLt
  have e0 : (((cfg2.win 4).blk t).view.emb y 0 : ℕ) = (y 0).val := by blk_simp [(idx34 t).2]
  have e2 : (((cfg2.win 4).blk t).view.emb y 2 : ℕ) = (y 2).val := by blk_simp [(idx34 t).2]
  have e1 : win2_4.index t 1 * 64 + (y 1).val = t.val * 64 + (y 1).val := by rw [(idx34 t).2]; rfl
  blk_simp
  refine congrArg₂ (fun t y => acc (grid2.coords t) (blk2 V c t) (blk1 V c t) k2_t1_loop.trips y) (Fin.ext ?_) ?_
  · show t.val = (win2_4.index t 1 * 64 + (y 1).val) / 64
    rw [e1]; omega
  · funext a
    match a with
    | ⟨0, _⟩ => exact Fin.ext e0.symm
    | ⟨2, _⟩ => exact Fin.ext e2.symm
    | ⟨1, _⟩ =>
      refine Fin.ext ?_
      show (y 1).val = (win2_4.index t 1 * 64 + (y 1).val) % 64
      rw [e1]; omega

variable (L : Fin 16 → BitVec 32) (h9 : ∀ b, (V c main_v9 : S16x1.Idx → BitVec 32) (ix2 b 0) = L b)

theorem row64 (p : Fin 512) : 64 * (p.val / 64) + p.val % 64 = p.val := Nat.div_add_mod p.val 64

theorem outL_at (b : Fin 16) (p : Fin 512) (o : Fin 29) : outL n V c (ix3 b p o)
    = k2_pay4 (grid2.coords ⟨p.val / 64, ptlt p⟩) (blk0 V c ⟨p.val / 64, ptlt p⟩) (blk2 V c ⟨p.val / 64, ptlt p⟩)
      (ix3 b (⟨p.val % 64, Nat.mod_lt _ (by decide)⟩ : Fin 64) o) := by
  rw [outL_eq]; rfl

theorem outT_pt (b : Fin 16) (p q : Fin 512) : outT n V c (ix3 b p q)
    = acc (grid2.coords ⟨p.val / 64, ptlt p⟩) (blk2 V c ⟨p.val / 64, ptlt p⟩) (blk1 V c ⟨p.val / 64, ptlt p⟩) k2_t1_loop.trips
      (ix3 b (⟨p.val % 64, Nat.mod_lt _ (by decide)⟩ : Fin 64) q) := by
  rw [outT_eq]; rfl

include h9 in
/-- The first result on a row at or past the length. -/
theorem outL_off (b : Fin 16) (p : Fin 512) (o : Fin 29) (h : ¬ (p.val : ℤ) < (L b).toInt) :
    outL n V c (ix3 b p o) = (0 : EReal) := by
  rw [outL_at]
  refine pay4_off _ _ _ b ⟨p.val % 64, Nat.mod_lt _ (by decide)⟩ o ?_
  rw [blk2_at, co2]
  simp only [row64]
  exact fun q => h (by rw [h9] at q; exact q)

include h9 in
/-- The first result on a row below the length. -/
theorem outL_on (b : Fin 16) (p : Fin 512) (o : Fin 29) (h : (p.val : ℤ) < (L b).toInt) (s : Fin 29 → ℝ)
    (h10 : ∀ k : Fin 29, V c main_v10 (ix3 b p (⟨k.val, by omega⟩ : Fin 32)) = ((s k : ℝ) : EReal)) :
    outL n V c (ix3 b p o) = ((lsm s o : ℝ) : EReal) := by
  rw [outL_at]
  refine pay4_on _ _ _ b ⟨p.val % 64, Nat.mod_lt _ (by decide)⟩ o ?_ s fun k => ?_
  · rw [blk2_at, co2]
    simp only [row64]
    rw [h9]; exact h
  · rw [blk0_at]
    simp only [row64]
    exact h10 k

include h9 in
/-- The second result. -/
theorem outT_at (b : Fin 16) (p q : Fin 512) :
    outT n V c (ix3 b p q)
      = (if h : wb p.val ≤ q.val ∧ q.val < wb p.val + 32 then
          (if (p.val : ℤ) < (L b).toInt then (V c main_v11 : S16x512x32.Idx → EReal) (ix3 b p (⟨q.val - wb p.val, by omega⟩ : Fin 32)) else 0)
        else 0 : EReal) := by
  rw [outT_pt]
  refine (acc_at _ _ _ b ⟨p.val % 64, Nat.mod_lt _ (by decide)⟩ q k2_t1_loop.trips le_rfl).trans ?_
  refine (if_pos (show p.val % 64 < 64 from Nat.mod_lt _ (by decide))).trans ?_
  unfold rowT
  rw [blk2_at, co2]
  simp only [row64, blk1_at]
  rw [h9]

end Cert.Proof.Post
-- ==== Proof.KernEnd.lean ====
/- The kernel's two results at an index, over the extended reals. -/
module

public import proofs.«01_k».proof.Proof.Run
public import proofs.«01_k».proof.Proof.Data
public import proofs.«01_k».proof.Proof.KernMath
public import proofs.«01_k».proof.Proof.ProjArr
public import proofs.«01_k».proof.Proof.PostSoft
public import Idealize.ShloMosaic.Lib.Pointwise

@[expose] public section

set_option maxRecDepth 16384

noncomputable section

namespace Cert.Proof

open Idealize.ShloMosaic Idealize.ShloMosaic.TcCoe Cert.KernelIdeal Cert.KernelIdeal.Gen Cert.Math
open Idealize.ShloMosaic.SparseCore (T)

variable (m : (ℓ : Loc nD τ sig) → Buf (Elt Ideal) ℓ) (d : Dev nD)

/-- The arguments hold these reals and words. -/
structure KArgs (x : Fin 16 → Fin 512 → Fin 2048 → ℝ) (w : Fin 2048 → Fin 768 → ℝ) (bi : Fin 768 → ℝ) (wq : Fin 29 → Fin 768 → ℝ) (bq : Fin 768 → ℝ)
    (wo : Fin 768 → Fin 29 → ℝ) (bo : Fin 29 → ℝ) (len : Fin 16 → BitVec 32) : Prop where
  a0 : ∀ b p e, (m ⟨d, (main_arg0 : DevRef τ sig)⟩ : S16x512x2048.Idx → EReal) (ix3 b p e) = (x b p e : EReal)
  a1 : ∀ b, (m ⟨d, (main_arg1 : DevRef τ sig)⟩ : S16.Idx → BitVec 32) (ix1 b) = len b
  a3 : ∀ k e, (m ⟨d, (main_arg3 : DevRef τ sig)⟩ : S2048x768.Idx → EReal) (ix2 k e) = (w k e : EReal)
  a4 : ∀ e, (m ⟨d, (main_arg4 : DevRef τ sig)⟩ : S768.Idx → EReal) (ix1 e) = (bi e : EReal)
  a5 : ∀ o e, (m ⟨d, (main_arg5 : DevRef τ sig)⟩ : S29x768.Idx → EReal) (ix2 o e) = (wq o e : EReal)
  a6 : ∀ e, (m ⟨d, (main_arg6 : DevRef τ sig)⟩ : S768.Idx → EReal) (ix1 e) = (bq e : EReal)
  a7 : ∀ e o, (m ⟨d, (main_arg7 : DevRef τ sig)⟩ : S768x29.Idx → EReal) (ix2 e o) = (wo e o : EReal)
  a8 : ∀ o, (m ⟨d, (main_arg8 : DevRef τ sig)⟩ : S29.Idx → EReal) (ix1 o) = (bo o : EReal)

theorem W1_v0 : at_ (W1 m) d main_v0 = (shapeCast S8192x2048 (m ⟨d, (main_arg0 : DevRef τ sig)⟩) shapeCasts_S16x512x2048_S8192x2048 : FVec Ideal S8192x2048 .f32) := by
  show W1 m d (main_v0 : DevRef τ sig) = _
  unfold W1 W0
  after_results_simp
  try rfl
theorem W1_v1 : at_ (W1 m) d main_v1 = (shapeCast S1x768 (m ⟨d, (main_arg4 : DevRef τ sig)⟩) shapeCasts_S768_S1x768 : FVec Ideal S1x768 .f32) := by
  show W1 m d (main_v1 : DevRef τ sig) = _
  unfold W1 W0
  after_results_simp
  try rfl
theorem W1_v2 : at_ (W1 m) d main_v2 = (shapeCast S1x768 (m ⟨d, (main_arg6 : DevRef τ sig)⟩) shapeCasts_S768_S1x768 : FVec Ideal S1x768 .f32) := by
  show W1 m d (main_v2 : DevRef τ sig) = _
  unfold W1 W0
  after_results_simp
  try rfl
theorem W1_a3 : at_ (W1 m) d main_arg3 = m ⟨d, (main_arg3 : DevRef τ sig)⟩ := by
  show W1 m d (main_arg3 : DevRef τ sig) = _
  unfold W1 W0
  after_results_simp
theorem W1_a5 : at_ (W1 m) d main_arg5 = m ⟨d, (main_arg5 : DevRef τ sig)⟩ := by
  show W1 m d (main_arg5 : DevRef τ sig) = _
  unfold W1 W0
  after_results_simp
theorem W1_a7 : at_ (W1 m) d main_arg7 = m ⟨d, (main_arg7 : DevRef τ sig)⟩ := by
  show W1 m d (main_arg7 : DevRef τ sig) = _
  unfold W1 W0
  after_results_simp

theorem flat_at (a : FVec Ideal S16x512x2048 .f32) (p : Fin 8192) (e : Fin 2048) :
    (shapeCast S8192x2048 a shapeCasts_S16x512x2048_S8192x2048 (ix2 p e) : EReal) = a (ix3 (⟨p.val / 512, by omega⟩ : Fin 16) (⟨p.val % 512, Nat.mod_lt _ (by decide)⟩ : Fin 512) e) := by
  pointwise

theorem row_at (a : FVec Ideal S768 .f32) (e : Fin 768) : (shapeCast S1x768 a shapeCasts_S768_S1x768 (ix2 0 e) : EReal) = a (ix1 e) := by
  pointwise

theorem len_at (a : IVec S16 32) (b : Fin 16) : shapeCast S16x1 a shapeCasts_S16_S16x1 (ix2 b 0) = a (ix1 b) := by
  pointwise

theorem lens_at (a : IVec S16 32) (b j : Fin 16) :
    broadcastInDim S16x16 ![0, 1] bcast_S16x1_S16x16_0_1 (shapeCast S16x1 a shapeCasts_S16_S16x1) (ix2 b j) = a (ix1 b) := by
  pointwise

theorem fold_at (a : FVec Ideal S8192x32 .f32) (b : Fin 16) (p : Fin 512) (k : Fin 32) :
    (shapeCast S16x512x32 a shapeCasts_S8192x32_S16x512x32 (ix3 b p k) : EReal) = a (ix2 (⟨512 * b.val + p.val, by omega⟩ : Fin 8192) k) := by
  pointwise
  exact congrArg a (congrArg (fun r => ix2 r k) (Fin.ext (by simp only; omega)))

theorem W3_G : W3 m d (main_v3_0 : DevRef τ sig) = Proj.outG 0 (at_ (W1 m)) d := by
  rw [← W2_G m d]
  show _ = W2 m d (main_v3_0 : DevRef τ sig)
  unfold W3
  after_results_simp
theorem W3_V : W3 m d (main_v3_1 : DevRef τ sig) = Proj.outV 0 (at_ (W1 m)) d := by
  rw [← W2_V m d]
  show _ = W2 m d (main_v3_1 : DevRef τ sig)
  unfold W3
  after_results_simp

theorem W3_L : W3 m d (main_v5 : DevRef τ sig) = (broadcastInDim S16x16 ![0, 1] bcast_S16x1_S16x16_0_1 (shapeCast S16x1 (m ⟨d, (main_arg1 : DevRef τ sig)⟩) shapeCasts_S16_S16x1) : IVec S16x16 32) := by
  have e : W2 m d (main_arg1 : DevRef τ sig) = m ⟨d, (main_arg1 : DevRef τ sig)⟩ := by
    refine (W2_ne m d main_arg1 (by decide) (by decide)).trans ?_
    show W1 m d (main_arg1 : DevRef τ sig) = _
    unfold W1 W0
    after_results_simp
  unfold W3
  after_results_simp
  rw [e]
  try rfl

/-- The output's bias, padded by three zeros. -/
def padB (x : FVec Ideal S29 .f32) (z : FVec Ideal S3 .f32) : FVec Ideal S32 .f32 := concatenate S32 0 [⟨S29, x⟩, ⟨S3, z⟩] concatenates_S29_S3_S32_d0

theorem padB_at (x : FVec Ideal S29 .f32) (z : FVec Ideal S3 .f32) (o : Fin 29) : (padB x z (ix1 (⟨o.val, by omega⟩ : Fin 32)) : EReal) = x (ix1 o) := by
  pointwise [padB]

theorem W3_B : ∃ z, W3 m d (main_v7 : DevRef τ sig) = padB (m ⟨d, (main_arg8 : DevRef τ sig)⟩) z := by
  have e : W2 m d (main_arg8 : DevRef τ sig) = m ⟨d, (main_arg8 : DevRef τ sig)⟩ := by
    refine (W2_ne m d main_arg8 (by decide) (by decide)).trans ?_
    show W1 m d (main_arg8 : DevRef τ sig) = _
    unfold W1 W0
    after_results_simp
  have e' : (op6 (F := Ideal)).result (opc.result (op5.result (op4.result (W2 m d)))) (main_arg8 : DevRef τ sig) = m ⟨d, (main_arg8 : DevRef τ sig)⟩ := by
    rw [← e]
    after_results_simp
  refine ⟨(op6 (F := Ideal)).result (opc.result (op5.result (op4.result (W2 m d)))) (main_v6 : DevRef τ sig), ?_⟩
  rw [← e']
  unfold W3
  generalize (op6 (F := Ideal)).result (opc.result (op5.result (op4.result (W2 m d)))) = U
  after_results_simp
  try rfl

theorem W3_ne1 : W3 m d (main_arg1 : DevRef τ sig) = m ⟨d, (main_arg1 : DevRef τ sig)⟩ := by
  have e : W2 m d (main_arg1 : DevRef τ sig) = m ⟨d, (main_arg1 : DevRef τ sig)⟩ := by
    refine (W2_ne m d main_arg1 (by decide) (by decide)).trans ?_
    show W1 m d (main_arg1 : DevRef τ sig) = _
    unfold W1 W0
    after_results_simp
  unfold W3
  after_results_simp
  rw [e]

theorem W5_v9 : at_ (W5 m) d main_v9 = (shapeCast S16x1 (m ⟨d, (main_arg1 : DevRef τ sig)⟩) shapeCasts_S16_S16x1 : IVec S16x1 32) := by
  have e := (W4_ne m d main_arg1 (by decide) (by decide)).trans (W3_ne1 m d)
  show W5 m d (main_v9 : DevRef τ sig) = _
  unfold W5
  after_results_simp
  rw [e]
  try rfl
theorem W5_v10 : at_ (W5 m) d main_v10 = (shapeCast S16x512x32 (outO (arrs m d)) shapeCasts_S8192x32_S16x512x32 : FVec Ideal S16x512x32 .f32) := by
  show W5 m d (main_v10 : DevRef τ sig) = _
  unfold W5
  after_results_simp
  rw [W4_o]
  try rfl
theorem W5_v11 : at_ (W5 m) d main_v11 = (shapeCast S16x512x32 (outW (arrs m d)) shapeCasts_S8192x32_S16x512x32 : FVec Ideal S16x512x32 .f32) := by
  show W5 m d (main_v11 : DevRef τ sig) = _
  unfold W5
  after_results_simp
  rw [W4_w]
  try rfl

/-! ## The sums exchanged -/

theorem lin (x : Fin 2048 → ℝ) (w : Fin 2048 → Fin 768 → ℝ) (bi v : Fin 768 → ℝ) :
    ∑ e, (∑ k, x k * w k e + bi e) * v e = ∑ k, x k * (∑ e, w k e * v e) + ∑ e, bi e * v e := by
  simp only [add_mul, Finset.sum_add_distrib, Finset.sum_mul, Finset.mul_sum, mul_assoc]
  rw [Finset.sum_comm]

theorem lin_scaled (x : Fin 2048 → ℝ) (w : Fin 2048 → Fin 768 → ℝ) (bi v : Fin 768 → ℝ) (c : ℝ) :
    ∑ k, (∑ e, w k e * v e) * c * x k + (∑ e, bi e * v e) * c = (∑ e, (∑ k, x k * w k e + bi e) * v e) * c := by
  rw [lin, add_mul]
  refine congrArg₂ (· + ·) ?_ rfl
  rw [Finset.sum_mul]
  exact Finset.sum_congr rfl fun k _ => by ring

theorem score (xp : Fin 768 → ℝ) (wq : Fin 29 → Fin 768 → ℝ) (bq : Fin 768 → ℝ) (q : Fin 29 → ℝ) (c : ℝ) :
    (∑ e, xp e * bq e) * c + ∑ o, q o * ((∑ e, xp e * wq o e) * c) = (∑ e, (∑ o, q o * wq o e + bq e) * xp e) * c := by
  have h : ∑ o, q o * ((∑ e, xp e * wq o e) * c) = (∑ e, (∑ o, q o * wq o e) * xp e) * c := by
    simp only [Finset.sum_mul, Finset.mul_sum]
    rw [Finset.sum_comm]
    exact Finset.sum_congr rfl fun e _ => Finset.sum_congr rfl fun o _ => by ring
  rw [h, ← add_mul, ← Finset.sum_add_distrib]
  exact congrArg (· * c) (Finset.sum_congr rfl fun e _ => by ring)

section
variable {m d} {x : Fin 16 → Fin 512 → Fin 2048 → ℝ} {w : Fin 2048 → Fin 768 → ℝ} {bi : Fin 768 → ℝ} {wq : Fin 29 → Fin 768 → ℝ} {bq : Fin 768 → ℝ}
    {wo : Fin 768 → Fin 29 → ℝ} {bo : Fin 29 → ℝ} {len : Fin 16 → BitVec 32} (A : KArgs m d x w bi wq bq wo bo len)

abbrev par (x : Fin 16 → Fin 512 → Fin 2048 → ℝ) (w : Fin 2048 → Fin 768 → ℝ) (bi : Fin 768 → ℝ) (wq : Fin 29 → Fin 768 → ℝ) (bq : Fin 768 → ℝ)
    (wo : Fin 768 → Fin 29 → ℝ) (bo : Fin 29 → ℝ) (len : Fin 16 → BitVec 32) (b : Fin 16) : Par := mkPar x w bi wq bq wo bo cS len b

/-- The inputs' rows, all batches in one. -/
def flat (x : Fin 16 → Fin 512 → Fin 2048 → ℝ) (p : Fin 8192) (k : Fin 2048) : ℝ := x ⟨p.val / 512, by omega⟩ ⟨p.val % 512, Nat.mod_lt _ (by decide)⟩ k

theorem flat_row (x : Fin 16 → Fin 512 → Fin 2048 → ℝ) (b : Fin 16) (p : Fin 512) : flat x (⟨512 * b.val + p.val, by omega⟩ : Fin 8192) = x b p := by
  funext k
  have e1 : (⟨(512 * b.val + p.val) / 512, by omega⟩ : Fin 16) = b := Fin.ext (by simp only; omega)
  have e2 : (⟨(512 * b.val + p.val) % 512, Nat.mod_lt _ (by decide)⟩ : Fin 512) = p := Fin.ext (by simp only; omega)
  show x _ _ k = _
  rw [e1, e2]

theorem row29' (p : Fin 8192) : ix2 (29 : Fin 32) p = ValueIdx.ix2 (29 : Fin 32) p := by
  generalize (29 : Fin 32) = o
  exact ix2_eq_valueIdx o p

theorem env_G (a : Arrs Ideal) (b : Fin 16) (o : Fin 32) (p : Fin 512) :
    (env a b).G (ValueIdx.ix2 o p) = a.G (ValueIdx.ix2 o (⟨512 * b.val + p.val, by omega⟩ : Fin 8192)) := rfl

include A in
theorem fits (b : Fin 16) : Fits (env (arrs m d) b) (par x w bi wq bq wo bo len b)
    (fun o p => (∑ e, (∑ k, x b p k * w k e + bi e) * wq o e) * cS) (fun p => (∑ e, (∑ k, x b p k * w k e + bi e) * bq e) * cS) := by
  have g0 : ∀ r k, (at_ (W1 m) d main_v0 : S8192x2048.Idx → Ideal .f32) (ix2 r k) = ((flat x r k : ℝ) : EReal) := fun r k => by
    rw [W1_v0]; exact (flat_at _ r k).trans (A.a0 _ _ k)
  have g1 : ∀ k e, (at_ (W1 m) d main_arg3 : S2048x768.Idx → Ideal .f32) (ix2 k e) = ((w k e : ℝ) : EReal) := fun k e => by
    rw [W1_a3]; exact A.a3 k e
  have g2 : ∀ e, (at_ (W1 m) d main_v1 : S1x768.Idx → Ideal .f32) (ix2 0 e) = ((bi e : ℝ) : EReal) := fun e => by
    rw [W1_v1]; exact (row_at _ e).trans (A.a4 e)
  have g3 : ∀ o e, (at_ (W1 m) d main_arg5 : S29x768.Idx → Ideal .f32) (ix2 o e) = ((wq o e : ℝ) : EReal) := fun o e => by
    rw [W1_a5]; exact A.a5 o e
  have g4 : ∀ e, (at_ (W1 m) d main_v2 : S1x768.Idx → Ideal .f32) (ix2 0 e) = ((bq e : ℝ) : EReal) := fun e => by
    rw [W1_v2]; exact (row_at _ e).trans (A.a6 e)
  have g5 : ∀ e o, (at_ (W1 m) d main_arg7 : S768x29.Idx → Ideal .f32) (ix2 e o) = ((wo e o : ℝ) : EReal) := fun e o => by
    rw [W1_a7]; exact A.a7 e o
  obtain ⟨z, hz⟩ := W3_B m d
  refine ⟨fun o p => ?_, fun p => ?_, fun q p => ?_, fun p o => ?_, rfl, ?_, fun j => ?_, fun j h => ?_, ?_⟩
  · show (W3 m d (main_v3_0 : DevRef τ sig) : S32x8192.Idx → Ideal .f32) (ValueIdx.ix2 (⟨o.val, by omega⟩ : Fin 32) (⟨512 * b.val + p.val, by omega⟩ : Fin 8192)) = _
    rw [W3_G, ← ix2_eq_valueIdx]
    refine (Proj.outG_q 0 (at_ (W1 m)) d (flat x) w wq bi g0 g1 g2 g3 o _).trans ?_
    simp only [flat_row]
    rw [lin_scaled]
  · have H := Proj.outG_b 0 (at_ (W1 m)) d (flat x) w bq bi g0 g1 g2 g4 (⟨512 * b.val + p.val, by omega⟩ : Fin 8192)
    simp only [flat_row, lin_scaled] at H
    rw [row29'] at H
    generalize (29 : Fin 32) = o at H ⊢
    refine Eq.trans ?_ H
    refine (env_G (arrs m d) b o p).trans ?_
    exact congrFun (W3_G m d) _
  · exact score _ wq bq q cS
  · show (W3 m d (main_v3_1 : DevRef τ sig) : S8192x32.Idx → Ideal .f32) (ValueIdx.ix2 (⟨512 * b.val + p.val, by omega⟩ : Fin 8192) (⟨o.val, by omega⟩ : Fin 32)) = _
    rw [W3_V, ← ix2_eq_valueIdx]
    refine (Proj.outV_o 0 (at_ (W1 m)) d (flat x) w wo bi g0 g1 g2 g5 o _).trans ?_
    simp only [flat_row]
    rw [← lin]
    rfl
  · funext j
    show (W3 m d (main_v5 : DevRef τ sig) : S16x16.Idx → BitVec 32) (ValueIdx.ix2 b (j 0)) = len b
    rw [W3_L]
    exact (congrArg _ (ix2_eq_valueIdx (n0 := 16) (n1 := 16) b (j 0)).symm).trans ((lens_at _ b (j 0)).trans (A.a1 b))
  · show (W3 m d (main_v7 : DevRef τ sig) : S32.Idx → EReal) (ValueIdx.ix1 (⟨j.val, by omega⟩ : Fin 32)) = ((bo ⟨j.val, by omega⟩ : ℝ) : EReal)
    rw [hz, ← ix1_eq_valueIdx]
    exact (padB_at _ z ⟨j.val, by omega⟩).trans (A.a8 _)
  · show (W3 m d (main_v7 : DevRef τ sig) : S32.Idx → EReal) (ValueIdx.ix1 (⟨16 + j.val, by omega⟩ : Fin 32)) = ((bo ⟨16 + j.val, by omega⟩ : ℝ) : EReal)
    rw [hz, ← ix1_eq_valueIdx]
    exact (padB_at _ z ⟨16 + j.val, by omega⟩).trans (A.a8 _)
  · exact neg_inf

theorem outRow_at (b : Fin 16) (t : Fin 512) : outRow (arrs m d) (⟨512 * b.val + t.val, by omega⟩ : Fin 8192) = outAt (env (arrs m d) b) qInit t.val := by
  have e1 : (⟨(512 * b.val + t.val) / 512, by omega⟩ : Fin 16) = b := Fin.ext (by simp only; omega)
  have e2 : (512 * b.val + t.val) % 512 = t.val := by omega
  show outAt (env (arrs m d) ⟨(512 * b.val + t.val) / 512, by omega⟩) qInit ((512 * b.val + t.val) % 512) = _
  rw [e1, e2]

include A in
theorem v9_at (b : Fin 16) : (at_ (W5 m) d main_v9 : S16x1.Idx → BitVec 32) (ix2 b 0) = len b := by
  rw [W5_v9]
  exact (len_at _ b).trans (A.a1 b)

include A in
theorem kern_o (b : Fin 16) (t : Fin 512) (o : Fin 29) :
    (W6 m d (main_v12_0 : DevRef τ sig) : S16x512x29.Idx → EReal) (ix3 b t o)
      = if (t.val : ℤ) < (len b).toInt then ((lsm ((par x w bi wq bq wo bo len b).qs (t.val + 1)) o : ℝ) : EReal) else 0 := by
  have e : W6 m d (main_v12_0 : DevRef τ sig) = Post.outL 1 (at_ (W5 m)) d := W6_L m d
  rw [e]
  by_cases h : (t.val : ℤ) < (len b).toInt
  · rw [if_pos h]
    refine Post.outL_on 1 (at_ (W5 m)) d len (v9_at A) b t o h _ fun k => ?_
    obtain ⟨⟨r0, r1⟩, -⟩ := out_good (fits A b) t.isLt h
    rw [W5_v10]
    refine (fold_at _ b t (⟨k.val, by omega⟩ : Fin 32)).trans ?_
    show (if h : k.val < 16 then (outRow (arrs m d) (⟨512 * b.val + t.val, by omega⟩ : Fin 8192)).q0 (ValueIdx.ix1 (⟨k.val, h⟩ : Fin 16))
      else (outRow (arrs m d) (⟨512 * b.val + t.val, by omega⟩ : Fin 8192)).q1 (ValueIdx.ix1 (⟨k.val - 16, by omega⟩ : Fin 16)) : EReal) = _
    rw [outRow_at]
    by_cases hk : k.val < 16
    · rw [dif_pos hk]; exact r0 ⟨k.val, hk⟩
    · rw [dif_neg hk]
      refine (r1 ⟨k.val - 16, by omega⟩ (by simp only; omega)).trans ?_
      exact congrArg (fun i => ((((par x w bi wq bq wo bo len b).qs (t.val + 1) i : ℝ)) : EReal)) (Fin.ext (by simp only; omega))
  · rw [if_neg h]
    exact Post.outL_off 1 (at_ (W5 m)) d len (v9_at A) b t o h

include A in
theorem kern_w (b : Fin 16) (t p : Fin 512) :
    (W6 m d (main_v12_1 : DevRef τ sig) : S16x512x512.Idx → EReal) (ix3 b t p)
      = if (t.val : ℤ) < (len b).toInt then (((par x w bi wq bq wo bo len b).wgt ((par x w bi wq bq wo bo len b).qs t.val) t.val p : ℝ) : EReal) else 0 := by
  have e : W6 m d (main_v12_1 : DevRef τ sig) = Post.outT 1 (at_ (W5 m)) d := W6_T m d
  rw [e]
  refine (Post.outT_at 1 (at_ (W5 m)) d len (v9_at A) b t p).trans ?_
  by_cases h : (t.val : ℤ) < (len b).toInt
  · simp only [if_pos h]
    by_cases hw : wb t.val ≤ p.val ∧ p.val < wb t.val + 32
    · rw [dif_pos hw]
      obtain ⟨-, g⟩ := out_good (fits A b) t.isLt h
      rw [W5_v11]
      refine (fold_at _ b t (⟨p.val - wb t.val, by omega⟩ : Fin 32)).trans ?_
      show (if h : p.val - wb t.val < 16 then (outRow (arrs m d) (⟨512 * b.val + t.val, by omega⟩ : Fin 8192)).w0 (ValueIdx.ix1 (⟨p.val - wb t.val, h⟩ : Fin 16))
        else (outRow (arrs m d) (⟨512 * b.val + t.val, by omega⟩ : Fin 8192)).w1 (ValueIdx.ix1 (⟨p.val - wb t.val - 16, by omega⟩ : Fin 16)) : EReal) = _
      rw [outRow_at]
      by_cases hk : p.val - wb t.val < 16
      · rw [dif_pos hk]
        refine ((g ⟨p.val - wb t.val, hk⟩).1 (by simp only; omega)).trans ?_
        exact congrArg (fun i => ((((par x w bi wq bq wo bo len b).wgt ((par x w bi wq bq wo bo len b).qs t.val) t.val i : ℝ)) : EReal)) (Fin.ext (by simp only; omega))
      · rw [dif_neg hk]
        refine ((g ⟨p.val - wb t.val - 16, by omega⟩).2 (by simp only; omega)).trans ?_
        exact congrArg (fun i => ((((par x w bi wq bq wo bo len b).wgt ((par x w bi wq bq wo bo len b).qs t.val) t.val i : ℝ)) : EReal)) (Fin.ext (by simp only; omega))
    · rw [dif_neg hw, Par.wgt_of_not _ fun hp => hw (ok_in t.isLt hp)]
      rfl
  · simp only [if_neg h, dite_eq_ite, ite_self]

end

end Cert.Proof
-- ==== Proof.RefMath.lean ====
/- A trip of the reference's loop at an index, over the extended reals. -/
module

public import proofs.«01_k».proof.Proof.RefRun
public import proofs.«01_k».proof.Proof.Soft
public import Idealize.ShloMosaic.Lib.Pointwise

@[expose] public section

set_option maxRecDepth 16384

noncomputable section

namespace Cert.Math

open Idealize.ShloMosaic Idealize.ShloMosaic.TcCoe Idealize.ShloMosaic.StableHlo Cert.ReferenceIdeal Cert.ReferenceIdeal.Gen Cert.ReferenceIdeal.Value

/-- The exponentials of rows of scores less their greatest. -/
def rowExp (x : FVec Ideal S16x1x512 .f32) : FVec Ideal S16x1x512 .f32 :=
  Host.exp (subf x (broadcastInDim S16x1x512 ![0, 1, 2] bcast_S16x1x1_S16x1x512_0_1_2 (broadcastInDim S16x1x1 ![0, 1] bcast_S16x1_S16x1x1_0_1
    (maximumf (broadcastInDim S16x1 ![] bcast_S_S16x1 (constant S_ .f32 0xFF800000#32)) (Host.reduce FloatOps.maximumf x (constant S_ .f32 0xFF800000#32) reducesTo_S16x1x512_S16x1_d2 h_S_)))))

theorem rowExp_at (x : FVec Ideal S16x1x512 .f32) (b : Fin 16) (p : Fin 512) :
    (rowExp x (ix3 b 0 p) : EReal) = Ideal.exp (x (ix3 b 0 p) - Finset.univ.fold max ⊥ fun k : Fin 512 => (x (ix3 b 0 k) : EReal)) := by
  pointwise [rowExp]
  rw [neg_inf, max_eq_right bot_le]

theorem zero_word : (Ideal.ofBits .f32 0x00000000#32 : EReal) = 0 := by
  unfold Ideal.ofBits Ideal.ieee
  simp

/-- The softmax of rows of scores. -/
def rowSoft (x : FVec Ideal S16x1x512 .f32) : FVec Ideal S16x1x512 .f32 :=
  Host.divf (rowExp x) (broadcastInDim S16x1x512 ![0, 1, 2] bcast_S16x1x1_S16x1x512_0_1_2 (broadcastInDim S16x1x1 ![0, 1] bcast_S16x1_S16x1x1_0_1
    (Host.reduceAdd (rowExp x) (constant S_ .f32 0x00000000#32) reducesTo_S16x1x512_S16x1_d2 h_S_)))

theorem rowSoft_at (x : FVec Ideal S16x1x512 .f32) (b : Fin 16) (p : Fin 512) :
    (rowSoft x (ix3 b 0 p) : EReal) = Ideal.div (rowExp x (ix3 b 0 p)) (∑ k : Fin 512, (rowExp x (ix3 b 0 k) : EReal)) := by
  pointwise [rowSoft]

theorem rowSoft_wgt (x : FVec Ideal S16x1x512 .f32) (b : Fin 16) (Q : Par) (q : Fin 29 → ℝ) {t : ℕ} (ht : t < 512) (hl : (t : ℤ) < Q.len.toInt)
    (hx : ∀ p : Fin 512, (x (ix3 b 0 p) : EReal) = msc Q q t p) (p : Fin 512) : (rowSoft x (ix3 b 0 p) : EReal) = ((Q.wgt q t p : ℝ) : EReal) := by
  obtain ⟨m, hm⟩ := msc_real (P := Q) q ht hl
  have e : ∀ p : Fin 512, (rowExp x (ix3 b 0 p) : EReal) = Ideal.exp (msc Q q t p - (m : EReal)) := fun p => by
    rw [rowExp_at, hx p, show (fun k : Fin 512 => (x (ix3 b 0 k) : EReal)) = msc Q q t from funext hx, hm]
  rw [rowSoft_at, e p, show (fun k : Fin 512 => (rowExp x (ix3 b 0 k) : EReal)) = _ from funext e]
  exact msc_wgt q ht hl m p

/-- What the loop carries into trip `t`, per batch. -/
structure Carry (V : Valuation τ sig (Elt Ideal)) (P : Fin 16 → Par) (t : ℕ) : Prop where
  h0 : ∀ k : Fin 512, (V (Proc.devRef .tc main_v12_0) : S512.Idx → BitVec 32) (ix1 k) = BitVec.ofNat 32 k.val
  h1 : ∀ b o e, (V (Proc.devRef .tc main_v12_1) : S29x768.Idx → EReal) (ix2 o e) = (((P b).wq o e : ℝ) : EReal)
  h2 : ∀ b e, (V (Proc.devRef .tc main_v12_2) : S768.Idx → EReal) (ix1 e) = (((P b).bq e : ℝ) : EReal)
  h3 : ∀ b p e, (V (Proc.devRef .tc main_v12_3) : S16x512x768.Idx → EReal) (ix3 b p e) = (((P b).xp p e : ℝ) : EReal)
  h4 : ∀ k : Fin 512, (V (Proc.devRef .tc main_v12_4) : S512.Idx → BitVec 32) (ix1 k) = BitVec.ofNat 32 k.val
  h5 : (V (Proc.devRef .tc main_v12_5) : S_.Idx → BitVec 32) ix0 = 5#32
  h6 : ∀ b : Fin 16, (V (Proc.devRef .tc main_v12_6) : S16.Idx → BitVec 32) (ix1 b) = (P b).len
  h7 : ∀ b e o, (V (Proc.devRef .tc main_v12_7) : S768x29.Idx → EReal) (ix2 e o) = (((P b).wo e o : ℝ) : EReal)
  h8 : ∀ b o, (V (Proc.devRef .tc main_v12_8) : S29.Idx → EReal) (ix1 o) = (((P b).bo o : ℝ) : EReal)
  h9 : (V (Proc.devRef .tc main_v12_9) : S_.Idx → BitVec 32) = fun _ => BitVec.ofNat 32 t
  h10 : ∀ b : Fin 16, (t : ℤ) ≤ (P b).len.toInt ∨ t = 0 → ∀ o, (V (Proc.devRef .tc main_v12_10) : S16x1x29.Idx → EReal) (ix3 b 0 o) = (((P b).qs t o : ℝ) : EReal)
  h11 : ∀ (b : Fin 16) (k : Fin 512), k.val < t → ∀ o, (V (Proc.devRef .tc main_v12_11) : S512x16x1x29.Idx → EReal) (ix4 k b 0 o)
    = if (k.val : ℤ) < (P b).len.toInt then (((P b).qs (k.val + 1) o : ℝ) : EReal) else 0
  h12 : ∀ (b : Fin 16) (k : Fin 512), k.val < t → ∀ p, (V (Proc.devRef .tc main_v12_12) : S512x16x1x512.Idx → EReal) (ix4 k b 0 p)
    = if (k.val : ℤ) < (P b).len.toInt then (((P b).wgt ((P b).qs k.val) k.val p : ℝ) : EReal) else 0

variable {V : Valuation τ sig (Elt Ideal)} {P : Fin 16 → Par} {t : ℕ} (C : Carry V P t) (ht : t < 512)
  (hc : ∀ b, (Ideal.ofBits .f32 0x3D13CD3A#32 : EReal) = (((P b).c : ℝ) : EReal))

theorem word_nat : ∀ t : Fin 512, (BitVec.ofNat 32 t.val).toInt = (t.val : ℤ) := fun t => word_toInt (by omega)

include C ht in
theorem v25_eq : res_main_while0b_v25 V = fun _ => BitVec.ofNat 32 t := by
  funext y
  pointwise [res_main_while0b_v25]
  refine Eq.trans ?_ (C.h0 ⟨t, ht⟩)
  refine congrArg _ (congrArg ix1 (Fin.ext ?_))
  simp only [C.h9]
  unfold Host.clampedStart
  rw [word_nat ⟨t, ht⟩]
  show (min (max (t : ℤ) 0) ((512 - 1 : ℕ) : ℤ)).toNat = t
  omega

open scoped Classical in
include C ht hc in
theorem v46_eq (b : Fin 16) (p : Fin 512) (hl : (t : ℤ) ≤ (P b).len.toInt ∨ t = 0) : res_main_while0b_v46 V (ix3 b 0 p) = msc (P b) ((P b).qs t) t p := by
  have e5 := C.h5
  have e6 := C.h6 b
  have e4 := C.h4 p
  have e1 := C.h1 b
  have e2 := C.h2 b
  have e3 := C.h3 b p
  have e10 := C.h10 b hl
  pointwise [res_main_while0b_v46]
  rw [v25_eq C ht, e4, e5, e6, hc b]
  simp only [e1, e2, e3, e10]
  refine Eq.trans ?_ (show (if (P b).ok t p then (((P b).sc ((P b).qs t) p : ℝ) : EReal) else ⊥) = msc (P b) ((P b).qs t) t p from rfl)
  rw [show IntOp.subi (BitVec.ofNat 32 p.val) (BitVec.ofNat 32 t) = BitVec.ofNat 32 p.val - BitVec.ofNat 32 t from rfl, ok_word (P b) t ht p]
  have e : ((∑ x, (∑ x_1, (((P b).qs t x_1 : ℝ) : EReal) * (((P b).wq x_1 x : ℝ) : EReal) + (((P b).bq x : ℝ) : EReal)) * (((P b).xp p x : ℝ) : EReal)) * (((P b).c : ℝ) : EReal))
      = (((P b).sc ((P b).qs t) p : ℝ) : EReal) := by
    unfold Par.sc
    simp only [EReal.coe_mul, coe_sum, EReal.coe_add]
  rw [e]
  by_cases h : (P b).ok t p
  · simp only [h, decide_true, if_true]; rfl
  · simp only [h, decide_false, if_false]
    exact neg_inf

include C ht hc in
theorem v57_eq (b : Fin 16) (p : Fin 512) (hl : (t : ℤ) < (P b).len.toInt) :
    res_main_while0b_v57 V (ix3 b 0 p) = (((P b).wgt ((P b).qs t) t p : ℝ) : EReal) :=
  rowSoft_wgt (res_main_while0b_v46 V) b (P b) _ ht hl (fun p => v46_eq C ht hc b p (Or.inl hl.le)) p

include C ht hc in
theorem v62_eq (b : Fin 16) (o : Fin 29) (hl : (t : ℤ) < (P b).len.toInt) :
    res_main_while0b_v62 V (ix3 b 0 o) = (((P b).qs (t + 1) o : ℝ) : EReal) := by
  have e57 := fun p => v57_eq C ht hc b p hl
  have e3 := C.h3 b
  have e7 := fun e => C.h7 b e o
  have e8 := C.h8 b o
  pointwise [res_main_while0b_v62]
  rw [e8]
  simp only [e57, e3, e7]
  have e : ∀ w : Fin 512 → ℝ, (∑ x, (∑ p, ((w p : ℝ) : EReal) * (((P b).xp p x : ℝ) : EReal)) * (((P b).wo x o : ℝ) : EReal)) + (((P b).bo o : ℝ) : EReal)
      = (((P b).bo o + ∑ p, w p * (P b).vv p o : ℝ) : EReal) := fun w => by
    have : (P b).bo o + ∑ p, w p * (P b).vv p o = (∑ x, (∑ p, w p * (P b).xp p x) * (P b).wo x o) + (P b).bo o := by
      rw [add_comm]
      congr 1
      unfold Par.vv
      simp only [Finset.mul_sum, Finset.sum_mul]
      rw [Finset.sum_comm]
      exact Finset.sum_congr rfl fun _ _ => Finset.sum_congr rfl fun _ _ => by ring
    rw [this]
    simp only [EReal.coe_mul, coe_sum, EReal.coe_add]
  exact e _

include C ht in
theorem v65_eq (b : Fin 16) : res_main_while0b_v65 V (ix3 b 0 0) = BitVec.ofBool (decide ((t : ℤ) < (P b).len.toInt)) := by
  have e6 := C.h6 b
  pointwise [res_main_while0b_v65]
  rw [v25_eq C ht, e6, lt_word t ht]

include C ht hc in
/-- The rows that a trip stores. -/
theorem row11 (b : Fin 16) (o : Fin 29) :
    select (broadcastInDim S16x1x29 ![0, 1, 2] bcast_S16x1x1_S16x1x29_0_1_2 (res_main_while0b_v65 V)) (res_main_while0b_v62 V) (broadcastInDim S16x1x29 ![] bcast_S_S16x1x29 (id (constant (F := Ideal) S_ .f32 0x00000000#32))) (ix3 b 0 o)
      = (if (t : ℤ) < (P b).len.toInt then (((P b).qs (t + 1) o : ℝ) : EReal) else 0) := by
  have e65 := v65_eq C ht b
  pointwise
  rw [e65, sel_ofBool]
  by_cases h : (t : ℤ) < (P b).len.toInt
  · simp only [h, decide_true, if_true]
    exact v62_eq C ht hc b o h
  · simp only [h, decide_false, if_false]
    exact zero_word

include C ht hc in
theorem row12 (b : Fin 16) (p : Fin 512) :
    select (broadcastInDim S16x1x512 ![0, 1, 2] bcast_S16x1x1_S16x1x512_0_1_2 (res_main_while0b_v65 V)) (res_main_while0b_v57 V) (broadcastInDim S16x1x512 ![] bcast_S_S16x1x512 (id (constant (F := Ideal) S_ .f32 0x00000000#32))) (ix3 b 0 p)
      = (if (t : ℤ) < (P b).len.toInt then (((P b).wgt ((P b).qs t) t p : ℝ) : EReal) else 0) := by
  have e65 := v65_eq C ht b
  pointwise
  rw [e65, sel_ofBool]
  by_cases h : (t : ℤ) < (P b).len.toInt
  · simp only [h, decide_true, if_true]
    exact v57_eq C ht hc b p h
  · simp only [h, decide_false, if_false]
    exact zero_word

/-- An update of a row of a stack of rows, read at an index. -/
theorem stack_at (n : ℕ) (x : Shape.Idx ⟨4, ![512, 16, 1, n]⟩ → EReal) (u : Shape.Idx ⟨4, ![1, 16, 1, n]⟩ → EReal) (start : Fin 4 → ℤ)
    (hf : Shape.Slices ⟨4, ![512, 16, 1, n]⟩ (fun _ => 0) ⟨4, ![1, 16, 1, n]⟩)
    {t : ℕ} (ht : t < 512) (h0 : start 0 = t) (h1 : start 1 = 0) (h2 : start 2 = 0) (h3 : start 3 = 0) (k : Fin 512) (b : Fin 16) (o : Fin n) :
    Host.dynamicUpdateSlice x u start hf (ix4 k b 0 o)
      = if k.val = t then u (ix4 0 b 0 o) else x (ix4 k b 0 o) := by
  have hs : ∀ a : Fin 4, (min (max (start a) 0) (((⟨4, ![512, 16, 1, n]⟩ : Shape).size a - (⟨4, ![1, 16, 1, n]⟩ : Shape).size (a.cast hf.1.symm) : ℕ) : ℤ)).toNat = (![t, 0, 0, 0] : Fin 4 → ℕ) a := by
    intro a
    match a with
    | ⟨0, _⟩ =>
      show (min (max (start 0) 0) ((512 - 1 : ℕ) : ℤ)).toNat = t
      rw [h0]; omega
    | ⟨1, _⟩ =>
      show (min (max (start 1) 0) ((16 - 16 : ℕ) : ℤ)).toNat = 0
      rw [h1]; omega
    | ⟨2, _⟩ =>
      show (min (max (start 2) 0) ((1 - 1 : ℕ) : ℤ)).toNat = 0
      rw [h2]; omega
    | ⟨3, _⟩ =>
      show (min (max (start 3) 0) ((n - n : ℕ) : ℤ)).toNat = 0
      rw [h3]; omega
  have hf' : Shape.Slices ⟨4, ![512, 16, 1, n]⟩ ![t, 0, 0, 0] ⟨4, ![1, 16, 1, n]⟩ := ⟨hf.1, fun a => by
    match a with
    | ⟨0, _⟩ => show t + 1 ≤ 512; omega
    | ⟨1, _⟩ => show 0 + 16 ≤ 16; omega
    | ⟨2, _⟩ => show 0 + 1 ≤ 1; omega
    | ⟨3, _⟩ => show 0 + n ≤ n; omega⟩
  rw [Host.dynamicUpdateSlice_eq_updateSlice x _ start hf _ hs hf']
  pointwise
  by_cases h : k.val = t
  · rw [dif_pos ⟨by omega, by omega⟩, if_pos h]
    refine congrArg u (funext fun a => ?_)
    match a with
    | ⟨0, _⟩ => exact Fin.ext (show k.val - t = 0 by omega)
    | ⟨1, _⟩ => rfl
    | ⟨2, _⟩ => rfl
    | ⟨3, _⟩ => rfl
  · rw [dif_neg (by omega), if_neg h]

include C ht hc in
/-- One trip. -/
theorem Carry.step : Carry (afterL bodyI V) P (t + 1) := by
  constructor
  · rw [trip_main_v12_0]; exact C.h0
  · rw [trip_main_v12_1]; exact C.h1
  · rw [trip_main_v12_2]; exact C.h2
  · rw [trip_main_v12_3]; exact C.h3
  · rw [trip_main_v12_4]; exact C.h4
  · rw [trip_main_v12_5]; exact C.h5
  · rw [trip_main_v12_6]; exact C.h6
  · rw [trip_main_v12_7]; exact C.h7
  · rw [trip_main_v12_8]; exact C.h8
  · rw [trip_main_v12_9]
    funext y
    have e := congrFun C.h9 y
    show IntOp.addi (V (Proc.devRef .tc main_v12_9) y) 1#32 = _
    rw [e, BitVec.ofNat_add]; rfl
  · rw [trip_main_v12_10]
    intro b hl o
    exact v62_eq C ht hc b o (by omega)
  · rw [trip_main_v12_11]
    intro b k hk o
    have e9 := C.h9
    refine (stack_at 29 _ _ _ _ ht ?_ ?_ ?_ ?_ k b o).trans ?_
    · simp only [e9]; exact word_nat ⟨t, ht⟩
    · rfl
    · rfl
    · rfl
    · by_cases h : k.val = t
      · rw [if_pos h]
        refine Eq.trans ?_ ((row11 C ht hc b o).trans ?_)
        · pointwise
        · simp only [h]
      · rw [if_neg h]
        exact C.h11 b k (by omega) o
  · rw [trip_main_v12_12]
    intro b k hk p
    have e9 := C.h9
    refine (stack_at 512 _ _ _ _ ht ?_ ?_ ?_ ?_ k b p).trans ?_
    · simp only [e9]; exact word_nat ⟨t, ht⟩
    · rfl
    · rfl
    · rfl
    · by_cases h : k.val = t
      · rw [if_pos h]
        refine Eq.trans ?_ ((row12 C ht hc b p).trans ?_)
        · pointwise
        · simp only [h]
      · rw [if_neg h]
        exact C.h12 b k (by omega) p

include C in
theorem Carry.cond : Carry (after condOps V) P t := by
  have k : ∀ b : Ref sig .tc, b ∉ condOps_W → after condOps V (Proc.devRef .tc b) = V (Proc.devRef .tc b) := fun b h => after_of_writes_sub _ _ condOps_writes h
  constructor
  · rw [k _ (by decide)]; exact C.h0
  · rw [k _ (by decide)]; exact C.h1
  · rw [k _ (by decide)]; exact C.h2
  · rw [k _ (by decide)]; exact C.h3
  · rw [k _ (by decide)]; exact C.h4
  · rw [k _ (by decide)]; exact C.h5
  · rw [k _ (by decide)]; exact C.h6
  · rw [k _ (by decide)]; exact C.h7
  · rw [k _ (by decide)]; exact C.h8
  · rw [k _ (by decide)]; exact C.h9
  · rw [k _ (by decide)]; exact C.h10
  · rw [k _ (by decide)]; exact C.h11
  · rw [k _ (by decide)]; exact C.h12

end Cert.Math
-- ==== Proof.RefEnd.lean ====
/- The reference's two results at an index, over the extended reals. -/
module

public import proofs.«01_k».proof.Proof.Data
public import proofs.«01_k».proof.Proof.RefMath
public import proofs.«01_k».proof.Proof.RefRun
public import Idealize.ShloMosaic.Lib.Routing.OpsSet
public import Idealize.ShloMosaic.Lib.Routing.OpsPair

@[expose] public section

set_option maxRecDepth 16384

noncomputable section

namespace Cert.Math

open Idealize.ShloMosaic Idealize.ShloMosaic.TcCoe Idealize.ShloMosaic.StableHlo Cert.ReferenceIdeal Cert.ReferenceIdeal.Gen Cert.ReferenceIdeal.Value

theorem q_lands (k : S16x1.Idx) (b : Fin 16) (o : Fin 29) :
    scatter_S16x1x29_S1_S16x1_01_2_2_0.resultIdx? k (broadcastInDim S1 ![] bcast_S_S1 (constantI S_ 32 28#32)) = some (ix3 b 0 o) ↔ (k 0).val = b.val ∧ o.val = 28 := by
  rw [Routing.resultIdx?_eq_some]
  have w0 : scatter_S16x1x29_S1_S16x1_01_2_2_0.window k 0 = (k 0).val := rfl
  have w1 : scatter_S16x1x29_S1_S16x1_01_2_2_0.window k 1 = (k 1).val := rfl
  have w2 : scatter_S16x1x29_S1_S16x1_01_2_2_0.window k 2 = 0 := rfl
  have s0 : scatter_S16x1x29_S1_S16x1_01_2_2_0.start k (broadcastInDim S1 ![] bcast_S_S1 (constantI S_ 32 28#32)) 0 = 0 := rfl
  have s1 : scatter_S16x1x29_S1_S16x1_01_2_2_0.start k (broadcastInDim S1 ![] bcast_S_S1 (constantI S_ 32 28#32)) 1 = 0 := rfl
  have s2 : scatter_S16x1x29_S1_S16x1_01_2_2_0.start k (broadcastInDim S1 ![] bcast_S_S1 (constantI S_ 32 28#32)) 2 = 28 := rfl
  have k1 : (k 1).val < 1 := (k 1).isLt
  constructor
  · intro h
    have h0 := h 0
    have h2 := h 2
    rw [s0, w0] at h0
    rw [s2, w2] at h2
    have h0 : (0 : ℤ) + ((k 0).val : ℤ) = (b.val : ℤ) := h0
    have h2 : (28 : ℤ) + ((0 : ℕ) : ℤ) = (o.val : ℤ) := h2
    omega
  · rintro ⟨h0, h2⟩ a
    match a with
    | ⟨0, _⟩ =>
      refine (congrArg₂ (fun (x : ℤ) (y : ℕ) => x + (y : ℤ)) s0 w0).trans ?_
      show (0 : ℤ) + ((k 0).val : ℤ) = (b.val : ℤ)
      omega
    | ⟨1, _⟩ =>
      refine (congrArg₂ (fun (x : ℤ) (y : ℕ) => x + (y : ℤ)) s1 w1).trans ?_
      show (0 : ℤ) + ((k 1).val : ℤ) = ((0 : ℕ) : ℤ)
      omega
    | ⟨2, _⟩ =>
      refine (congrArg₂ (fun (x : ℤ) (y : ℕ) => x + (y : ℤ)) s2 w2).trans ?_
      show (28 : ℤ) + ((0 : ℕ) : ℤ) = (o.val : ℤ)
      omega

theorem word_nine : Ideal.ofBits .f32 0x41100000#32 = ((9 : ℝ) : EReal) := by
  simp [Ideal.ofBits, Ideal.ieee, ← EReal.coe_mul]; norm_num
theorem word_one : Ideal.ofBits .f32 0x3F800000#32 = ((1 : ℝ) : EReal) := by
  simp [Ideal.ofBits, Ideal.ieee, ← EReal.coe_mul]; norm_cast; norm_num

theorem q_entry (b : Fin 16) (o : Fin 29) :
    (Host.scatter scatter_S16x1x29_S1_S16x1_01_2_2_0 (fun _ b => b) (broadcastInDim S16x1x29 ![] bcast_S_S16x1x29 (constant (F := Ideal) S_ .f32 0x3F800000#32))
      (broadcastInDim S1 ![] bcast_S_S1 (constantI S_ 32 28#32)) (broadcastInDim S16x1 ![] bcast_S_S16x1 (constant (F := Ideal) S_ .f32 0x41100000#32)) (ix3 b 0 o) : EReal)
      = ((Par.q0 o : ℝ) : EReal) := by
  unfold Par.q0
  by_cases h : o.val = 28
  · rw [if_pos h]
    exact (Routing.scatter_set_hit _ _ _ _ _ (Ideal.ofBits .f32 0x41100000#32 : EReal) (fun _ _ => rfl) (ix2 b 0) ((q_lands _ b o).2 ⟨rfl, h⟩)).trans word_nine
  · rw [if_neg h]
    exact (Routing.scatter_set_miss _ _ _ _ _ fun k e => h ((q_lands k b o).1 e).2).trans word_one

variable (m : (ℓ : Loc nD τ sig) → Buf (Elt Ideal) ℓ) (c : Dev nD)

theorem entry_all : entryContents preI m c (Proc.devRef .tc main_v12_0) = iotaInDim S512 32 0
   ∧ entryContents preI m c (Proc.devRef .tc main_v12_1) = m ((c.tc : Thread nD τ).loc main_arg5)
   ∧ entryContents preI m c (Proc.devRef .tc main_v12_2) = m ((c.tc : Thread nD τ).loc main_arg6)
   ∧ entryContents preI m c (Proc.devRef .tc main_v12_4) = iotaInDim S512 32 0
   ∧ entryContents preI m c (Proc.devRef .tc main_v12_5) = m ((c.tc : Thread nD τ).loc main_arg2)
   ∧ entryContents preI m c (Proc.devRef .tc main_v12_6) = m ((c.tc : Thread nD τ).loc main_arg1)
   ∧ entryContents preI m c (Proc.devRef .tc main_v12_7) = m ((c.tc : Thread nD τ).loc main_arg7)
   ∧ entryContents preI m c (Proc.devRef .tc main_v12_8) = m ((c.tc : Thread nD τ).loc main_arg8)
   ∧ entryContents preI m c (Proc.devRef .tc main_v8) = iotaInDim S512 32 0 := by
  refine ⟨?_, ?_, ?_, ?_, ?_, ?_, ?_, ?_, ?_⟩ <;>
  · simp only [entryContents, afterL_cons, afterL_nil]
    after_results_simp
    try rfl

/-- The inputs' projection. -/
def proj (a : FVec Ideal S16x512x2048 .f32) (w : FVec Ideal S2048x768 .f32) (v : FVec Ideal S768 .f32) : FVec Ideal S16x512x768 .f32 :=
  addf (Host.dotGeneral dot_S16x512x2048_S2048x768_S16x512x768_2_0_01_1_n_n none a w)
    (broadcastInDim S16x512x768 ![0, 1, 2] bcast_S1x1x768_S16x512x768_0_1_2 (broadcastInDim S1x1x768 ![2] bcast_S768_S1x1x768_2 v))

theorem proj_at (a : FVec Ideal S16x512x2048 .f32) (w : FVec Ideal S2048x768 .f32) (v : FVec Ideal S768 .f32) (b : Fin 16) (p : Fin 512) (e : Fin 768) :
    (proj a w v (ix3 b p e) : EReal) = (∑ d : Fin 2048, (a (ix3 b p d) : EReal) * w (ix2 d e)) + v (ix1 e) := by
  pointwise [proj]

theorem entry_xp : entryContents preI m c (Proc.devRef .tc main_v12_3)
    = proj (m ((c.tc : Thread nD τ).loc main_arg0)) (m ((c.tc : Thread nD τ).loc main_arg3)) (m ((c.tc : Thread nD τ).loc main_arg4)) := by
  unfold proj
  simp only [entryContents, afterL_cons, afterL_nil]
  after_results_simp
  rfl

theorem entry_q : entryContents preI m c (Proc.devRef .tc main_v12_10) = (Host.scatter scatter_S16x1x29_S1_S16x1_01_2_2_0 (fun _ b => b) (broadcastInDim S16x1x29 ![] bcast_S_S16x1x29 (constant (F := Ideal) S_ .f32 0x3F800000#32))
      (broadcastInDim S1 ![] bcast_S_S1 (constantI S_ 32 28#32)) (broadcastInDim S16x1 ![] bcast_S_S16x1 (constant (F := Ideal) S_ .f32 0x41100000#32)) : FVec Ideal S16x1x29 .f32) := by
  simp only [entryContents, afterL_cons, afterL_nil]
  after_results_simp
  rfl

/-- The arguments hold these reals and words. -/
structure Args (x : Fin 16 → Fin 512 → Fin 2048 → ℝ) (w : Fin 2048 → Fin 768 → ℝ) (bi : Fin 768 → ℝ) (wq : Fin 29 → Fin 768 → ℝ) (bq : Fin 768 → ℝ)
    (wo : Fin 768 → Fin 29 → ℝ) (bo : Fin 29 → ℝ) (len : Fin 16 → BitVec 32) : Prop where
  a0 : ∀ b p d, (m ((c.tc : Thread nD τ).loc main_arg0) : S16x512x2048.Idx → EReal) (ix3 b p d) = (x b p d : EReal)
  a1 : ∀ b, (m ((c.tc : Thread nD τ).loc main_arg1) : S16.Idx → BitVec 32) (ix1 b) = len b
  a2 : (m ((c.tc : Thread nD τ).loc main_arg2) : S_.Idx → BitVec 32) ix0 = 5#32
  a3 : ∀ d e, (m ((c.tc : Thread nD τ).loc main_arg3) : S2048x768.Idx → EReal) (ix2 d e) = (w d e : EReal)
  a4 : ∀ e, (m ((c.tc : Thread nD τ).loc main_arg4) : S768.Idx → EReal) (ix1 e) = (bi e : EReal)
  a5 : ∀ o e, (m ((c.tc : Thread nD τ).loc main_arg5) : S29x768.Idx → EReal) (ix2 o e) = (wq o e : EReal)
  a6 : ∀ e, (m ((c.tc : Thread nD τ).loc main_arg6) : S768.Idx → EReal) (ix1 e) = (bq e : EReal)
  a7 : ∀ e o, (m ((c.tc : Thread nD τ).loc main_arg7) : S768x29.Idx → EReal) (ix2 e o) = (wo e o : EReal)
  a8 : ∀ o, (m ((c.tc : Thread nD τ).loc main_arg8) : S29.Idx → EReal) (ix1 o) = (bo o : EReal)

section
variable {m c} {x : Fin 16 → Fin 512 → Fin 2048 → ℝ} {w : Fin 2048 → Fin 768 → ℝ} {bi : Fin 768 → ℝ} {wq : Fin 29 → Fin 768 → ℝ} {bq : Fin 768 → ℝ}
    {wo : Fin 768 → Fin 29 → ℝ} {bo : Fin 29 → ℝ} {len : Fin 16 → BitVec 32} (A : Args m c x w bi wq bq wo bo len) (s : ℝ)
  (hs : (Ideal.ofBits .f32 0x3D13CD3A#32 : EReal) = (s : EReal))

include A in
theorem carry_entry : Carry (entryContents preI m c) (mkPar x w bi wq bq wo bo s len) 0 := by
  obtain ⟨e0, e1, e2, e4, e5, e6, e7, e8, -⟩ := entry_all m c
  refine ⟨fun k => ?_, fun b o e => ?_, fun b e => ?_, fun b p e => ?_, fun k => ?_, ?_, fun b => ?_, fun b e o => ?_, fun b o => ?_, ?_, fun b _ o => ?_,
    fun b k h => absurd h (Nat.not_lt_zero _), fun b k h => absurd h (Nat.not_lt_zero _)⟩
  · rw [e0]; rfl
  · rw [e1]; exact A.a5 o e
  · rw [e2]; exact A.a6 e
  · rw [entry_xp]
    refine (proj_at _ _ _ b p e).trans ?_
    simp only [A.a0, A.a3, A.a4]
    unfold mkPar
    simp only [EReal.coe_add, coe_sum, EReal.coe_mul]
  · rw [e4]; rfl
  · rw [e5]; exact A.a2
  · rw [e6]; exact A.a1 b
  · rw [e7]; exact A.a7 e o
  · rw [e8]; exact A.a8 o
  · exact ctr_entry m c
  · rw [entry_q]; exact q_entry b o

include A hs in
theorem carry_at : ∀ k, k ≤ 512 → Carry (atK m k c) (mkPar x w bi wq bq wo bo s len) k
  | 0, _ => carry_entry A s
  | k + 1, h => Carry.step (carry_at k (Nat.le_of_succ_le h)).cond (Nat.lt_of_succ_le h) (fun _ => hs)

include A hs in
theorem carry_exit : Carry (Cert.RefRun.exit m c) (mkPar x w bi wq bq wo bo s len) 512 := (carry_at A s hs 512 le_rfl).cond

include A hs in
theorem ref_w (b : Fin 16) (t p : Fin 512) :
    (finalContents condOps preI bodyI postI 512 m c (Proc.devRef .tc main_v16) : S16x512x512.Idx → EReal) (ix3 b t p)
      = if (t.val : ℤ) < (len b).toInt then (((mkPar x w bi wq bq wo bo s len b).wgt ((mkPar x w bi wq bq wo bo s len b).qs t.val) t.val p : ℝ) : EReal) else 0 := by
  refine Eq.trans ?_ ((carry_exit A s hs).h12 b t t.isLt p)
  rw [Cert.RefRun.final_w]
  generalize (Cert.RefRun.exit m c) = V
  pointwise

theorem soft_at (y : FVec Ideal S16x512x29 .f32) (b : Fin 16) (t : Fin 512) (r : Fin 29 → ℝ) (h : ∀ k, (y (ix3 b t k) : EReal) = (r k : EReal)) (o : Fin 29) :
    (Cert.RefRun.logSoft y (ix3 b t o) : EReal) = ((lsm r o : ℝ) : EReal) := by
  obtain ⟨M, hM⟩ := sup_real (fun k : Fin 29 => (r k : EReal)) 0 (r 0) rfl fun k => EReal.coe_ne_top _
  refine Eq.trans ?_ (lsm_shift r M o)
  rw [← hM]
  pointwise [Cert.RefRun.logSoft, Cert.RefRun.shifted]
  simp only [h, neg_inf, max_eq_right bot_le, zero_word, zero_add]

theorem alive_at (p : IVec S512 32) (l : IVec S16 32) (b : Fin 16) (t : Fin 512) (o : Fin 29) :
    Cert.RefRun.alive p l (ix3 b t o) = IntOp.cmpi .slt (p (ix1 t)) (l (ix1 b)) := by
  pointwise [Cert.RefRun.alive]

include A hs in
theorem ref_o (b : Fin 16) (t : Fin 512) (o : Fin 29) :
    (finalContents condOps preI bodyI postI 512 m c (Proc.devRef .tc main_v24) : S16x512x29.Idx → EReal) (ix3 b t o)
      = if (t.val : ℤ) < (len b).toInt then ((lsm ((mkPar x w bi wq bq wo bo s len b).qs (t.val + 1)) o : ℝ) : EReal) else 0 := by
  have C := carry_exit A s hs
  have k8 := (Cert.RefRun.exit_keep m c main_v8 (by decide)).trans (entry_all m c).2.2.2.2.2.2.2.2
  have k1 := (Cert.RefRun.exit_keep m c main_arg1 (by decide)).trans (Cert.RefRun.entry_keep m c main_arg1 (by decide))
  rw [Cert.RefRun.final_o, k8, k1]
  show (Scalar.select (Cert.RefRun.alive _ _ (ix3 b t o)) (Cert.RefRun.logSoft (F := Ideal) _ (ix3 b t o)) _ : EReal) = _
  rw [alive_at, A.a1 b]
  show (Scalar.select (BitVec.ofBool (BitVec.slt (BitVec.ofNat 32 t.val) (len b))) (Cert.RefRun.logSoft (F := Ideal) _ (ix3 b t o)) _ : EReal) = _
  rw [BitVec.slt_eq_decide]
  rw [sel_ofBool, word_nat]
  by_cases h : (t.val : ℤ) < (len b).toInt
  · simp only [h, decide_true, if_true]
    refine soft_at _ b t _ (fun k => ?_) o
    refine Eq.trans ?_ ((C.h11 b t t.isLt k).trans (if_pos h))
    generalize (Cert.RefRun.exit m c) = V
    pointwise
  · simp only [h, decide_false, if_false]
    exact zero_word

end

end Cert.Math
-- ==== Proof.Alg.lean ====
/- The two programs' results are equal over the extended reals. -/
module

public import proofs.«01_k».proof.Proof.KernEnd
public import proofs.«01_k».proof.Proof.RefEnd
public import proofs.«01_k».proof.Proof.PreMath
public import proofs.«01_k».proof.Proof.Frames

@[expose] public section

set_option maxRecDepth 16384

noncomputable section

namespace Cert.Alg

open Idealize.ShloMosaic Idealize.ShloMosaic.TcCoe Idealize.SL.Sem

attribute [local instance] Cert.KernelIdeal.Gen.facts Cert.ReferenceIdeal.Gen.facts Cert.PreMath.facts

theorem at_eq {I α : Type} (f g : I → α) (h : f = g) (i : I) (v : α) (e : g i = v) : f i = v := (congrFun h i).trans e

theorem ext_o (f g : Cert.KernelIdeal.S16x512x29.Idx → EReal) (h : ∀ (b : Fin 16) (t : Fin 512) (o : Fin 29), f (ix3 b t o) = g (ix3 b t o)) : f = g := by
  funext y
  idx_vars y
  exact h _ _ _
theorem ext_w (f g : Cert.KernelIdeal.S16x512x512.Idx → EReal) (h : ∀ (b : Fin 16) (t p : Fin 512), f (ix3 b t p) = g (ix3 b t p)) : f = g := by
  funext y
  idx_vars y
  exact h _ _ _

section
open Idealize.ShloMosaic.StableHlo Cert.ReferenceIdeal Cert.ReferenceIdeal.Gen Cert.ReferenceIdeal.Value
/-- The reference's results. -/
def refO (m : (ℓ : Loc nD τ sig) → Buf (Elt Ideal) ℓ) (c : Dev nD) : S16x512x29.Idx → EReal := finalContents condOps preI bodyI postI 512 m c (Proc.devRef .tc main_v24)
def refW (m : (ℓ : Loc nD τ sig) → Buf (Elt Ideal) ℓ) (c : Dev nD) : S16x512x512.Idx → EReal := finalContents condOps preI bodyI postI 512 m c (Proc.devRef .tc main_v16)
end

section
open Cert.KernelIdeal Cert.KernelIdeal.Gen
/-- The kernel's results. -/
def kerO (m : (ℓ : Loc nD τ sig) → Buf (Elt Ideal) ℓ) (c : Dev nD) : S16x512x29.Idx → EReal := Cert.Proof.W6 m c (Proc.devRef .tc main_v12_0)
def kerW (m : (ℓ : Loc nD τ sig) → Buf (Elt Ideal) ℓ) (c : Dev nD) : S16x512x512.Idx → EReal := Cert.Proof.W6 m c (Proc.devRef .tc main_v12_1)

/-- The precondition's real arrays. -/
theorem reals (m : (ℓ : Loc nD τ sig) → Buf (Elt Ideal) ℓ) (hp : Cert.Pre_KernelIdeal_inputs_ok m) (c : Dev nD) :
    (∃ x w bi wq bq wo bo len, Cert.Proof.KArgs m c x w bi wq bq wo bo len) ∧ (m ((c.tc : Thread nD τ).loc main_arg2) : S_.Idx → BitVec 32) ix0 = 5#32 := by
  obtain ⟨h0, h2, h3, h4, h5, h6, h7, h8⟩ := Cert.PreMath.read (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (hp c)
  choose f0 e0 using h0
  choose f3 e3 using h3
  choose f4 e4 using h4
  choose f5 e5 using h5
  choose f6 e6 using h6
  choose f7 e7 using h7
  choose f8 e8 using h8
  exact ⟨⟨fun b p k => f0 (ix3 b p k), fun k e => f3 (ix2 k e), fun e => f4 (ix1 e), fun o e => f5 (ix2 o e), fun e => f6 (ix1 e), fun e o => f7 (ix2 e o), fun o => f8 (ix1 o),
    fun b => (m ((c.tc : Thread nD τ).loc main_arg1) : S16.Idx → BitVec 32) (ix1 b),
    ⟨fun b p k => e0 (ix3 b p k), fun b => rfl, fun k e => e3 (ix2 k e), fun e => e4 (ix1 e), fun o e => e5 (ix2 o e), fun e => e6 (ix1 e), fun e o => e7 (ix2 e o), fun o => e8 (ix1 o)⟩⟩, h2 ix0⟩
end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hp : Cert.Pre_KernelIdeal_inputs_ok m) (c : Dev Cert.KernelIdeal.nD)
  (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include hp ha in
/-- Both results of the two programs, on one device. -/
theorem results : refO m' c = kerO m c ∧ refW m' c = kerW m c := by
  obtain ⟨⟨x, w, bi, wq, bq, wo, bo, len, K⟩, h2⟩ := reals m hp c
  obtain ⟨g0, g1, g2, g3, g4, g5, g6, g7, g8⟩ := ha
  have R : Cert.Math.Args m' c x w bi wq bq wo bo len :=
    ⟨fun b p k => at_eq (I := Cert.KernelIdeal.S16x512x2048.Idx) (α := EReal) _ _ g0 _ _ (K.a0 b p k), fun b => at_eq (I := Cert.KernelIdeal.S16.Idx) (α := BitVec 32) _ _ g1 _ _ (K.a1 b),
     at_eq (I := Cert.KernelIdeal.S_.Idx) (α := BitVec 32) _ _ g2 _ _ h2, fun k e => at_eq (I := Cert.KernelIdeal.S2048x768.Idx) (α := EReal) _ _ g3 _ _ (K.a3 k e),
     fun e => at_eq (I := Cert.KernelIdeal.S768.Idx) (α := EReal) _ _ g4 _ _ (K.a4 e), fun o e => at_eq (I := Cert.KernelIdeal.S29x768.Idx) (α := EReal) _ _ g5 _ _ (K.a5 o e),
     fun e => at_eq (I := Cert.KernelIdeal.S768.Idx) (α := EReal) _ _ g6 _ _ (K.a6 e),
     fun e o => at_eq (I := Cert.KernelIdeal.S768x29.Idx) (α := EReal) _ _ g7 _ _ (K.a7 e o), fun o => at_eq (I := Cert.KernelIdeal.S29.Idx) (α := EReal) _ _ g8 _ _ (K.a8 o)⟩
  exact ⟨ext_o _ _ fun b t o => (Cert.Math.ref_o R _ Cert.Math.cS_coe b t o).trans (Cert.Proof.kern_o K b t o).symm,
    ext_w _ _ fun b t p => (Cert.Math.ref_w R _ Cert.Math.cS_coe b t p).trans (Cert.Proof.kern_w K b t p).symm⟩

end

theorem algebraic : Cert.algebraic_KernelIdeal_ReferenceIdeal_pre_inputs_ok := by
  intro m g m' g' hp ha
  refine ⟨fun c => kerO m c, fun c => kerW m c, ?_, ?_⟩
  · refine (θ_run (Cert.KernelIdeal.defs (F := Ideal)) _ _).mono (fun r h c => ?_) (Cert.Proof.run_main (F := Ideal) m g)
    exact ⟨h.1 c Cert.KernelIdeal.main_v12_0 (Cert.Proof.uc _ rfl), h.1 c Cert.KernelIdeal.main_v12_1 (Cert.Proof.uc _ rfl), Cert.Proof.frames h c⟩
  · refine (θ_run (Cert.ReferenceIdeal.defs (F := Ideal)) _ _).mono (fun r h c => ?_) (Cert.RefRun.run_ref (F := Ideal) m' g')
    have e := results m m' hp c (ha c)
    exact ⟨(h.2.2 c).1.trans e.1, (h.2.2 c).2.trans e.2, h.1 c⟩

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.RefRun
public import proofs.«01_k».proof.Proof.PreMath
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.PreMath.facts,
  frame_kernel, frame_ideal, fun m ρ _ => frame_ideal m ρ trivial, Cert.RefRun.frame_reference, fun m ρ _ => Cert.RefRun.frame_reference m ρ trivial, trivial,
  Cert.Alg.algebraic⟩

end Cert.Proof

end
